-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_inds_in_rows : Cert.Pre_inds_in_rows.Facts] (m : (ℓ : Loc Cert.Gather.nD Cert.Gather.τ Cert.Gather.sig) → Buf (Elt Bits) ℓ) : Prop :=
  ∀ c : Dev Cert.Gather.nD,
    (Cert.Pre_inds_in_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3))) = (fun _ => 1#1)

def Pre_GatherIdeal [hPre_inds_in_rows : Cert.Pre_inds_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_inds_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3))) = (fun _ => 1#1)

def Pre_GatherReferenceIdeal [hPre_inds_in_rows : Cert.Pre_inds_in_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_inds_in_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2)) (m ((c.tc : Thread Cert.GatherReferenceIdeal.nD Cert.GatherReferenceIdeal.τ).loc Cert.GatherReferenceIdeal.main_arg3))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectReferenceIdeal (m : (ℓ : Loc Cert.SelectReferenceIdeal.nD Cert.SelectReferenceIdeal.τ Cert.SelectReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] [hPre_inds_in_rows : Cert.Pre_inds_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] [hPre_inds_in_rows : Cert.Pre_inds_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherReferenceIdeal [hGatherReferenceIdeal : Cert.GatherReferenceIdeal.Facts] [hPre_inds_in_rows : Cert.Pre_inds_in_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gather_GatherIdeal : Prop :=
  True

def algebraic_GatherIdeal_GatherReferenceIdeal [hGatherIdeal : Cert.GatherIdeal.Facts] [hGatherReferenceIdeal : Cert.GatherReferenceIdeal.Facts] [hPre_inds_in_rows : Cert.Pre_inds_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)
      ∧ m' ((c.tc : Thread Cert.GatherReferenceIdeal.nD Cert.GatherReferenceIdeal.τ).loc Cert.GatherReferenceIdeal.main_arg3) = m ((c.tc : Thread Cert.GatherIdeal.nD Cert.GatherIdeal.τ).loc Cert.GatherIdeal.main_arg3)) →
    ∃ (v0 : (c : Dev Cert.GatherIdeal.nD) → Buf (Elt Ideal) ((c.tc : Thread Cert.GatherIdeal.nD Cert.GatherIdeal.τ).loc Cert.GatherIdeal.main_v8)) (v1 : (c : Dev Cert.GatherIdeal.nD) → Buf (Elt Ideal) ((c.tc : Thread Cert.GatherIdeal.nD Cert.GatherIdeal.τ).loc Cert.GatherIdeal.main_v10)) (v2 : (c : Dev Cert.GatherIdeal.nD) → Buf (Elt Ideal) ((c.tc : Thread Cert.GatherIdeal.nD Cert.GatherIdeal.τ).loc Cert.GatherIdeal.main_v14)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v8) = v0 c
          ∧ r.2.mem ((c.tc : Thread Cert.GatherIdeal.nD Cert.GatherIdeal.τ).loc Cert.GatherIdeal.main_v10) = v1 c
          ∧ r.2.mem ((c.tc : Thread Cert.GatherIdeal.nD Cert.GatherIdeal.τ).loc Cert.GatherIdeal.main_v14) = v2 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v8) = v0 c
          ∧ r.2.mem ((c.tc : Thread Cert.GatherReferenceIdeal.nD Cert.GatherReferenceIdeal.τ).loc Cert.GatherReferenceIdeal.main_v16) = v1 c
          ∧ r.2.mem ((c.tc : Thread Cert.GatherReferenceIdeal.nD Cert.GatherReferenceIdeal.τ).loc Cert.GatherReferenceIdeal.main_v24) = v2 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2)
          ∧ r.2.mem ((c.tc : Thread Cert.GatherReferenceIdeal.nD Cert.GatherReferenceIdeal.τ).loc Cert.GatherReferenceIdeal.main_arg3) = m' ((c.tc : Thread Cert.GatherReferenceIdeal.nD Cert.GatherReferenceIdeal.τ).loc Cert.GatherReferenceIdeal.main_arg3))

def preserves_Select_SelectIdeal : Prop :=
  True

def algebraic_SelectIdeal_SelectReferenceIdeal [hSelectIdeal : Cert.SelectIdeal.Facts] [hSelectReferenceIdeal : Cert.SelectReferenceIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v6)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v6) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v25) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hSelect : Cert.Select.Facts) (hSelectIdeal : Cert.SelectIdeal.Facts) (hSelectReferenceIdeal : Cert.SelectReferenceIdeal.Facts) (hPre_inds_in_rows : Cert.Pre_inds_in_rows.Facts),
    quiescent_KernelIdeal (hKernelIdeal := hKernelIdeal)
    ∧ quiescent_ReferenceIdeal (hReferenceIdeal := hReferenceIdeal)
    ∧ quiescent_Gather (hGather := hGather) (hPre_inds_in_rows := hPre_inds_in_rows)
    ∧ quiescent_GatherIdeal (hGatherIdeal := hGatherIdeal) (hPre_inds_in_rows := hPre_inds_in_rows)
    ∧ quiescent_GatherReferenceIdeal (hGatherReferenceIdeal := hGatherReferenceIdeal) (hPre_inds_in_rows := hPre_inds_in_rows)
    ∧ quiescent_Select (hSelect := hSelect)
    ∧ quiescent_SelectIdeal (hSelectIdeal := hSelectIdeal)
    ∧ quiescent_SelectReferenceIdeal (hSelectReferenceIdeal := hSelectReferenceIdeal)
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal) (hPre_inds_in_rows := hPre_inds_in_rows)
    ∧ preserves_Select_SelectIdeal
    ∧ algebraic_SelectIdeal_SelectReferenceIdeal (hSelectIdeal := hSelectIdeal) (hSelectReferenceIdeal := hSelectReferenceIdeal)
-- ==== Pre_inds_in_rows.lean ====
abbrev S4x4096x256 : Shape := ⟨3, ![4, 4096, 256]⟩
abbrev S4x4096x3 : Shape := ⟨3, ![4, 4096, 3]⟩
abbrev S4x4096 : Shape := ⟨2, ![4, 4096]⟩
abbrev S4x1024x1 : Shape := ⟨3, ![4, 1024, 1]⟩
abbrev S_ : Shape := ⟨0, ![]⟩

class Facts : Prop where
  bcast_S_S4x1024x1 : S_.BroadcastsInDim S4x1024x1 (![] : Fin 0 → Fin S4x1024x1.rank)

variable [Facts]

def fn {F : FTy → Type} [FloatOps F] (main_arg0 : FVec F S4x4096x256 .f32) (main_arg1 : FVec F S4x4096x3 .f32) (main_arg2 : IVec S4x4096 32) (main_arg3 : IVec S4x1024x1 32) : IVec S4x1024x1 1 :=
  let main_c : IVec S_ 32 := constantI S_ 32 0#32
  let main_v0 : IVec S4x1024x1 32 := broadcastInDim S4x1024x1 ![] bcast_S_S4x1024x1 main_c
  let main_v1 : IVec S4x1024x1 1 := cmpi .sge main_arg3 main_v0
  let main_c_0 : IVec S_ 32 := constantI S_ 32 16384#32
  let main_v2 : IVec S4x1024x1 32 := broadcastInDim S4x1024x1 ![] bcast_S_S4x1024x1 main_c_0
  let main_v3 : IVec S4x1024x1 1 := cmpi .slt main_arg3 main_v2
  let main_v4 : IVec S4x1024x1 1 := andi main_v1 main_v3
  main_v4
-- ==== KernelIdeal.lean ====
abbrev S4x4096x256 : Shape := ⟨3, ![4, 4096, 256]⟩
abbrev S4x4096x3 : Shape := ⟨3, ![4, 4096, 3]⟩
abbrev S4x4096 : Shape := ⟨2, ![4, 4096]⟩
abbrev S_ : Shape := ⟨0, ![]⟩
abbrev S4x4096x1 : Shape := ⟨3, ![4, 4096, 1]⟩
abbrev S4x1x4096 : Shape := ⟨3, ![4, 1, 4096]⟩
abbrev S1x256x256 : Shape := ⟨3, ![1, 256, 256]⟩
abbrev S1x4096x256 : Shape := ⟨3, ![1, 4096, 256]⟩
abbrev S1x256x1 : Shape := ⟨3, ![1, 256, 1]⟩
abbrev S1x1x4096 : Shape := ⟨3, ![1, 1, 4096]⟩
abbrev S1x1x256 : Shape := ⟨3, ![1, 1, 256]⟩
abbrev S256x256 : Shape := ⟨2, ![256, 256]⟩
abbrev S4096x256 : Shape := ⟨2, ![4096, 256]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S1x512x1 : Shape := ⟨3, ![1, 512, 1]⟩
abbrev S1x1x512 : Shape := ⟨3, ![1, 1, 512]⟩
abbrev S512x1 : Shape := ⟨2, ![512, 1]⟩
abbrev S512x4096 : Shape := ⟨2, ![512, 4096]⟩
abbrev S512 : Shape := ⟨1, ![512]⟩
abbrev S4x1024x1 : Shape := ⟨3, ![4, 1024, 1]⟩
abbrev S16384x2x128 : Shape := ⟨3, ![16384, 2, 128]⟩
abbrev S4x4096x124 : Shape := ⟨3, ![4, 4096, 124]⟩
abbrev S4x4096x128 : Shape := ⟨3, ![4, 4096, 128]⟩
abbrev S16384x128 : Shape := ⟨2, ![16384, 128]⟩
abbrev S4096 : Shape := ⟨1, ![4096]⟩
abbrev S4096x2x128 : Shape := ⟨3, ![4096, 2, 128]⟩
abbrev S4096x128 : Shape := ⟨2, ![4096, 128]⟩
abbrev S128 : Shape := ⟨1, ![128]⟩
abbrev S128x2x128 : Shape := ⟨3, ![128, 2, 128]⟩
abbrev S128x128 : Shape := ⟨2, ![128, 128]⟩
abbrev S4x1024x256 : Shape := ⟨3, ![4, 1024, 256]⟩
abbrev S4096x3 : Shape := ⟨2, ![4096, 3]⟩
abbrev S4x1024x3 : Shape := ⟨3, ![4, 1024, 3]⟩
abbrev S4096x1 : Shape := ⟨2, ![4096, 1]⟩
abbrev S4x1024 : Shape := ⟨2, ![4, 1024]⟩

abbrev nBuf : Table → Nat
  | .hbm => 29
  | .local .tc .vmem => 22
  | .local .scVector .vmem => 3
  | _ => 0

abbrev bufTy : (tb : Table) → Fin (nBuf tb) → BufTy
  | .hbm, ⟨0, _⟩ => ⟨S4x4096x256, .f32⟩
  | .hbm, ⟨1, _⟩ => ⟨S4x4096x3, .f32⟩
  | .hbm, ⟨2, _⟩ => ⟨S4x4096, .i32⟩
  | .hbm, ⟨3, _⟩ => ⟨S4x4096x256, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x1x4096, .f32⟩
  | .hbm, ⟨8, _⟩ => ⟨S4x1x4096, .f32⟩
  | .hbm, ⟨9, _⟩ => ⟨S4x4096x1, .f32⟩
  | .hbm, ⟨10, _⟩ => ⟨S4x1x4096, .i32⟩
  | .hbm, ⟨11, _⟩ => ⟨S4x1024x1, .i32⟩
  | .hbm, ⟨12, _⟩ => ⟨S16384x2x128, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x124, .f32⟩
  | .hbm, ⟨17, _⟩ => ⟨S4x4096x128, .f32⟩
  | .hbm, ⟨18, _⟩ => ⟨S16384x128, .f32⟩
  | .hbm, ⟨19, _⟩ => ⟨S4096, .i32⟩
  | .hbm, ⟨20, _⟩ => ⟨S4096x2x128, .f32⟩
  | .hbm, ⟨21, _⟩ => ⟨S4096x128, .f32⟩
  | .hbm, ⟨22, _⟩ => ⟨S4x1024x256, .f32⟩
  | .hbm, ⟨23, _⟩ => ⟨S4096x3, .f32⟩
  | .hbm, ⟨24, _⟩ => ⟨S4x1024x3, .f32⟩
  | .hbm, ⟨25, _⟩ => ⟨S4096x1, .f32⟩
  | .hbm, ⟨26, _⟩ => ⟨S4096, .f32⟩
  | .hbm, ⟨27, _⟩ => ⟨S4096, .i32⟩
  | .hbm, ⟨28, _⟩ => ⟨S4x1024, .i32⟩
  | .local .tc .vmem, ⟨0, _⟩ => ⟨S1x256x256, .f32⟩
  | .local .tc .vmem, ⟨1, _⟩ => ⟨S1x256x256, .f32⟩
  | .local .tc .vmem, ⟨2, _⟩ => ⟨S1x4096x256, .f32⟩
  | .local .tc .vmem, ⟨3, _⟩ => ⟨S1x4096x256, .f32⟩
  | .local .tc .vmem, ⟨4, _⟩ => ⟨S1x256x1, .f32⟩
  | .local .tc .vmem, ⟨5, _⟩ => ⟨S1x256x1, .f32⟩
  | .local .tc .vmem, ⟨6, _⟩ => ⟨S1x1x4096, .f32⟩
  | .local .tc .vmem, ⟨7, _⟩ => ⟨S1x1x4096, .f32⟩
  | .local .tc .vmem, ⟨8, _⟩ => ⟨S1x1x256, .f32⟩
  | .local .tc .vmem, ⟨9, _⟩ => ⟨S1x1x256, .f32⟩
  | .local .tc .vmem, ⟨10, _⟩ => ⟨S1x256x1, .f32⟩
  | .local .tc .vmem, ⟨11, _⟩ => ⟨S1x256x1, .f32⟩
  | .local .tc .vmem, ⟨12, _⟩ => ⟨S1x512x1, .f32⟩
  | .local .tc .vmem, ⟨13, _⟩ => ⟨S1x512x1, .f32⟩
  | .local .tc .vmem, ⟨14, _⟩ => ⟨S1x1x4096, .f32⟩
  | .local .tc .vmem, ⟨15, _⟩ => ⟨S1x1x4096, .f32⟩
  | .local .tc .vmem, ⟨16, _⟩ => ⟨S1x1x512, .i32⟩
  | .local .tc .vmem, ⟨17, _⟩ => ⟨S1x1x512, .i32⟩
  | .local .tc .vmem, ⟨18, _⟩ => ⟨S1x1x4096, .i32⟩
  | .local .tc .vmem, ⟨19, _⟩ => ⟨S1x1x4096, .i32⟩
  | .local .tc .vmem, ⟨20, _⟩ => ⟨S1x256x1, .i32⟩
  | .local .tc .vmem, ⟨21, _⟩ => ⟨S1x256x1, .i32⟩
  | .local .scVector .vmem, ⟨0, _⟩ => ⟨S128, .i32⟩
  | .local .scVector .vmem, ⟨1, _⟩ => ⟨S128x2x128, .f32⟩
  | .local .scVector .vmem, ⟨2, _⟩ => ⟨S128x128, .f32⟩
  | _, _ => ⟨S4x4096x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v7_scv : Ref sig .scVector := ⟨.hbm, 12, rfl⟩
abbrev main_v12_scv : Ref sig .scVector := ⟨.hbm, 18, rfl⟩
abbrev main_v13_scv : Ref sig .scVector := ⟨.hbm, 19, rfl⟩
abbrev main_v14_0_scv : Ref sig .scVector := ⟨.hbm, 20, rfl⟩
abbrev main_v14_1_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc3_scratch0 : Ref sig .scVector := ⟨.vmem, 0, rfl⟩
abbrev cc3_scratch1 : Ref sig .scVector := ⟨.vmem, 1, rfl⟩
abbrev cc3_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k3_off2 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9_r1 : BitVec 32 := 0#32
  let c0_i32_10_r1 : BitVec 32 := 0#32
  ![v2.toNat, 0, 0]
def k3_off3 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x256 : Shape := ⟨3, ![4, 4096, 256]⟩
abbrev S4x4096x3 : Shape := ⟨3, ![4, 4096, 3]⟩
abbrev S4x4096 : Shape := ⟨2, ![4, 4096]⟩
abbrev S_ : Shape := ⟨0, ![]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x8 : Shape := ⟨3, ![4, 4096, 8]⟩
abbrev S4x1024 : Shape := ⟨2, ![4, 1024]⟩
abbrev S4x1024x1 : Shape := ⟨3, ![4, 1024, 1]⟩
abbrev S1 : Shape := ⟨1, ![1]⟩
abbrev S1x1x1 : Shape := ⟨3, ![1, 1, 1]⟩
abbrev S4x1024x256 : Shape := ⟨3, ![4, 1024, 256]⟩
abbrev S4x1024x3 : Shape := ⟨3, ![4, 1024, 3]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x3, .f32⟩
  | .hbm, ⟨2, _⟩ => ⟨S4x4096, .i32⟩
  | .hbm, ⟨3, _⟩ => ⟨S4x4096x256, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x8, .f32⟩
  | .hbm, ⟨22, _⟩ => ⟨S4x4096x8, .i32⟩
  | .hbm, ⟨23, _⟩ => ⟨S4x4096x8, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x1024, .f32⟩
  | .hbm, ⟨30, _⟩ => ⟨S4x1024, .i32⟩
  | .hbm, ⟨31, _⟩ => ⟨S4x1024x1, .i32⟩
  | .hbm, ⟨32, _⟩ => ⟨S_, .i32⟩
  | .hbm, ⟨33, _⟩ => ⟨S4x1024x1, .i32⟩
  | .hbm, ⟨34, _⟩ => ⟨S4x1024x1, .i1⟩
  | .hbm, ⟨35, _⟩ => ⟨S_, .i32⟩
  | .hbm, ⟨36, _⟩ => ⟨S4x1024x1, .i32⟩
  | .hbm, ⟨37, _⟩ => ⟨S4x1024x1, .i32⟩
  | .hbm, ⟨38, _⟩ => ⟨S4x1024x1, .i32⟩
  | .hbm, ⟨39, _⟩ => ⟨S1, .i32⟩
  | .hbm, ⟨40, _⟩ => ⟨S_, .i32⟩
  | .hbm, ⟨41, _⟩ => ⟨S4x1024x1, .i32⟩
  | .hbm, ⟨42, _⟩ => ⟨S4x1024x1, .i1⟩
  | .hbm, ⟨43, _⟩ => ⟨S1x1x1, .i32⟩
  | .hbm, ⟨44, _⟩ => ⟨S4x1024x1, .i32⟩
  | .hbm, ⟨45, _⟩ => ⟨S4x1024x1, .i1⟩
  | .hbm, ⟨46, _⟩ => ⟨S4x1024x1, .i1⟩
  | .hbm, ⟨47, _⟩ => ⟨S_, .i1⟩
  | .hbm, ⟨48, _⟩ => ⟨S4x1024, .i1⟩
  | .hbm, ⟨49, _⟩ => ⟨S4x1024x256, .f32⟩
  | .hbm, ⟨50, _⟩ => ⟨S4x1024x256, .i1⟩
  | .hbm, ⟨51, _⟩ => ⟨S_, .f32⟩
  | .hbm, ⟨52, _⟩ => ⟨S4x1024x256, .f32⟩
  | .hbm, ⟨53, _⟩ => ⟨S4x1024x256, .f32⟩
  | .hbm, ⟨54, _⟩ => ⟨S4x1024x1, .i32⟩
  | .hbm, ⟨55, _⟩ => ⟨S_, .i32⟩
  | .hbm, ⟨56, _⟩ => ⟨S4x1024x1, .i32⟩
  | .hbm, ⟨57, _⟩ => ⟨S4x1024x1, .i1⟩
  | .hbm, ⟨58, _⟩ => ⟨S_, .i32⟩
  | .hbm, ⟨59, _⟩ => ⟨S4x1024x1, .i32⟩
  | .hbm, ⟨60, _⟩ => ⟨S4x1024x1, .i32⟩
  | .hbm, ⟨61, _⟩ => ⟨S4x1024x1, .i32⟩
  | .hbm, ⟨62, _⟩ => ⟨S1, .i32⟩
  | .hbm, ⟨63, _⟩ => ⟨S_, .i32⟩
  | .hbm, ⟨64, _⟩ => ⟨S4x1024x1, .i32⟩
  | .hbm, ⟨65, _⟩ => ⟨S4x1024x1, .i1⟩
  | .hbm, ⟨66, _⟩ => ⟨S1x1x1, .i32⟩
  | .hbm, ⟨67, _⟩ => ⟨S4x1024x1, .i32⟩
  | .hbm, ⟨68, _⟩ => ⟨S4x1024x1, .i1⟩
  | .hbm, ⟨69, _⟩ => ⟨S4x1024x1, .i1⟩
  | .hbm, ⟨70, _⟩ => ⟨S_, .i1⟩
  | .hbm, ⟨71, _⟩ => ⟨S4x1024, .i1⟩
  | .hbm, ⟨72, _⟩ => ⟨S4x1024x3, .f32⟩
  | .hbm, ⟨73, _⟩ => ⟨S4x1024x3, .i1⟩
  | .hbm, ⟨74, _⟩ => ⟨S_, .f32⟩
  | .hbm, ⟨75, _⟩ => ⟨S4x1024x3, .f32⟩
  | .hbm, ⟨76, _⟩ => ⟨S4x1024x3, .f32⟩
  | .hbm, ⟨77, _⟩ => ⟨S_, .i32⟩
  | .hbm, ⟨78, _⟩ => ⟨S4x1024, .i32⟩
  | .hbm, ⟨79, _⟩ => ⟨S4x1024, .i1⟩
  | .hbm, ⟨80, _⟩ => ⟨S_, .i32⟩
  | .hbm, ⟨81, _⟩ => ⟨S4x1024, .i32⟩
  | .hbm, ⟨82, _⟩ => ⟨S4x1024, .i32⟩
  | .hbm, ⟨83, _⟩ => ⟨S4x1024, .i32⟩
  | .hbm, ⟨84, _⟩ => ⟨S4x1024x1, .i32⟩
  | .hbm, ⟨85, _⟩ => ⟨S1, .i32⟩
  | .hbm, ⟨86, _⟩ => ⟨S_, .i32⟩
  | .hbm, ⟨87, _⟩ => ⟨S4x1024x1, .i32⟩
  | .hbm, ⟨88, _⟩ => ⟨S4x1024x1, .i1⟩
  | .hbm, ⟨89, _⟩ => ⟨S1x1x1, .i32⟩
  | .hbm, ⟨90, _⟩ => ⟨S4x1024x1, .i32⟩
  | .hbm, ⟨91, _⟩ => ⟨S4x1024x1, .i1⟩
  | .hbm, ⟨92, _⟩ => ⟨S4x1024x1, .i1⟩
  | .hbm, ⟨93, _⟩ => ⟨S_, .i1⟩
  | .hbm, ⟨94, _⟩ => ⟨S4x1024, .i1⟩
  | .hbm, ⟨95, _⟩ => ⟨S4x1024, .i32⟩
  | .hbm, ⟨96, _⟩ => ⟨S_, .i32⟩
  | .hbm, ⟨97, _⟩ => ⟨S4x1024, .i32⟩
  | .hbm, ⟨98, _⟩ => ⟨S4x1024, .i32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_values_4 : Ref sig .tc := ⟨.hbm, 29, rfl⟩
abbrev main_indices_5 : Ref sig .tc := ⟨.hbm, 30, rfl⟩
abbrev main_v19 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v20 : Ref sig .tc := ⟨.hbm, 53, rfl⟩
abbrev main_v21 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_c_2 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_c_3 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v22 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_c_4 : Ref sig .tc := ⟨.hbm, 96, rfl⟩
abbrev main_call2_v14 : Ref sig .tc := ⟨.hbm, 97, rfl⟩
abbrev main_v23 : Ref sig .tc := ⟨.hbm, 98, rfl⟩

abbrev nD : Nat := 1
abbrev τ : Topo := Topo.v7x

variable {F : FTy → Type} [FloatOps F]
-- ==== Gather.lean ====
abbrev S4x4096x256 : Shape := ⟨3, ![4, 4096, 256]⟩
abbrev S4x4096x3 : Shape := ⟨3, ![4, 4096, 3]⟩
abbrev S4x4096 : Shape := ⟨2, ![4, 4096]⟩
abbrev S4x1024x1 : Shape := ⟨3, ![4, 1024, 1]⟩
abbrev S16384x2x128 : Shape := ⟨3, ![16384, 2, 128]⟩
abbrev S4x4096x1 : Shape := ⟨3, ![4, 4096, 1]⟩
abbrev S_ : Shape := ⟨0, ![]⟩
abbrev S4x4096x124 : Shape := ⟨3, ![4, 4096, 124]⟩
abbrev S4x4096x128 : Shape := ⟨3, ![4, 4096, 128]⟩
abbrev S16384x128 : Shape := ⟨2, ![16384, 128]⟩
abbrev S4096 : Shape := ⟨1, ![4096]⟩
abbrev S4096x2x128 : Shape := ⟨3, ![4096, 2, 128]⟩
abbrev S4096x128 : Shape := ⟨2, ![4096, 128]⟩
abbrev S128 : Shape := ⟨1, ![128]⟩
abbrev S128x2x128 : Shape := ⟨3, ![128, 2, 128]⟩
abbrev S128x128 : Shape := ⟨2, ![128, 128]⟩
abbrev S4x1024x256 : Shape := ⟨3, ![4, 1024, 256]⟩
abbrev S4096x3 : Shape := ⟨2, ![4096, 3]⟩
abbrev S4x1024x3 : Shape := ⟨3, ![4, 1024, 3]⟩
abbrev S4096x1 : Shape := ⟨2, ![4096, 1]⟩
abbrev S4x1024 : Shape := ⟨2, ![4, 1024]⟩

abbrev nBuf : Table → Nat
  | .hbm => 21
  | .local .scVector .vmem => 3
  | _ => 0

abbrev bufTy : (tb : Table) → Fin (nBuf tb) → BufTy
  | .hbm, ⟨0, _⟩ => ⟨S4x4096x256, .f32⟩
  | .hbm, ⟨1, _⟩ => ⟨S4x4096x3, .f32⟩
  | .hbm, ⟨2, _⟩ => ⟨S4x4096, .i32⟩
  | .hbm, ⟨3, _⟩ => ⟨S4x1024x1, .i32⟩
  | .hbm, ⟨4, _⟩ => ⟨S16384x2x128, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x124, .f32⟩
  | .hbm, ⟨9, _⟩ => ⟨S4x4096x128, .f32⟩
  | .hbm, ⟨10, _⟩ => ⟨S16384x128, .f32⟩
  | .hbm, ⟨11, _⟩ => ⟨S4096, .i32⟩
  | .hbm, ⟨12, _⟩ => ⟨S4096x2x128, .f32⟩
  | .hbm, ⟨13, _⟩ => ⟨S4096x128, .f32⟩
  | .hbm, ⟨14, _⟩ => ⟨S4x1024x256, .f32⟩
  | .hbm, ⟨15, _⟩ => ⟨S4096x3, .f32⟩
  | .hbm, ⟨16, _⟩ => ⟨S4x1024x3, .f32⟩
  | .hbm, ⟨17, _⟩ => ⟨S4096x1, .f32⟩
  | .hbm, ⟨18, _⟩ => ⟨S4096, .f32⟩
  | .hbm, ⟨19, _⟩ => ⟨S4096, .i32⟩
  | .hbm, ⟨20, _⟩ => ⟨S4x1024, .i32⟩
  | .local .scVector .vmem, ⟨0, _⟩ => ⟨S128, .i32⟩
  | .local .scVector .vmem, ⟨1, _⟩ => ⟨S128x2x128, .f32⟩
  | .local .scVector .vmem, ⟨2, _⟩ => ⟨S128x128, .f32⟩
  | _, _ => ⟨S4x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v0_scv : Ref sig .scVector := ⟨.hbm, 4, rfl⟩
abbrev main_v5_scv : Ref sig .scVector := ⟨.hbm, 10, rfl⟩
abbrev main_v6_scv : Ref sig .scVector := ⟨.hbm, 11, rfl⟩
abbrev main_v7_0_scv : Ref sig .scVector := ⟨.hbm, 12, rfl⟩
abbrev main_v7_1_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9_r1 : BitVec 32 := 0#32
  let c0_i32_10_r1 : BitVec 32 := 0#32
  ![v2.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S4x4096x256 : Shape := ⟨3, ![4, 4096, 256]⟩
abbrev S4x4096x3 : Shape := ⟨3, ![4, 4096, 3]⟩
abbrev S4x4096 : Shape := ⟨2, ![4, 4096]⟩
abbrev S4x1024x1 : Shape := ⟨3, ![4, 1024, 1]⟩
abbrev S4x1024 : Shape := ⟨2, ![4, 1024]⟩
abbrev S16384x256 : Shape := ⟨2, ![16384, 256]⟩
abbrev S_ : Shape := ⟨0, ![]⟩
abbrev S4x1024x256 : Shape := ⟨3, ![4, 1024, 256]⟩
abbrev S16384x3 : Shape := ⟨2, ![16384, 3]⟩
abbrev S4x1024x3 : Shape := ⟨3, ![4, 1024, 3]⟩
abbrev S16384 : Shape := ⟨1, ![16384]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x3, .f32⟩
  | .hbm, ⟨2, _⟩ => ⟨S4x4096, .i32⟩
  | .hbm, ⟨3, _⟩ => ⟨S4x1024x1, .i32⟩
  | .hbm, ⟨4, _⟩ => ⟨S4x1024, .i32⟩
  | .hbm, ⟨5, _⟩ => ⟨S16384x256, .f32⟩
  | .hbm, ⟨6, _⟩ => ⟨S_, .i32⟩
  | .hbm, ⟨7, _⟩ => ⟨S4x1024, .i32⟩
  | .hbm, ⟨8, _⟩ => ⟨S4x1024, .i1⟩
  | .hbm, ⟨9, _⟩ => ⟨S_, .i32⟩
  | .hbm, ⟨10, _⟩ => ⟨S4x1024, .i32⟩
  | .hbm, ⟨11, _⟩ => ⟨S4x1024, .i32⟩
  | .hbm, ⟨12, _⟩ => ⟨S4x1024, .i32⟩
  | .hbm, ⟨13, _⟩ => ⟨S4x1024x1, .i32⟩
  | .hbm, ⟨14, _⟩ => ⟨S4x1024x256, .f32⟩
  | .hbm, ⟨15, _⟩ => ⟨S16384x3, .f32⟩
  | .hbm, ⟨16, _⟩ => ⟨S_, .i32⟩
  | .hbm, ⟨17, _⟩ => ⟨S4x1024, .i32⟩
  | .hbm, ⟨18, _⟩ => ⟨S4x1024, .i1⟩
  | .hbm, ⟨19, _⟩ => ⟨S_, .i32⟩
  | .hbm, ⟨20, _⟩ => ⟨S4x1024, .i32⟩
  | .hbm, ⟨21, _⟩ => ⟨S4x1024, .i32⟩
  | .hbm, ⟨22, _⟩ => ⟨S4x1024, .i32⟩
  | .hbm, ⟨23, _⟩ => ⟨S4x1024x1, .i32⟩
  | .hbm, ⟨24, _⟩ => ⟨S4x1024x3, .f32⟩
  | .hbm, ⟨25, _⟩ => ⟨S16384, .i32⟩
  | .hbm, ⟨26, _⟩ => ⟨S_, .i32⟩
  | .hbm, ⟨27, _⟩ => ⟨S4x1024, .i32⟩
  | .hbm, ⟨28, _⟩ => ⟨S4x1024, .i1⟩
  | .hbm, ⟨29, _⟩ => ⟨S_, .i32⟩
  | .hbm, ⟨30, _⟩ => ⟨S4x1024, .i32⟩
  | .hbm, ⟨31, _⟩ => ⟨S4x1024, .i32⟩
  | .hbm, ⟨32, _⟩ => ⟨S4x1024, .i32⟩
  | .hbm, ⟨33, _⟩ => ⟨S4x1024x1, .i32⟩
  | .hbm, ⟨34, _⟩ => ⟨S4x1024, .i32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Select.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S1x256x256 : Shape := ⟨3, ![1, 256, 256]⟩
abbrev S1x4096x256 : Shape := ⟨3, ![1, 4096, 256]⟩
abbrev S1x256x1 : Shape := ⟨3, ![1, 256, 1]⟩
abbrev S1x1x4096 : Shape := ⟨3, ![1, 1, 4096]⟩
abbrev S1x1x256 : Shape := ⟨3, ![1, 1, 256]⟩
abbrev S256x256 : Shape := ⟨2, ![256, 256]⟩
abbrev S4096x256 : Shape := ⟨2, ![4096, 256]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S1x512x1 : Shape := ⟨3, ![1, 512, 1]⟩
abbrev S1x1x512 : Shape := ⟨3, ![1, 1, 512]⟩
abbrev S512x1 : Shape := ⟨2, ![512, 1]⟩
abbrev S512x4096 : Shape := ⟨2, ![512, 4096]⟩
abbrev S512 : Shape := ⟨1, ![512]⟩
abbrev S4x1024x1 : Shape := ⟨3, ![4, 1024, 1]⟩

abbrev nBuf : Space → Nat
  | .hbm => 10
  | .vmem => 22
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x1x4096, .f32⟩
  | .hbm, ⟨7, _⟩ => ⟨S4x4096x1, .f32⟩
  | .hbm, ⟨8, _⟩ => ⟨S4x1x4096, .i32⟩
  | .hbm, ⟨9, _⟩ => ⟨S4x1024x1, .i32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x1x256, .f32⟩
  | .local _ .vmem, ⟨9, _⟩ => ⟨S1x1x256, .f32⟩
  | .local _ .vmem, ⟨10, _⟩ => ⟨S1x256x1, .f32⟩
  | .local _ .vmem, ⟨11, _⟩ => ⟨S1x256x1, .f32⟩
  | .local _ .vmem, ⟨12, _⟩ => ⟨S1x512x1, .f32⟩
  | .local _ .vmem, ⟨13, _⟩ => ⟨S1x512x1, .f32⟩
  | .local _ .vmem, ⟨14, _⟩ => ⟨S1x1x4096, .f32⟩
  | .local _ .vmem, ⟨15, _⟩ => ⟨S1x1x4096, .f32⟩
  | .local _ .vmem, ⟨16, _⟩ => ⟨S1x1x512, .i32⟩
  | .local _ .vmem, ⟨17, _⟩ => ⟨S1x1x512, .i32⟩
  | .local _ .vmem, ⟨18, _⟩ => ⟨S1x1x4096, .i32⟩
  | .local _ .vmem, ⟨19, _⟩ => ⟨S1x1x4096, .i32⟩
  | .local _ .vmem, ⟨20, _⟩ => ⟨S1x256x1, .i32⟩
  | .local _ .vmem, ⟨21, _⟩ => ⟨S1x256x1, .i32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]
-- ==== SelectReferenceIdeal.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x8 : Shape := ⟨3, ![4, 4096, 8]⟩
abbrev S4x1024 : Shape := ⟨2, ![4, 1024]⟩
abbrev S4 : Shape := ⟨1, ![4]⟩
abbrev S4x1 : Shape := ⟨2, ![4, 1]⟩
abbrev S4x1024x1 : Shape := ⟨3, ![4, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x8, .f32⟩
  | .hbm, ⟨20, _⟩ => ⟨S4x4096x8, .i32⟩
  | .hbm, ⟨21, _⟩ => ⟨S4x4096x8, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x1024, .f32⟩
  | .hbm, ⟨28, _⟩ => ⟨S4x1024, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4x1, .i32⟩
  | .hbm, ⟨34, _⟩ => ⟨S4x1024, .i32⟩
  | .hbm, ⟨35, _⟩ => ⟨S4x1024, .i32⟩
  | .hbm, ⟨36, _⟩ => ⟨S4x1024x1, .i32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_values_4 : Ref sig .tc := ⟨.hbm, 27, rfl⟩
abbrev main_indices_5 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.GatherTile.lean ====
/-
  One task of the SparseCore call of `GatherIdeal`, for any float instance: a vector subcore copies its 128 words of
  the index list into its list buffer, streams the feature rows they name into its row buffer and copies those to its
  block of the first result, then the same with the side rows and the second result. The task is proved once, at a
  symbolic (SparseCore, subcore) pair, with the values: its blocks of the results end at the table read at the list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherTile

open Cert.GatherIdeal Cert.GatherIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's tables and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UU : Type := URounds (GSem nD τ sig) ℕ × Counters

local notation "𝕄" => MT nD τ sig (HIx 1) (Elt F) ℕ UU ℕ

abbrev EH : Emb (URounds (GSem nD τ sig) ℕ) (MT nD τ sig (HIx 1) (Elt F) ℕ UU ℕ) := embL

/-! ## The arrays -/

abbrev iLoc (d : Dev nD) : Loc nD τ sig := (SparseCore.T d).loc main_v6
abbrev xLoc (d : Dev nD) : Loc nD τ sig := (SparseCore.T d).loc main_v0
abbrev yLoc (d : Dev nD) : Loc nD τ sig := (SparseCore.T d).loc main_v5
abbrev oLoc (d : Dev nD) : Loc nD τ sig := (SparseCore.T d).loc main_v7_0
abbrev pLoc (d : Dev nD) : Loc nD τ sig := (SparseCore.T d).loc main_v7_1

local notation "iV" => (Memref.whole Cert.GatherIdeal.main_v6_scv : Memref Cert.GatherIdeal.sig Kind.scVector Space.hbm Cert.GatherIdeal.S4096 EltTy.i32)
local notation "xV" => (Memref.whole Cert.GatherIdeal.main_v0_scv : Memref Cert.GatherIdeal.sig Kind.scVector Space.hbm Cert.GatherIdeal.S16384x2x128 EltTy.f32)
local notation "yV" => (Memref.whole Cert.GatherIdeal.main_v5_scv : Memref Cert.GatherIdeal.sig Kind.scVector Space.hbm Cert.GatherIdeal.S16384x128 EltTy.f32)
local notation "oV" => (Memref.whole Cert.GatherIdeal.main_v7_0_scv : Memref Cert.GatherIdeal.sig Kind.scVector Space.hbm Cert.GatherIdeal.S4096x2x128 EltTy.f32)
local notation "pV" => (Memref.whole Cert.GatherIdeal.main_v7_1_scv : Memref Cert.GatherIdeal.sig Kind.scVector Space.hbm Cert.GatherIdeal.S4096x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x2x128 EltTy.f32)
local notation "tV" => (Memref.whole Cert.GatherIdeal.cc0_scratch2 : Memref Cert.GatherIdeal.sig Kind.scVector Space.vmem Cert.GatherIdeal.S128x128 EltTy.f32)

/-- What the call finds in the list, the two tables and the two results: `ci` the list, `cx` the feature rows, `cy` the side rows,
    `co`, `cp` whatever the results held. -/
structure Ops (F : FTy → Type) where
  ci : S4096.Idx → Elt F .i32
  cx : S16384x2x128.Idx → Elt F .f32
  cy : S16384x128.Idx → Elt F .f32
  co : S4096x2x128.Idx → Elt F .f32
  cp : S4096x128.Idx → Elt F .f32
  /-- Every word of the list names a row of the tables. -/
  hi : ∀ j, (ci j).toNat < 16384

variable (A : Dev nD → Ops F)

/-- The row of the tables entry `j` of the list names. -/
def Ops.row (a : Ops F) (j : Fin 4096) : Fin 16384 := ⟨(a.ci (fun | 0 => j)).toNat, a.hi _⟩

/-- The first result: row `j` is the feature row the list names at `j`. -/
def Ops.ro (a : Ops F) : S4096x2x128.Idx → Elt F .f32 := fun j =>
  a.cx (fun | 0 => a.row (j 0) | 1 => j 1 | 2 => j 2)

/-- The second result: row `j` is the side row the list names at `j`. -/
def Ops.rp (a : Ops F) : S4096x128.Idx → Elt F .f32 := fun j =>
  a.cy (fun | 0 => a.row (j 0) | 1 => j 1)

/-! ## The 32 blocks of 128 rows -/

def iBlk (w : Fin 32) : Finset S4096.Idx := Finset.univ.filter fun x => (x 0).val / 128 = w.val
def oBlk (w : Fin 32) : Finset S4096x2x128.Idx := Finset.univ.filter fun x => (x 0).val / 128 = w.val
def pBlk (w : Fin 32) : Finset S4096x128.Idx := Finset.univ.filter fun x => (x 0).val / 128 = w.val

/-- Task `w`'s read share of a table. -/
abbrev shr (w : Fin 32) : PosShare TreeShare := pieceOf fullShare 32 (by decide) w

abbrev iPts (d : Dev nD) (w : Fin 32) : sProp 𝕄 := iLoc d ↦[iBlk w]{fullShare} (A d).ci
abbrev xPts (d : Dev nD) (w : Fin 32) : sProp 𝕄 := xLoc d ↦{shr w} (A d).cx
abbrev yPts (d : Dev nD) (w : Fin 32) : sProp 𝕄 := yLoc d ↦{shr w} (A d).cy
abbrev oPts (d : Dev nD) (w : Fin 32) (f : Buf (Elt F) (oLoc d)) : sProp 𝕄 := oLoc d ↦[oBlk w]{fullShare} f
abbrev pPts (d : Dev nD) (w : Fin 32) (f : Buf (Elt F) (pLoc d)) : sProp 𝕄 := pLoc d ↦[pBlk w]{fullShare} f

/-- What task `w` is handed, and what it hands back. -/
abbrev goR (d : Dev nD) (w : Fin 32) : sProp 𝕄 :=
  iprop(iPts A d w ∗ xPts A d w ∗ yPts A d w ∗ oPts d w (A d).co ∗ pPts d w (A d).cp)
abbrev tdR (d : Dev nD) (w : Fin 32) : sProp 𝕄 :=
  iprop(iPts A d w ∗ xPts A d w ∗ yPts A d w ∗ oPts d w (A d).ro ∗ pPts d w (A d).rp)

/-! ## The task's views -/

section Tile

variable [FloatOps F] (d : Dev nD) (L : grid0.Coords)

abbrev cV (L : grid0.Coords) : Fin τ.nSC := (L 0).castLE hcore0
abbrev jV (L : grid0.Coords) : Fin τ.nSub := (L 1).castLE hsub0

/-- The task's number: its block. -/
def wid (L : grid0.Coords) : Fin 32 :=
  ⟨2 * (L 1).val + (L 0).val, by
    have h0 : (L 0).val < 2 := (L 0).isLt
    have h1 : (L 1).val < 16 := (L 1).isLt
    omega⟩

abbrev iK (L : grid0.Coords) : Memref sig .scVector .hbm S128 .i32 :=
  (iV).slice (Rect.unit (s := S4096) (k0_off1 L) S128.size (k0_off1_inb L)) (fun _ => rfl)
abbrev oK (L : grid0.Coords) : Memref sig .scVector .hbm S128x2x128 .f32 :=
  (oV).slice (Rect.unit (s := S4096x2x128) (k0_off2 L) S128x2x128.size (k0_off2_inb L)) (fun _ => rfl)
abbrev pK (L : grid0.Coords) : Memref sig .scVector .hbm S128x128 .f32 :=
  (pV).slice (Rect.unit (s := S4096x128) (k0_off3 L) S128x128.size (k0_off3_inb L)) (fun _ => rfl)
abbrev xK : Memref sig .scVector .hbm S16384x2x128 .f32 :=
  (xV).slice (Rect.unit (s := S16384x2x128) ![0, 0, 0] S16384x2x128.size inb_S16384x2x128_S16384x2x128_0_0_0) (fun _ => rfl)
abbrev yK : Memref sig .scVector .hbm S16384x128 .f32 :=
  (yV).slice (Rect.unit (s := S16384x128) ![0, 0] S16384x128.size inb_S16384x128_S16384x128_0_0) (fun _ => rfl)

omit [FloatOps F] in
theorem blk_iff (n b c : ℕ) : (256 * b + 128 * c ≤ n ∧ n < 256 * b + 128 * c + 128) ↔ n / 128 = 2 * b + c := by omega

omit [FloatOps F] in
theorem set_iK : (iK L).view.set = iBlk (wid L) := by
  refine (View.set_slice_whole _ _).trans ?_
  ext (x : S4096.Idx)
  refine Rect.mem_set_unit.trans (Iff.trans ?_ (show (x 0).val / 128 = (wid L).val ↔ x ∈ iBlk (wid L) by simp [iBlk]))
  simp only [k0_off1_eq]
  refine ⟨fun h => ?_, fun h a => ?_⟩
  · exact (blk_iff _ _ _).1 (h 0)
  · match a with
    | 0 => exact (blk_iff _ _ _).2 h
omit [FloatOps F] in
theorem set_oK : (oK L).view.set = oBlk (wid L) := by
  refine (View.set_slice_whole _ _).trans ?_
  ext (x : S4096x2x128.Idx)
  refine Rect.mem_set_unit.trans (Iff.trans ?_ (show (x 0).val / 128 = (wid L).val ↔ x ∈ oBlk (wid L) by simp [oBlk]))
  simp only [k0_off2_eq]
  refine ⟨fun h => ?_, fun h a => ?_⟩
  · exact (blk_iff _ _ _).1 (h 0)
  · match a with
    | 0 => exact (blk_iff _ _ _).2 h
    | 1 => exact ⟨Nat.zero_le _, by simpa using (x 1).isLt⟩
    | 2 => exact ⟨Nat.zero_le _, by simpa using (x 2).isLt⟩
omit [FloatOps F] in
theorem set_pK : (pK L).view.set = pBlk (wid L) := by
  refine (View.set_slice_whole _ _).trans ?_
  ext (x : S4096x128.Idx)
  refine Rect.mem_set_unit.trans (Iff.trans ?_ (show (x 0).val / 128 = (wid L).val ↔ x ∈ pBlk (wid L) by simp [pBlk]))
  simp only [k0_off3_eq]
  refine ⟨fun h => ?_, fun h a => ?_⟩
  · exact (blk_iff _ _ _).1 (h 0)
  · match a with
    | 0 => exact (blk_iff _ _ _).2 h
    | 1 => exact ⟨Nat.zero_le _, by simpa using (x 1).isLt⟩

/-- The three scoped regions' cells and the two streams' cells. -/
abbrev cell (d : Dev nD) (L : grid0.Coords) (s : DmaSem sig) : GSem nD τ sig := (V d (cV L) (jV L), .dma s)

omit [FloatOps F] in
theorem cell_ne {s s' : DmaSem sig} (h : s ≠ s') : cell d L s ≠ cell d L s' := fun e => h (by simpa [cell] using e)

omit [FloatOps F] in
theorem ownSems0_V :
    (ownSems0 (V d (cV L) (jV L)) : sProp 𝕄)
      = iprop(semVal (cell d L cc0_scoped0.sem) 0 ∗ semVal (cell d L cc0_scoped1.sem) 0 ∗ semVal (cell d L cc0_scoped2.sem) 0
          ∗ semVal (cell d L cc0_scratch3.sem) 0 ∗ semVal (cell d L cc0_scratch4.sem) 0
          ∗ bigSep ((((((ownCells (V d (cV L) (jV L))).erase (cell d L cc0_scoped0.sem)).erase (cell d L cc0_scoped1.sem)).erase
              (cell d L cc0_scoped2.sem)).erase (cell d L cc0_scratch3.sem)).erase (cell d L cc0_scratch4.sem)) fun g => semVal g 0) := by
  unfold SparseCore.Cfg.ownSems0
  have own : ∀ s : DmaSem sig, (SemLoc.dma s : SemLoc sig).isScoped .scVector = true → cell d L s ∈ ownCells (V d (cV L) (jV L)) :=
    fun s h => mem_ownCells.mpr ⟨rfl, h⟩
  rw [SparseCore.bigSep_erase' (own cc0_scoped0.sem (by decide)),
    SparseCore.bigSep_erase' (Finset.mem_erase.mpr ⟨cell_ne d L (by decide), own cc0_scoped1.sem (by decide)⟩),
    SparseCore.bigSep_erase' (Finset.mem_erase.mpr ⟨cell_ne d L (by decide), Finset.mem_erase.mpr ⟨cell_ne d L (by decide), own cc0_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), own cc0_scratch3.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), own cc0_scratch4.sem (by decide)⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

/-! ## What the list buffer holds, and what the streams deliver -/

/-- The task's list after its fetch. -/
abbrev lst (d : Dev nD) (L : grid0.Coords) : S128.Idx → Elt F .i32 := (iK L).view.read (Elt F) (A d).ci

omit [FloatOps F] in
theorem lst_lt (d : Dev nD) (L : grid0.Coords) (fs : Buf (Elt F) ((V d (cV L) (jV L)).loc cc0_scratch0)) (pay : S128.Idx → Elt F .i32)
    (hpay : pay = lst A d L) (x : S128.Idx) :
    ((sV).view.read (Elt F) (View.write (Elt F) (sV).view fs pay Finset.univ) x).toNat < 16384 := by
  subst hpay
  rw [View.write_whole_univ]
  exact (A d).hi _

/-- Word `k` of the task's list is word `128 * wid + k` of the whole list. -/
theorem lst_apply (k : S128.Idx) (j : Fin 4096) (hj : j.val = 128 * (wid L).val + (k 0).val) :
    lst A d L k = (A d).ci (fun | 0 => j) := by
  refine (View.read_apply _ _).trans ((cast_eq _ _).trans (congrArg (A d).ci ?_))
  funext a
  match a with
  | 0 =>
    apply Fin.ext
    show (k0_off1 L) 0 + 1 * (k 0).val = j.val
    rw [k0_off1_eq, hj]
    simp [wid]
    omega

omit [FloatOps F] in
theorem xK_read (f : Buf (Elt F) (xLoc d)) : xK.view.read (Elt F) f = f := by
  refine funext fun x => (View.read_apply _ _).trans ((cast_eq _ _).trans (congrArg f (funext fun a => Fin.ext ?_)))
  show (![0, 0, 0] : Fin 3 → ℕ) a + 1 * (x a).val = (x a).val
  match a with
  | 0 => simp
  | 1 => simp
  | 2 => simp

omit [FloatOps F] in
theorem yK_read (f : Buf (Elt F) (yLoc d)) : yK.view.read (Elt F) f = f := by
  refine funext fun x => (View.read_apply _ _).trans ((cast_eq _ _).trans (congrArg f (funext fun a => Fin.ext ?_)))
  show (![0, 0] : Fin 2 → ℕ) a + 1 * (x a).val = (x a).val
  match a with
  | 0 => simp
  | 1 => simp

/-- The row entry `k` of the fetched list names is the row entry `128 * wid + k` of the whole list names. -/
theorem row_val {o : ℕ} (fs : Buf (Elt F) ((V d (cV L) (jV L)).loc cc0_scratch0)) (hn : S128.numel = o)
    (hin : ∀ x, ((sV).view.read (Elt F) (View.write (Elt F) (sV).view fs (lst A d L) Finset.univ) x).toNat < 16384)
    (k : Fin o) (j : Fin 4096) (hj : j.val = 128 * (wid L).val + k.val) :
    (SparseCore.rows ((sV).view.read (Elt F) (View.write (Elt F) (sV).view fs (lst A d L) Finset.univ)) hn hin k).val = ((A d).row j).val := by
  have hk : ((S128.rowMajor.symm (k.cast hn.symm)) 0).val = k.val := by
    rw [← Shape.rowMajor_val_one, Equiv.apply_symm_apply]; rfl
  have e := lst_apply A d L (S128.rowMajor.symm (k.cast hn.symm)) j (by rw [hk]; exact hj)
  show (((sV).view.read (Elt F) (View.write (Elt F) (sV).view fs (lst A d L) Finset.univ)) (S128.rowMajor.symm (k.cast hn.symm))).toNat = _
  rw [View.write_whole_univ]
  exact (congrArg (fun v : BitVec 32 => v.toNat) e :)

/-- What the first stream delivers: the task's block of the first result. -/
theorem payload_x (fs : Buf (Elt F) ((V d (cV L) (jV L)).loc cc0_scratch0)) (pay : S128.Idx → Elt F .i32) (hpay : pay = lst A d L)
    (hn : S128.numel = S128x2x128.size gathers_S16384x2x128_S128x2x128.axis')
    (hin : ∀ x, ((sV).view.read (Elt F) (View.write (Elt F) (sV).view fs pay Finset.univ) x).toNat < S16384x2x128.size gathers_S16384x2x128_S128x2x128.axis) :
    SparseCore.gatherPayload gathers_S16384x2x128_S128x2x128 (A d).cx
        (SparseCore.rows ((sV).view.read (Elt F) (View.write (Elt F) (sV).view fs pay Finset.univ)) hn hin)
      = (oK L).view.read (Elt F) (A d).ro := by
  subst hpay
  funext x
  refine Eq.trans ?_ ((View.read_apply _ _).trans (cast_eq _ _)).symm
  refine congrArg (A d).cx (funext fun a => Fin.ext ?_)
  match a with
  | 0 =>
    refine (congrArg Fin.val (Shape.Gathers.idx_axis gathers_S16384x2x128_S128x2x128 _ x)).trans (row_val A d L fs hn hin _ _ ?_)
    show (k0_off2 L) 0 + 1 * (x 0).val = _
    rw [k0_off2_eq]; simp [wid]; omega
  | 1 =>
    refine (Shape.Gathers.idx_of_ne gathers_S16384x2x128_S128x2x128 _ x 1 (by decide)).trans ?_
    show (x 1).val = (k0_off2 L) 1 + 1 * (x 1).val
    rw [k0_off2_eq]; simp
  | 2 =>
    refine (Shape.Gathers.idx_of_ne gathers_S16384x2x128_S128x2x128 _ x 2 (by decide)).trans ?_
    show (x 2).val = (k0_off2 L) 2 + 1 * (x 2).val
    rw [k0_off2_eq]; simp

/-- What the second stream delivers: the task's block of the second result. -/
theorem payload_y (fs : Buf (Elt F) ((V d (cV L) (jV L)).loc cc0_scratch0)) (pay : S128.Idx → Elt F .i32) (hpay : pay = lst A d L)
    (hn : S128.numel = S128x128.size gathers_S16384x128_S128x128.axis')
    (hin : ∀ x, ((sV).view.read (Elt F) (View.write (Elt F) (sV).view fs pay Finset.univ) x).toNat < S16384x128.size gathers_S16384x128_S128x128.axis) :
    SparseCore.gatherPayload gathers_S16384x128_S128x128 (A d).cy
        (SparseCore.rows ((sV).view.read (Elt F) (View.write (Elt F) (sV).view fs pay Finset.univ)) hn hin)
      = (pK L).view.read (Elt F) (A d).rp := by
  subst hpay
  funext x
  refine Eq.trans ?_ ((View.read_apply _ _).trans (cast_eq _ _)).symm
  refine congrArg (A d).cy (funext fun a => Fin.ext ?_)
  match a with
  | 0 =>
    refine (congrArg Fin.val (Shape.Gathers.idx_axis gathers_S16384x128_S128x128 _ x)).trans (row_val A d L fs hn hin _ _ ?_)
    show (k0_off3 L) 0 + 1 * (x 0).val = _
    rw [k0_off3_eq]; simp [wid]; omega
  | 1 =>
    refine (Shape.Gathers.idx_of_ne gathers_S16384x128_S128x128 _ x 1 (by decide)).trans ?_
    show (x 1).val = (k0_off3 L) 1 + 1 * (x 1).val
    rw [k0_off3_eq]; simp

/-- A block written whole reads back. -/
theorem read_writes_whole {sig : RefSig} {κ : Kind} {sp : Space} {sh : Shape} {e : EltTy} (v : View sig κ sp sh e) (f : v.ty.Contents (Elt F)) (w : sh.Idx → Elt F e) :
    v.read (Elt F) (v.writes (Elt F) f [⟨Rect.whole sh, w⟩]) = w := by
  funext x
  have hx : (v.slice (Rect.whole sh)).emb x = v.emb x := congrArg v.emb (Rect.emb_whole_apply sh x)
  rw [View.writes_singleton, View.read_apply, ← hx, View.write_emb_of_mem _ _ (Finset.mem_univ _), cast_cast, cast_eq]

/-- A block written whole with the values of `g` on it holds `g` there. -/
theorem writes_whole_eq {sig : RefSig} {κ : Kind} {sp : Space} {sh : Shape} {e : EltTy} (v : View sig κ sp sh e) (f g : v.ty.Contents (Elt F)) :
    ∀ i ∈ v.set, v.writes (Elt F) f [⟨Rect.whole sh, v.read (Elt F) g⟩] i = g i := by
  intro i hi
  obtain ⟨x, -, rfl⟩ := Finset.mem_map.mp hi
  have e : v.read (Elt F) (v.writes (Elt F) f [⟨Rect.whole sh, v.read (Elt F) g⟩]) x = v.read (Elt F) g x := by
    rw [View.writes_singleton]
    exact congrFun (read_writes_whole v f (v.read (Elt F) g)) x
  rw [View.read_apply, View.read_apply] at e
  exact (cast_inj _).mp e

set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goR A d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) yV (Memref.isWhole_whole _) iV (Memref.isWhole_whole _)
            oV (Memref.isWhole_whole _) pV (Memref.isWhole_whole _) sV (Memref.isWhole_whole _) rV (Memref.isWhole_whole _) tV (Memref.isWhole_whole _)
            cc0_scratch3 cc0_scratch4 cc0_scoped0 cc0_scoped1 cc0_scoped2)
          fun _ => iprop(tdR A d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Hy, Ho, Hp⟩, ⟨⟨%fs, Hs⟩, ⟨%fr, Hr⟩, ⟨%ft, Ht⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iPts A d (wid L) : sProp 𝕄) = ((iK L).view.loc (V d (cV L) (jV L)) ↦[(iK L).view.set]{fullShare} (A d).ci) by rw [set_iK])) $$ Hi
  ihave Ho' := (Entails.of_eq (show (oPts d (wid L) (A d).co : sProp 𝕄) = ((oK L).view.loc (V d (cV L) (jV L)) ↦[(oK L).view.set]{fullShare} (A d).co) by rw [set_oK])) $$ Ho
  ihave Hp' := (Entails.of_eq (show (pPts d (wid L) (A d).cp : sProp 𝕄) = ((pK L).view.loc (V d (cV L) (jV L)) ↦[(pK L).view.set]{fullShare} (A d).cp) by rw [set_pK])) $$ Hp
  ihave Hx' := (Entails.of_eq (show (xPts A d (wid L) : sProp 𝕄) = ((xV).view.loc (V d (cV L) (jV L)) ↦{shr (wid L)} (A d).cx) from rfl)) $$ Hx
  ihave Hy' := (Entails.of_eq (show (yPts A d (wid L) : sProp 𝕄) = ((yV).view.loc (V d (cV L) (jV L)) ↦{shr (wid L)} (A d).cy) from rfl)) $$ Hy
  ihave Hs' := (Entails.of_eq (show (((V d (cV L) (jV L)).loc cc0_scratch0 ↦{fullShare} fs : sProp 𝕄)) = ((sV).view.loc (V d (cV L) (jV L)) ↦{fullShare} fs) from rfl)) $$ Hs
  ihave Hr' := (Entails.of_eq (show (((V d (cV L) (jV L)).loc cc0_scratch1 ↦{fullShare} fr : sProp 𝕄)) = ((rV).view.loc (V d (cV L) (jV L)) ↦{fullShare} fr) from rfl)) $$ Hr
  ihave Ht' := (Entails.of_eq (show (((V d (cV L) (jV L)).loc cc0_scratch2 ↦{fullShare} ft : sProp 𝕄)) = ((tV).view.loc (V d (cV L) (jV L)) ↦{fullShare} ft) from rfl)) $$ Ht
  sl_exec
  have hin : ∀ x, ((sV).view.read (Elt F) (View.write (Elt F) (sV).view fs (tile_body.sl.dma0 A d L) Finset.univ) x).toNat < S16384x2x128.size gathers_S16384x2x128_S128x2x128.axis :=
    fun x => lst_lt A d L fs _ rfl x
  have hin' : ∀ x, ((sV).view.read (Elt F) (View.write (Elt F) (sV).view fs (tile_body.sl.dma0 A d L) Finset.univ) x).toNat < S16384x128.size gathers_S16384x128_S128x128.axis :=
    fun x => lst_lt A d L fs _ rfl x
  sl_exec
  have hgx : tile_body.sl.dma0_1 A d L fs fr hin = (oK L).view.read (Elt F) (A d).ro := by
    refine (read_writes_whole (rV).view fr _).trans ?_
    refine (congrArg (fun T => SparseCore.gatherPayload _ T _) (xK_read d (A d).cx)).trans ?_
    exact payload_x A d L fs _ rfl _ _
  have hgy : tile_body.sl.dma0_2 A d L fs ft hin' = (pK L).view.read (Elt F) (A d).rp := by
    refine (read_writes_whole (tV).view ft _).trans ?_
    refine (congrArg (fun T => SparseCore.gatherPayload _ T _) (yK_read d (A d).cy)).trans ?_
    exact payload_y A d L fs _ rfl _ _
  sl_step
  isplitl [Hi' Hx' Hy' Ho' Hp']
  · isplitl [Hi']; · rw [set_iK]; iexact Hi'
    isplitl [Hx']; · iexact Hx'
    isplitl [Hy']; · iexact Hy'
    isplitl [Ho']
    · iapply (Entails.of_eq (show ((oK L).view.loc (V d (cV L) (jV L)) ↦[(oK L).view.set]{fullShare}
          (oK L).view.writes (Elt F) (A d).co [⟨Rect.whole S128x2x128, tile_body.sl.dma0_1 A d L fs fr hin⟩] : sProp 𝕄) = oPts d (wid L) (A d).ro from by
        rw [hgx]; refine (pointsTo_congr (writes_whole_eq (oK L).view (A d).co (A d).ro)).trans ?_; rw [set_oK]))
      iexact Ho'
    · iapply (Entails.of_eq (show ((pK L).view.loc (V d (cV L) (jV L)) ↦[(pK L).view.set]{fullShare}
          (pK L).view.writes (Elt F) (A d).cp [⟨Rect.whole S128x128, tile_body.sl.dma0_2 A d L fs ft hin'⟩] : sProp 𝕄) = pPts d (wid L) (A d).rp from by
        rw [hgy]; refine (pointsTo_congr (writes_whole_eq (pK L).view (A d).cp (A d).rp)).trans ?_; rw [set_pK]))
      iexact Hp'
  isplitl [Hs' Hr' Ht' Hbufs]
  · isplitl [Hs']; · iexists _; iexact Hs'
    isplitl [Hr']; · iexists _; iexact Hr'
    isplitl [Ht']; · iexists _; iexact Ht'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  simp only [Finset.mem_insert] at hp
  rcases hp with hp | hp | hp | hp | hp | hp
  iterate 5 exact .inr (hp ▸ rfl)
  exact .inl hp

end Tile

end Cert.Proof.GatherTile

end
-- ==== Proof.GatherRun.lean ====
/-
  The run of `GatherIdeal` from its launch to its end, for any float instance, with the values: the host operations
  before the SparseCore call (the two tables, the list), the call on its 32 tasks (`GatherTile`), the host operations
  after it. Stated by the contents of @main's arrays at the end.
-/
module

public import proofs.«01_k».proof.Proof.GatherTile
public import Idealize.ShloMosaic.Lib.Pipeline.Frame

@[expose] public section

set_option maxRecDepth 16384

noncomputable section

namespace Cert.Proof.GatherRun

open Cert.GatherIdeal Cert.GatherIdeal.Gen Cert.Proof.GatherTile

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs)
open Idealize.ShloMosaic.StableHlo (after held)

variable {F : FTy → Type} [FloatOps F]

local notation "𝕄" => MT nD τ sig (HIx 1) (Elt F) ℕ UU ℕ

/-! ## The host operations -/

/-- Before the call: the two tables and the list. -/
abbrev hostA : List (HloOp τ sig (Elt F)) :=
  [ StableHlo.reshape main_arg0 main_v0 (rfl : (.f32 : EltTy) = .f32) shapeCasts_S4x4096x256_S16384x2x128,
    StableHlo.unary main_arg2 main_v1 (sitofp .f32 : (⟨S4x4096, .i32⟩ : BufTy).Contents (Elt F) → (⟨S4x4096, .f32⟩ : BufTy).Contents (Elt F)),
    StableHlo.unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    StableHlo.nullary main_cst (constant S_ .f32 0x00000000#32),
    StableHlo.unary main_cst main_v3 (broadcastInDim S4x4096x124 ![] bcast_S_S4x4096x124 : (⟨S_, .f32⟩ : BufTy).Contents (Elt F) → (⟨S4x4096x124, .f32⟩ : BufTy).Contents (Elt F)),
    StableHlo.nary ![main_arg1, main_v2, main_v3] main_v4 (fun u => (concatenate S4x4096x128 2 [⟨S4x4096x3, (u 0 : (⟨S4x4096x3, .f32⟩ : BufTy).Contents (Elt F))⟩, ⟨S4x4096x1, (u 1 : (⟨S4x4096x1, .f32⟩ : BufTy).Contents (Elt F))⟩, ⟨S4x4096x124, (u 2 : (⟨S4x4096x124, .f32⟩ : BufTy).Contents (Elt F))⟩] concatenates_S4x4096x3_S4x4096x1_S4x4096x124_S4x4096x128_d2 : (⟨S4x4096x128, .f32⟩ : BufTy).Contents (Elt F))),
    StableHlo.reshape main_v4 main_v5 (rfl : (.f32 : EltTy) = .f32) shapeCasts_S4x4096x128_S16384x128,
    StableHlo.reshape main_arg3 main_v6 (rfl : (.i32 : EltTy) = .i32) shapeCasts_S4x1024x1_S4096 ]

/-- After the call: the three results. -/
abbrev hostB : List (HloOp τ sig (Elt F)) :=
  [ StableHlo.reshape main_v7_0 main_v8 (rfl : (.f32 : EltTy) = .f32) shapeCasts_S4096x2x128_S4x1024x256,
    StableHlo.unary main_v7_1 main_v9 ((extractStridedSlice S4096x3 ![0, 0] · slices_S4096x128_S4096x3_0_0) : (⟨S4096x128, .f32⟩ : BufTy).Contents (Elt F) → (⟨S4096x3, .f32⟩ : BufTy).Contents (Elt F)),
    StableHlo.reshape main_v9 main_v10 (rfl : (.f32 : EltTy) = .f32) shapeCasts_S4096x3_S4x1024x3,
    StableHlo.unary main_v7_1 main_v11 ((extractStridedSlice S4096x1 ![0, 3] · slices_S4096x128_S4096x1_0_3) : (⟨S4096x128, .f32⟩ : BufTy).Contents (Elt F) → (⟨S4096x1, .f32⟩ : BufTy).Contents (Elt F)),
    StableHlo.reshape main_v11 main_v12 (rfl : (.f32 : EltTy) = .f32) shapeCasts_S4096x1_S4096,
    StableHlo.unary main_v12 main_v13 (fptosi 32 : (⟨S4096, .f32⟩ : BufTy).Contents (Elt F) → (⟨S4096, .i32⟩ : BufTy).Contents (Elt F)),
    StableHlo.reshape main_v13 main_v14 (rfl : (.i32 : EltTy) = .i32) shapeCasts_S4096_S4x1024 ]

theorem hostA_sub : (hostA : List (HloOp τ sig (Elt F))).Forall fun op => op.bufs ⊆ StableHlo.tcRefs τ sig :=
  ⟨StableHlo.reshape_bufs_sub .., StableHlo.unary_bufs_sub .., StableHlo.unary_bufs_sub .., StableHlo.nullary_bufs_sub .., StableHlo.unary_bufs_sub ..,
    StableHlo.nary_bufs_sub .., StableHlo.reshape_bufs_sub .., StableHlo.reshape_bufs_sub ..⟩
theorem hostB_sub : (hostB : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub ..,
    StableHlo.unary_bufs_sub .., StableHlo.reshape_bufs_sub ..⟩
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor

theorem main_chain (d : Dev nD) : main (F := F) d = Pipeline.chain [StableHlo.seq hostA, sc.run d 0, StableHlo.seq hostB] := by
  chain_rfl

variable (m : (ℓ : Loc nD τ sig) → Buf (Elt F) ℓ) (ρ : Dev nD → PrngReg)

/-- What the run asks of the launch memory: every word of the index argument names a row of the tables. -/
def PreOK : Prop := ∀ (d : Dev nD) (j : S4x1024x1.Idx), ((m ((d.tc : Thread nD τ).loc main_arg3) : S4x1024x1.Idx → Elt F .i32) j).toNat < 16384

/-! ## The arrays' contents at each boundary -/

/-- At launch. -/
abbrev V0 (d : Dev nD) : Valuation τ sig (Elt F) := fun b => m (d, b)
/-- At the call. -/
abbrev VA (d : Dev nD) : Valuation τ sig (Elt F) := after hostA (V0 m d)

theorem VA_v6 (d : Dev nD) : VA m d (Proc.devRef .tc main_v6)
    = fun j : S4096.Idx => (m ((d.tc : Thread nD τ).loc main_arg3) : S4x1024x1.Idx → Elt F .i32) (Shape.reshapeEquiv shapeCasts_S4x1024x1_S4096 j) := by
  after_results
  rfl

variable (hm : PreOK m)

/-- The call's operands and results as it finds them. -/
def ops (d : Dev nD) : Ops F where
  ci := VA m d (Proc.devRef .tc main_v6)
  cx := VA m d (Proc.devRef .tc main_v0)
  cy := VA m d (Proc.devRef .tc main_v5)
  co := VA m d (Proc.devRef .tc main_v7_0)
  cp := VA m d (Proc.devRef .tc main_v7_1)
  hi := fun j => by rw [VA_v6]; exact hm d _

/-- After the call: its two results. -/
def VB (d : Dev nD) : Valuation τ sig (Elt F) :=
  Function.update (Function.update (VA m d) (Proc.devRef .tc main_v7_0) (ops m hm d).ro) (Proc.devRef .tc main_v7_1) (ops m hm d).rp

/-- At the end. -/
abbrev VC (d : Dev nD) : Valuation τ sig (Elt F) := after hostB (VB m hm d)

/-! ## The call's payloads -/

/-- The number of task `i` of SparseCore `c`. -/
def widOf (c : Fin ((K (F := F)).nCore 0)) (i : Fin ((K (F := F)).nSub 0)) : Fin 32 :=
  ⟨2 * i.val + c.val, by
    have hc : c.val < 2 := c.isLt
    have hi : i.val < 16 := i.isLt
    omega⟩

/-- Each SparseCore is handed what its sixteen tasks take, each task its part. -/
def P : (K (F := F)).Pay (nD := nD) (Val := Elt F) (Name := ℕ) (U := UU) where
  st := fun q d c => match q with | 0 => bigSep Finset.univ fun i : Fin ((K (F := F)).nSub 0) => goR (ops m hm) d (widOf c i)
  dn := fun q d c => match q with | 0 => bigSep Finset.univ fun i : Fin ((K (F := F)).nSub 0) => tdR (ops m hm) d (widOf c i)
  go := fun q d c i => match q with | 0 => goR (ops m hm) d (widOf c i)
  td := fun q d c i => match q with | 0 => tdR (ops m hm) d (widOf c i)
  x := fun _ _ => iprop(emp)

instance P_storable : (P (F := F) m hm).IsStorable where
  st q d c := match q with
    | 0 => (inferInstance : BI.Storable (upEmb : UEmb _ 𝕄) (bigSep Finset.univ fun i : Fin ((K (F := F)).nSub 0) => goR (ops m hm) d (widOf c i)))
  dn q d c := match q with
    | 0 => (inferInstance : BI.Storable (upEmb : UEmb _ 𝕄) (bigSep Finset.univ fun i : Fin ((K (F := F)).nSub 0) => tdR (ops m hm) d (widOf c i)))
  go q d c i := match q with
    | 0 => (inferInstance : BI.Storable (upEmb : UEmb _ 𝕄) (goR (ops m hm) d (widOf c i)))
  td q d c i := match q with
    | 0 => (inferInstance : BI.Storable (upEmb : UEmb _ 𝕄) (tdR (ops m hm) d (widOf c i)))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v0_scv) (Memref.isWhole_whole _) (Memref.whole main_v5_scv) (Memref.isWhole_whole _)
          (Memref.whole main_v6_scv) (Memref.isWhole_whole _) (Memref.whole main_v7_0_scv) (Memref.isWhole_whole _)
          (Memref.whole main_v7_1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m hm) v₀ 0 := by
  intro d c i O W hO _ _
  simp only [show (P m hm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self_iff, ↓reduceDIte]
  exact (tile_body (ops m hm) d (coordsV ⟨_, hci.1⟩ ⟨_, hci.2⟩) hF O W hO).trans (wp_mono frame _ _ fun _ => obl_post)

theorem vecSplit : (K (F := F)).VecSplit' (P m hm) 0 := by
  intro d c
  show (bigSep Finset.univ fun i : Fin ((K (F := F)).nSub 0) => goR (ops m hm) d (widOf c i)) ⊢ |={Set.univ}=> iprop(
      (bigSep Finset.univ fun i : Fin ((K (F := F)).nSub 0) => goR (ops m hm) d (widOf c i))
      ∗ ((bigSep Finset.univ fun i : Fin ((K (F := F)).nSub 0) => tdR (ops m hm) d (widOf c i))
          -∗ bigSep Finset.univ fun i : Fin ((K (F := F)).nSub 0) => tdR (ops m hm) d (widOf c i)))
  iintro H; imodintro
  isplitl [H]; · iexact H
  iintro H; iexact H

/-! ## The five arrays dealt to the 32 tasks and back -/

omit [FloatOps F] in
theorem blk_disjoint {ι : Type} [DecidableEq ι] [Fintype ι] (f : ι → ℕ) (w w' : Fin 32) (h : w ≠ w') :
    Disjoint (Finset.univ.filter fun x => f x / 128 = w.val) (Finset.univ.filter fun x => f x / 128 = w'.val) :=
  Finset.disjoint_filter.mpr fun _ _ e e' => h (Fin.ext (e.symm.trans e'))

omit [FloatOps F] in
theorem blk_cover {ι : Type} [DecidableEq ι] [Fintype ι] (f : ι → ℕ) (hf : ∀ x, f x < 4096) :
    (Finset.univ : Finset (Fin 32)).biUnion (fun w => Finset.univ.filter fun x => f x / 128 = w.val) = Finset.univ := by
  ext x
  have := hf x
  simp only [Finset.mem_biUnion, Finset.mem_univ, true_and, Finset.mem_filter, iff_true]
  exact ⟨⟨f x / 128, by omega⟩, rfl⟩

omit [FloatOps F] in
theorem iPts_blks (d : Dev nD) (f : Buf (Elt F) (iLoc d)) :
    (iLoc d ↦{fullShare} f : sProp 𝕄) = bigSep Finset.univ fun w : Fin 32 => iLoc d ↦[iBlk w]{fullShare} f := by
  have hc : (Finset.univ : Finset (Fin 32)).biUnion iBlk = Finset.univ := blk_cover (fun x : S4096.Idx => (x 0).val) fun x => (x 0).isLt
  refine Eq.trans ?_ (pointsTo_biUnion Finset.univ (ℓ := iLoc d) iBlk fun w _ w' _ h => blk_disjoint (fun x : S4096.Idx => (x 0).val) w w' h)
  rw [hc]; try rfl
omit [FloatOps F] in
theorem oPts_blks (d : Dev nD) (f : Buf (Elt F) (oLoc d)) :
    (oLoc d ↦{fullShare} f : sProp 𝕄) = bigSep Finset.univ fun w : Fin 32 => oPts d w f := by
  have hc : (Finset.univ : Finset (Fin 32)).biUnion oBlk = Finset.univ := blk_cover (fun x : S4096x2x128.Idx => (x 0).val) fun x => (x 0).isLt
  refine Eq.trans ?_ (pointsTo_biUnion Finset.univ (ℓ := oLoc d) oBlk fun w _ w' _ h => blk_disjoint (fun x : S4096x2x128.Idx => (x 0).val) w w' h)
  rw [hc]; try rfl
omit [FloatOps F] in
theorem pPts_blks (d : Dev nD) (f : Buf (Elt F) (pLoc d)) :
    (pLoc d ↦{fullShare} f : sProp 𝕄) = bigSep Finset.univ fun w : Fin 32 => pPts d w f := by
  have hc : (Finset.univ : Finset (Fin 32)).biUnion pBlk = Finset.univ := blk_cover (fun x : S4096x128.Idx => (x 0).val) fun x => (x 0).isLt
  refine Eq.trans ?_ (pointsTo_biUnion Finset.univ (ℓ := pLoc d) pBlk fun w _ w' _ h => blk_disjoint (fun x : S4096x128.Idx => (x 0).val) w w' h)
  rw [hc]; try rfl

/-- The (SparseCore, task) pairs are the 32 blocks. -/
def taskEquiv : Fin ((K (F := F)).nCore 0) × Fin ((K (F := F)).nSub 0) ≃ Fin 32 where
  toFun p := widOf p.1 p.2
  invFun w := (⟨w.val % 2, Nat.mod_lt _ (by decide)⟩, ⟨w.val / 2, show w.val / 2 < 16 by omega⟩)
  left_inv := fun ⟨c, i⟩ => by
    have hc : c.val < 2 := c.isLt
    refine Prod.ext (Fin.ext ?_) (Fin.ext ?_)
    · show (2 * i.val + c.val) % 2 = c.val; omega
    · show (2 * i.val + c.val) / 2 = i.val; omega
  right_inv := fun w => Fin.ext (show 2 * (w.val / 2) + w.val % 2 = w.val by omega)

theorem bigSep_tasks (Φ : Fin 32 → sProp 𝕄) :
    (bigSep Finset.univ fun c : Fin ((K (F := F)).nCore 0) => bigSep Finset.univ fun i : Fin ((K (F := F)).nSub 0) => Φ (widOf c i))
      = bigSep Finset.univ Φ := by
  rw [← bigSep_univ_prod fun p : Fin ((K (F := F)).nCore 0) × Fin ((K (F := F)).nSub 0) => Φ (widOf p.1 p.2)]
  exact (bigSep_univ_equiv taskEquiv Φ).symm

omit [FloatOps F] in
theorem xPts_shrs (d : Dev nD) (f : Buf (Elt F) (xLoc d)) :
    (xLoc d ↦{fullShare} f : sProp 𝕄) = bigSep Finset.univ fun w : Fin 32 => xLoc d ↦{shr w} f :=
  pointsTo_piecesOf Finset.univ f (by decide) fullShare
omit [FloatOps F] in
theorem yPts_shrs (d : Dev nD) (f : Buf (Elt F) (yLoc d)) :
    (yLoc d ↦{fullShare} f : sProp 𝕄) = bigSep Finset.univ fun w : Fin 32 => yLoc d ↦{shr w} f :=
  pointsTo_piecesOf Finset.univ f (by decide) fullShare

theorem st0_eq (d : Dev nD) : (bigSep Finset.univ fun c : Fin ((K (F := F)).nCore 0) => (P m hm).st 0 d c)
    = iprop((iLoc d ↦{fullShare} (ops m hm d).ci) ∗ (xLoc d ↦{fullShare} (ops m hm d).cx) ∗ (yLoc d ↦{fullShare} (ops m hm d).cy)
        ∗ (oLoc d ↦{fullShare} (ops m hm d).co) ∗ pLoc d ↦{fullShare} (ops m hm d).cp) := by
  refine (bigSep_tasks fun w => goR (ops m hm) d w).trans ?_
  rw [iPts_blks, oPts_blks, pPts_blks, xPts_shrs, yPts_shrs]
  rw [← bigSep_sep', ← bigSep_sep', ← bigSep_sep', ← bigSep_sep']
theorem dn0_eq (d : Dev nD) : (bigSep Finset.univ fun c : Fin ((K (F := F)).nCore 0) => (P m hm).dn 0 d c)
    = iprop((iLoc d ↦{fullShare} (ops m hm d).ci) ∗ (xLoc d ↦{fullShare} (ops m hm d).cx) ∗ (yLoc d ↦{fullShare} (ops m hm d).cy)
        ∗ (oLoc d ↦{fullShare} (ops m hm d).ro) ∗ pLoc d ↦{fullShare} (ops m hm d).rp) := by
  refine (bigSep_tasks fun w => tdR (ops m hm) d w).trans ?_
  rw [iPts_blks, oPts_blks, pPts_blks, xPts_shrs, yPts_shrs]
  rw [← bigSep_sep', ← bigSep_sep', ← bigSep_sep', ← bigSep_sep']

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hm).x q thr) = bigSep Finset.univ fun _ => iprop(emp) from
    bigSep_congr fun _ _ => bigSep_univ_of_subsingleton (0 : Fin 1), bigSep_emp']
  iempintro

/-! ## @main on the TensorCore -/

/-- The call's five arrays. -/
def five : Finset (DevRef τ sig) :=
  {Proc.devRef .tc main_v6, Proc.devRef .tc main_v0, Proc.devRef .tc main_v5, Proc.devRef .tc main_v7_0, Proc.devRef .tc main_v7_1}

theorem five_sub : five ⊆ ucRefs τ sig := by
  intro b hb
  simp only [five, Finset.mem_insert, Finset.mem_singleton] at hb
  rcases hb with rfl | rfl | rfl | rfl | rfl <;> exact Finset.mem_filter.mpr ⟨StableHlo.devRef_mem_tcRefs _, by decide⟩

omit [FloatOps F] in
theorem held_five (d : Dev nD) (W : Valuation τ sig (Elt F)) :
    (held (d.tc : Thread nD τ) five W : sProp 𝕄)
      = iprop((iLoc d ↦{fullShare} W (Proc.devRef .tc main_v6)) ∗ (xLoc d ↦{fullShare} W (Proc.devRef .tc main_v0)) ∗ (yLoc d ↦{fullShare} W (Proc.devRef .tc main_v5))
        ∗ (oLoc d ↦{fullShare} W (Proc.devRef .tc main_v7_0)) ∗ pLoc d ↦{fullShare} W (Proc.devRef .tc main_v7_1)) := by
  unfold held five
  rw [SparseCore.bigSep_insert' (by decide), SparseCore.bigSep_insert' (by decide), SparseCore.bigSep_insert' (by decide),
    SparseCore.bigSep_insert' (by decide), bigSep_singleton]

theorem held_VA (d : Dev nD) : (held (d.tc : Thread nD τ) (ucRefs τ sig) (VA m d) : sProp 𝕄)
    = iprop((bigSep Finset.univ fun c : Fin ((K (F := F)).nCore 0) => (P m hm).st 0 d c) ∗ held (d.tc : Thread nD τ) (ucRefs τ sig \ five) (VA m d)) := by
  rw [StableHlo.held_sub_split _ five_sub, held_five, st0_eq]; rfl

theorem held_VB (d : Dev nD) : (held (d.tc : Thread nD τ) (ucRefs τ sig) (VB m hm d) : sProp 𝕄)
    = iprop((bigSep Finset.univ fun c : Fin ((K (F := F)).nCore 0) => (P m hm).dn 0 d c) ∗ held (d.tc : Thread nD τ) (ucRefs τ sig \ five) (VA m d)) := by
  rw [StableHlo.held_sub_split _ five_sub, held_five, dn0_eq]
  have hrest : (held (d.tc : Thread nD τ) (ucRefs τ sig \ five) (VB m hm d) : sProp 𝕄) = held (d.tc : Thread nD τ) (ucRefs τ sig \ five) (VA m d) := by
    refine StableHlo.held_congr _ fun b hb => ?_
    have hb' := (Finset.mem_sdiff.mp hb).2
    unfold VB
    rw [Function.update_of_ne (fun e => hb' (by rw [e]; decide)), Function.update_of_ne (fun e => hb' (by rw [e]; decide))]
  rw [hrest]
  have e6 : VB m hm d (Proc.devRef .tc main_v6) = (ops m hm d).ci := by
    unfold VB; rw [Function.update_of_ne (by decide), Function.update_of_ne (by decide)]; rfl
  have e0 : VB m hm d (Proc.devRef .tc main_v0) = (ops m hm d).cx := by
    unfold VB; rw [Function.update_of_ne (by decide), Function.update_of_ne (by decide)]; rfl
  have e5 : VB m hm d (Proc.devRef .tc main_v5) = (ops m hm d).cy := by
    unfold VB; rw [Function.update_of_ne (by decide), Function.update_of_ne (by decide)]; rfl
  have eo : VB m hm d (Proc.devRef .tc main_v7_0) = (ops m hm d).ro := by
    unfold VB; rw [Function.update_of_ne (by decide), Function.update_self]
  have ep : VB m hm d (Proc.devRef .tc main_v7_1) = (ops m hm d).rp := by
    unfold VB; rw [Function.update_self]
  rw [e6, e0, e5, eo, ep]

abbrev FIN (d : Dev nD) : sProp 𝕄 := held (d.tc : Thread nD τ) (ucRefs τ sig) (VC m hm d)

theorem hmain (κ : GSem nD τ sig → ℕ) (d : Dev nD) :
    iprop((K (F := F)).ctx EH (P m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V0 m d) from
    unscopedBufs_held (Ix := HIx 1) (Name := ℕ) (U := UU) (Lvl := ℕ) d (V0 m d)]
  rw [main_chain]
  simp only [Pipeline.chain]
  iintro ⟨#Hctx, Hst, ⟨Hb, Hbufs, Hts, -⟩, -⟩
  iapply (StableHlo.wp_seq 𝒱 none Set.univ d (ucRefs τ sig) _ hostA
    (fun op h => sub_ucRefs op ((List.forall_iff_forall_mem.mp hostA_sub) op h)) (List.forall_iff_forall_mem.mp hostA_fresh) (V0 m d)) $$ [Hb Hbufs]
  · isplitl [Hb]; · iexact Hb
    iexact Hbufs
  iintro ⟨Hb, Hbufs⟩
  ihave Hbufs := (Entails.of_eq (held_VA m hm d)) $$ Hbufs
  icases Hbufs with ⟨Hfive, Hrest⟩
  rw [wp_bind]
  iapply ((K (F := F)).wp_run (D (F := F)) 𝒱 (EH := EH) (P := P m hm) κ d 0) $$ [Hst Hfive Hrest Hb Hts]
  isplitr; · iexact Hctx
  isplitl [Hst]; · iexact Hst
  isplitl [Hfive]; · iexact Hfive
  iintro ⟨Hst, Hdn⟩
  ihave Hbufs := (Entails.of_eq (held_VB m hm d).symm) $$ [Hdn Hrest]
  · isplitl [Hdn] <;> iassumption
  iapply (StableHlo.wp_seq 𝒱 none Set.univ d (ucRefs τ sig) _ hostB
    (fun op h => sub_ucRefs op ((List.forall_iff_forall_mem.mp hostB_sub) op h)) (List.forall_iff_forall_mem.mp hostB_fresh) (VB m hm d)) $$ [Hb Hbufs]
  · isplitl [Hb]; · iexact Hb
    iexact Hbufs
  iintro ⟨Hb, Hbufs⟩
  rw [wp_pure]
  imodintro
  isplitl [Hst]; · iexact Hst
  isplitr [Hb Hts]; · iexact Hbufs
  isplitl [Hb] <;> iassumption

/-! ## The run -/

def fq (d : Dev nD) (s' : Phys nD τ sig (Elt F)) : Prop := ∀ b ∈ ucRefs τ sig, s'.mem.mem (d, b) = VC m hm d b

theorem hfin (d : Dev nD) (s' : Phys nD τ sig (Elt F)) : iprop(FIN m hm d ∗ SI s') ⊢ (⌜fq m hm d s'⌝ : sProp 𝕄) := by
  iintro ⟨H, HSI⟩
  ihave H := (show (FIN m hm d : sProp 𝕄) ⊢ bigSep (ucRefs τ sig) (fun b => (d, b) ↦{fullShare} VC m hm d b) from .rfl) $$ H
  ihave H := (SI_pointsTo_bufs_agree (st := s') (c := d) (qs := fun _ => fullShare) (F := VC m hm d) (ucRefs τ sig)) $$ [HSI H]
  · isplitl [HSI] <;> iassumption
  iexact H

/-- Every array of @main ends at `VC`, and the semaphores at zero. -/
def QC : PUnit × MemSt nD τ sig (Elt F) → Prop := fun r => (∀ (d : Dev nD), ∀ b ∈ ucRefs τ sig, r.2.mem (d, b) = VC m hm d b) ∧ r.2.sem = fun _ => 0

omit [FloatOps F] in
theorem kfacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

theorem run_main [∀ e, Nonempty (Elt F e)] :
    θ_run (Cert.GatherIdeal.defs (F := F)) (Cert.GatherIdeal.threads (F := F)) ⟨m, fun _ => 0, ρ⟩ (QC m hm) :=
  SparseCore.Cfg.θ_run_sc_quiescent (K := K (F := F)) (D := D (F := F)) (𝒱 := 𝒱) (EH := EH) (P := P m hm) (A := ∅) kfacts v₀
    (fun q hq => match q with | 0 => nomatch hq)
    (fun q _ => match q with | 0 => tileObl m hm kfacts)
    (fun q _ => match q with | 0 => SparseCore.Cfg.VecSplit.of_plain (vecSplit m hm))
    m ρ main (fun _ => iprop(emp)) (FIN m hm) (u₀ (F := F)) (sep_elim_left.trans (hu₀ m hm)) (hmain m ρ hm) (fq m hm) (hfin m hm) (QC m hm) (fun _ h hz => ⟨h, hz⟩)

end Cert.Proof.GatherRun

end
-- ==== Proof.GatherMath.lean ====
/-
  Rows picked out of the batch's flattened row space, and the shape operations of the two programs that pick them,
  read at an index. Row `r` of the 16384 is token `r % 4096` of batch `r / 4096`.
-/
module

public import Idealize.ShloMosaic.Lib.ValueIdx
public import Idealize.ShloMosaic.Lib.Pipeline.Value

@[expose] public section

noncomputable section

namespace Cert.Proof.GatherMath

open Idealize.ShloMosaic Idealize.ShloMosaic.ValueIdx

variable {α : Type}

/-- The batch of a row. -/
def bat (r : Fin 16384) : Fin 4 := ⟨r.val / 4096, by omega⟩
/-- The token of a row. -/
def tok (r : Fin 16384) : Fin 4096 := ⟨r.val % 4096, Nat.mod_lt _ (by omega)⟩

/-- The rows `R` of a batched array of vectors. -/
def pick3 {c : Nat} (R : Fin 4 → Fin 1024 → Fin 16384) (x : (⟨3, ![4, 4096, c]⟩ : Shape).Idx → α) :
    (⟨3, ![4, 1024, c]⟩ : Shape).Idx → α :=
  fun j => x (ix3 (bat (R (j 0) (j 1))) (tok (R (j 0) (j 1))) (j 2))

/-- The entries `R` of a batched array. -/
def pick2 (R : Fin 4 → Fin 1024 → Fin 16384) (x : (⟨2, ![4, 4096]⟩ : Shape).Idx → α) : (⟨2, ![4, 1024]⟩ : Shape).Idx → α :=
  fun j => x (ix2 (bat (R (j 0) (j 1))) (tok (R (j 0) (j 1))))

/-- Entry `(b, s)` of a result in the flat order of the results. -/
def flat (b : Fin 4) (s : Fin 1024) : Fin 4096 := ⟨b.val * 1024 + s.val, by omega⟩

/-! ## The kernel's side -/

/-- The gathered feature rows, each as two halves, reshaped to the result. -/
theorem feats_eq (x : (⟨3, ![4, 4096, 256]⟩ : Shape).Idx → α) (row : Fin 4096 → Fin 16384)
    (h : (⟨3, ![4, 4096, 256]⟩ : Shape).ShapeCasts ⟨3, ![16384, 2, 128]⟩)
    (h' : (⟨3, ![4096, 2, 128]⟩ : Shape).ShapeCasts ⟨3, ![4, 1024, 256]⟩) :
    shapeCast ⟨3, ![4, 1024, 256]⟩
        (fun j : (⟨3, ![4096, 2, 128]⟩ : Shape).Idx => shapeCast ⟨3, ![16384, 2, 128]⟩ x h (ix3 (row (j 0)) (j 1) (j 2))) h'
      = pick3 (fun b s => row (flat b s)) x := by
  funext j
  obtain ⟨b, s, c, rfl⟩ : ∃ b s c, j = ix3 b s c := ⟨_, _, _, eq_ix3 j⟩
  refine (shapeCast_apply _ h' _ (ix3 (flat b s) ⟨c.val / 128, by omega⟩ ⟨c.val % 128, by omega⟩) ?_).trans ?_
  · rw [Shape.rowMajor_val_three, Shape.rowMajor_val_three]
    show ((b.val * 1024 + s.val) * 2 + c.val / 128) * 128 + c.val % 128 = (b.val * 1024 + s.val) * 256 + c.val
    omega
  · refine shapeCast_apply x h _ _ ?_
    rw [Shape.rowMajor_val_three, Shape.rowMajor_val_three]
    show ((row (flat b s)).val / 4096 * 4096 + (row (flat b s)).val % 4096) * 256 + c.val
      = ((row (flat b s)).val * 2 + c.val / 128) * 128 + c.val % 128
    omega

/-- The side table: position, then one more column, then padding. -/
def side (p : (⟨3, ![4, 4096, 3]⟩ : Shape).Idx → α) (q : (⟨3, ![4, 4096, 1]⟩ : Shape).Idx → α) (z : (⟨3, ![4, 4096, 124]⟩ : Shape).Idx → α)
    (h : Shape.Concatenates [⟨3, ![4, 4096, 3]⟩, ⟨3, ![4, 4096, 1]⟩, ⟨3, ![4, 4096, 124]⟩] ⟨3, ![4, 4096, 128]⟩ 2) : (⟨3, ![4, 4096, 128]⟩ : Shape).Idx → α :=
  concatenate ⟨3, ![4, 4096, 128]⟩ 2 [⟨⟨3, ![4, 4096, 3]⟩, p⟩, ⟨⟨3, ![4, 4096, 1]⟩, q⟩, ⟨⟨3, ![4, 4096, 124]⟩, z⟩] h

theorem side_pos (p : (⟨3, ![4, 4096, 3]⟩ : Shape).Idx → α) (q : (⟨3, ![4, 4096, 1]⟩ : Shape).Idx → α) (z : (⟨3, ![4, 4096, 124]⟩ : Shape).Idx → α)
    (h : Shape.Concatenates [⟨3, ![4, 4096, 3]⟩, ⟨3, ![4, 4096, 1]⟩, ⟨3, ![4, 4096, 124]⟩] ⟨3, ![4, 4096, 128]⟩ 2) (b : Fin 4) (n : Fin 4096) (c : Fin 3) :
    side p q z h (ix3 b n (⟨c.val, by omega⟩ : Fin 128)) = p (ix3 b n c) := by
  match c with
  | ⟨0, _⟩ => refine congrArg p (funext fun a => ?_); match a with | ⟨0, _⟩ => rfl | ⟨1, _⟩ => rfl | ⟨2, _⟩ => rfl
  | ⟨1, _⟩ => refine congrArg p (funext fun a => ?_); match a with | ⟨0, _⟩ => rfl | ⟨1, _⟩ => rfl | ⟨2, _⟩ => rfl
  | ⟨2, _⟩ => refine congrArg p (funext fun a => ?_); match a with | ⟨0, _⟩ => rfl | ⟨1, _⟩ => rfl | ⟨2, _⟩ => rfl

theorem side_cam (p : (⟨3, ![4, 4096, 3]⟩ : Shape).Idx → α) (q : (⟨3, ![4, 4096, 1]⟩ : Shape).Idx → α) (z : (⟨3, ![4, 4096, 124]⟩ : Shape).Idx → α)
    (h : Shape.Concatenates [⟨3, ![4, 4096, 3]⟩, ⟨3, ![4, 4096, 1]⟩, ⟨3, ![4, 4096, 124]⟩] ⟨3, ![4, 4096, 128]⟩ 2) (b : Fin 4) (n : Fin 4096) :
    side p q z h (ix3 b n (3 : Fin 128)) = q (ix3 b n (0 : Fin 1)) := by
  refine congrArg q (funext fun a => ?_); match a with | ⟨0, _⟩ => rfl | ⟨1, _⟩ => rfl | ⟨2, _⟩ => rfl

/-- A row of the flattened side table. -/
theorem side_row (y : (⟨3, ![4, 4096, 128]⟩ : Shape).Idx → α) (h : (⟨3, ![4, 4096, 128]⟩ : Shape).ShapeCasts ⟨2, ![16384, 128]⟩)
    (r : Fin 16384) (l : Fin 128) : shapeCast ⟨2, ![16384, 128]⟩ y h (ix2 r l) = y (ix3 (bat r) (tok r) l) := by
  refine shapeCast_apply y h _ _ ?_
  rw [Shape.rowMajor_val_three, Shape.rowMajor_val_two]
  show (r.val / 4096 * 4096 + r.val % 4096) * 128 + l.val = r.val * 128 + l.val
  omega

/-- Columns 0 to 2 of the gathered side rows, reshaped to the result. -/
theorem pos_eq (g : (⟨2, ![4096, 128]⟩ : Shape).Idx → α) (p : (⟨3, ![4, 4096, 3]⟩ : Shape).Idx → α) (R : Fin 4 → Fin 1024 → Fin 16384)
    (hs : (⟨2, ![4096, 128]⟩ : Shape).Slices ![0, 0] ⟨2, ![4096, 3]⟩) (h : (⟨2, ![4096, 3]⟩ : Shape).ShapeCasts ⟨3, ![4, 1024, 3]⟩)
    (hg : ∀ b s (c : Fin 3), g (ix2 (flat b s) (⟨c.val, by omega⟩ : Fin 128)) = p (ix3 (bat (R b s)) (tok (R b s)) c)) :
    shapeCast ⟨3, ![4, 1024, 3]⟩ (extractStridedSlice ⟨2, ![4096, 3]⟩ ![0, 0] g hs) h = pick3 R p := by
  funext j
  obtain ⟨b, s, c, rfl⟩ : ∃ b s c, j = ix3 b s c := ⟨_, _, _, eq_ix3 j⟩
  refine (shapeCast_apply _ h _ (ix2 (flat b s) c) ?_).trans ?_
  · rw [Shape.rowMajor_val_two, Shape.rowMajor_val_three]; rfl
  · refine Eq.trans ?_ (hg b s c)
    refine congrArg g (funext fun a => Fin.ext ?_)
    match a with
    | ⟨0, _⟩ => exact Nat.zero_add _
    | ⟨1, _⟩ => exact Nat.zero_add _

/-- Column 3 of the gathered side rows, mapped and reshaped to the result. -/
theorem cam_eq {β : Type} (g : (⟨2, ![4096, 128]⟩ : Shape).Idx → α) (f : α → β) (k : (⟨2, ![4, 4096]⟩ : Shape).Idx → β) (R : Fin 4 → Fin 1024 → Fin 16384)
    (hs : (⟨2, ![4096, 128]⟩ : Shape).Slices ![0, 3] ⟨2, ![4096, 1]⟩) (h : (⟨2, ![4096, 1]⟩ : Shape).ShapeCasts ⟨1, ![4096]⟩)
    (h' : (⟨1, ![4096]⟩ : Shape).ShapeCasts ⟨2, ![4, 1024]⟩)
    (hg : ∀ b s, f (g (ix2 (flat b s) (3 : Fin 128))) = k (ix2 (bat (R b s)) (tok (R b s)))) :
    shapeCast ⟨2, ![4, 1024]⟩ (fun i => f (shapeCast ⟨1, ![4096]⟩ (extractStridedSlice ⟨2, ![4096, 1]⟩ ![0, 3] g hs) h i)) h' = pick2 R k := by
  funext j
  obtain ⟨b, s, rfl⟩ : ∃ b s, j = ix2 b s := ⟨_, _, eq_ix2 j⟩
  refine (shapeCast_apply _ h' _ (ix1 (flat b s)) ?_).trans ?_
  · rw [Shape.rowMajor_val_one, Shape.rowMajor_val_two]; rfl
  · refine Eq.trans (congrArg f ?_) (hg b s)
    refine (shapeCast_apply _ h _ (ix2 (flat b s) (0 : Fin 1)) ?_).trans ?_
    · rw [Shape.rowMajor_val_two, Shape.rowMajor_val_one]; show (flat b s).val * 1 + 0 = (flat b s).val; omega
    · refine congrArg g (funext fun a => Fin.ext ?_)
      match a with
      | ⟨0, _⟩ => exact Nat.zero_add _
      | ⟨1, _⟩ => rfl

/-- An integer word is unchanged by the way to the reals and back. -/
theorem fptosi_sitofp (w : BitVec 32) : Ideal.fptosi 32 (((w.toInt : ℝ) : EReal)) = w := by
  rw [Ideal.fptosi, Ideal.toIntClamped_coe, Int.floor_intCast, Int.ceil_intCast, ite_self]
  have h1 := w.toInt_lt
  have h2 := w.le_toInt
  have e : max (-(2 ^ (32 - 1) : Nat) : Int) (min ((2 ^ (32 - 1) : Nat) - 1) w.toInt) = w.toInt := by
    norm_num at h1 h2 ⊢
    omega
  rw [e, BitVec.ofInt_toInt]

end Cert.Proof.GatherMath
-- ==== Proof.GatherRef.lean ====
/-
  What `GatherReferenceIdeal` computes, read at an index: each result is the argument's entries at the rows the index
  argument names, where every word of it is a row number.
-/
module

public import proofs.«01_k».proof.Proof.GatherMath
public import proofs.«01_k».proof.Proof.Gen.GatherReferenceIdeal.Run

@[expose] public section

noncomputable section

namespace Cert.Proof.GatherRef

open Idealize.ShloMosaic Idealize.ShloMosaic.ValueIdx Cert.Proof.GatherMath

variable {α : Type}

/-- The dimension numbers of `x[i]` for `x : [16384, c]` and `i : [4, 1024]`. -/
abbrev rowsDims (c : Nat) (wf : GatherDims.WF ⟨2, ![16384, c]⟩ ⟨3, ![4, 1024, 1]⟩ ⟨3, ![4, 1024, c]⟩ [2] [0] [] [0] [] 2 ![1, c]) :
    GatherDims ⟨2, ![16384, c]⟩ ⟨3, ![4, 1024, 1]⟩ ⟨3, ![4, 1024, c]⟩ where
  offsetDims := [2]
  collapsedSliceDims := [0]
  operandBatchingDims := []
  startIndicesBatchingDims := []
  startIndexMap := [0]
  indexVectorDim := 2
  sliceSizes := ![1, c]
  wf := wf

/-- That gather at `(b, s, k)`: column `k` of the row the index names, read signed and clamped. -/
theorem gather_rows_apply {c : Nat} (wf : GatherDims.WF ⟨2, ![16384, c]⟩ ⟨3, ![4, 1024, 1]⟩ ⟨3, ![4, 1024, c]⟩ [2] [0] [] [0] [] 2 ![1, c])
    (x : (⟨2, ![16384, c]⟩ : Shape).Idx → α) (idx : IVec ⟨3, ![4, 1024, 1]⟩ 32) (b : Fin 4) (s : Fin 1024) (k : Fin c) :
    Host.gather (rowsDims c wf) x idx (ix3 b s k)
      = x (ix2 (⟨min (idx (ix3 b s (0 : Fin 1))).toInt.toNat 16383, by omega⟩ : Fin 16384) k) := by
  unfold Host.gather
  congr 1
  funext a
  refine Fin.ext ?_
  show (rowsDims c wf).start (ix3 b s k) idx a + (rowsDims c wf).batchCoord (ix3 b s k) a + (rowsDims c wf).offCoord (ix3 b s k) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims c wf).startIndexMap from List.mem_singleton.mpr rfl)]
    have hsi : (rowsDims c wf).siIdx (ix3 b s k) ⟨List.idxOf (0 : Fin 2) (rowsDims c wf).startIndexMap,
        List.idxOf_lt_length_iff.2 (List.mem_singleton.mpr rfl)⟩ = ix3 b s (0 : Fin 1) := by
      funext a'; refine Fin.ext ?_
      match a' with
      | ⟨0, _⟩ => rfl
      | ⟨1, _⟩ => rfl
      | ⟨2, _⟩ => rfl
    rw [hsi]
    rfl
  · have hs : (rowsDims c wf).start (ix3 b s k) idx 1 = 0 := by
      unfold GatherDims.start
      rw [dif_neg (show (1 : Fin 2) ∉ (rowsDims c wf).startIndexMap by simp)]
    rw [hs, Nat.zero_add]
    rfl

/-- The index array as the gathers take it: a negative word counts from the end. -/
def wrapped (V : IVec ⟨2, ![4, 1024]⟩ 32) (hb : (⟨0, ![]⟩ : Shape).BroadcastsInDim ⟨2, ![4, 1024]⟩ ![])
    (hc : (⟨2, ![4, 1024]⟩ : Shape).BroadcastsInDim ⟨3, ![4, 1024, 1]⟩ ![0, 1]) : IVec ⟨3, ![4, 1024, 1]⟩ 32 :=
  broadcastInDim ⟨3, ![4, 1024, 1]⟩ ![0, 1] hc
    (select (cmpi .slt V (broadcastInDim ⟨2, ![4, 1024]⟩ ![] hb (constantI ⟨0, ![]⟩ 32 0#32)))
      (addi V (broadcastInDim ⟨2, ![4, 1024]⟩ ![] hb (constantI ⟨0, ![]⟩ 32 16384#32))) V)

/-- A word that is a row number is taken as it is. -/
theorem wrapped_apply (V : IVec ⟨2, ![4, 1024]⟩ 32) (hb : (⟨0, ![]⟩ : Shape).BroadcastsInDim ⟨2, ![4, 1024]⟩ ![])
    (hc : (⟨2, ![4, 1024]⟩ : Shape).BroadcastsInDim ⟨3, ![4, 1024, 1]⟩ ![0, 1]) (b : Fin 4) (s : Fin 1024) (h : (V (ix2 b s)).toNat < 16384) :
    wrapped V hb hc (ix3 b s (0 : Fin 1)) = V (ix2 b s) := by
  have e : wrapped V hb hc (ix3 b s (0 : Fin 1))
      = Scalar.select (IntOp.cmpi .slt (V (ix2 b s)) 0#32) (IntOp.addi (V (ix2 b s)) 16384#32) (V (ix2 b s)) := by
    refine (broadcastInDim_apply _ hc _ _ (ix2 b s) fun a => ?_).trans rfl
    match a with
    | ⟨0, _⟩ => rfl
    | ⟨1, _⟩ => rfl
  have hn : (V (ix2 b s)).slt 0#32 = false := by
    rw [BitVec.slt_eq_decide, decide_eq_false_iff_not, BitVec.toInt_eq_toNat_cond]
    simp only [BitVec.toInt_zero]
    split <;> omega
  rw [e]
  simp only [IntOp.cmpi, hn]
  rfl

/-- The signed reading of a row number, clamped to the rows, is the number. -/
theorem clamp_row (w : BitVec 32) (h : w.toNat < 16384) : min w.toInt.toNat 16383 = w.toNat := by
  rw [BitVec.toInt_eq_toNat_cond, if_pos (by omega)]
  omega

theorem rows_eq {c : Nat} (wf : GatherDims.WF ⟨2, ![16384, c]⟩ ⟨3, ![4, 1024, 1]⟩ ⟨3, ![4, 1024, c]⟩ [2] [0] [] [0] [] 2 ![1, c])
    (x : (⟨3, ![4, 4096, c]⟩ : Shape).Idx → α) (hx : (⟨3, ![4, 4096, c]⟩ : Shape).ShapeCasts ⟨2, ![16384, c]⟩)
    (V : IVec ⟨2, ![4, 1024]⟩ 32) (hb : (⟨0, ![]⟩ : Shape).BroadcastsInDim ⟨2, ![4, 1024]⟩ ![])
    (hc : (⟨2, ![4, 1024]⟩ : Shape).BroadcastsInDim ⟨3, ![4, 1024, 1]⟩ ![0, 1]) (hV : ∀ b s, (V (ix2 b s)).toNat < 16384) :
    Host.gather (rowsDims c wf) (shapeCast ⟨2, ![16384, c]⟩ x hx) (wrapped V hb hc) = pick3 (fun b s => ⟨(V (ix2 b s)).toNat, hV b s⟩) x := by
  funext j
  obtain ⟨b, s, k, rfl⟩ : ∃ b s k, j = ix3 b s k := ⟨_, _, _, eq_ix3 j⟩
  rw [gather_rows_apply]
  refine shapeCast_apply x hx _ _ ?_
  rw [Shape.rowMajor_val_three, Shape.rowMajor_val_two]
  show ((V (ix2 b s)).toNat / 4096 * 4096 + (V (ix2 b s)).toNat % 4096) * c + k.val
    = min (wrapped V hb hc (ix3 b s (0 : Fin 1))).toInt.toNat 16383 * c + k.val
  rw [wrapped_apply V hb hc b s (hV b s), clamp_row _ (hV b s)]
  congr 2
  omega

theorem ids_eq (wf : GatherDims.WF ⟨1, ![16384]⟩ ⟨3, ![4, 1024, 1]⟩ ⟨2, ![4, 1024]⟩ [] [0] [] [0] [] 2 ![1])
    (x : (⟨2, ![4, 4096]⟩ : Shape).Idx → α) (hx : (⟨2, ![4, 4096]⟩ : Shape).ShapeCasts ⟨1, ![16384]⟩)
    (V : IVec ⟨2, ![4, 1024]⟩ 32) (hb : (⟨0, ![]⟩ : Shape).BroadcastsInDim ⟨2, ![4, 1024]⟩ ![])
    (hc : (⟨2, ![4, 1024]⟩ : Shape).BroadcastsInDim ⟨3, ![4, 1024, 1]⟩ ![0, 1]) (hV : ∀ b s, (V (ix2 b s)).toNat < 16384) :
    Host.gather (takeDims 16384 4 1024 wf) (shapeCast ⟨1, ![16384]⟩ x hx) (wrapped V hb hc) = pick2 (fun b s => ⟨(V (ix2 b s)).toNat, hV b s⟩) x := by
  funext j
  obtain ⟨b, s, rfl⟩ : ∃ b s, j = ix2 b s := ⟨_, _, eq_ix2 j⟩
  rw [gather_take_apply (by omega)]
  refine shapeCast_apply x hx _ _ ?_
  rw [Shape.rowMajor_val_two, Shape.rowMajor_val_one]
  have ht : takeIdx (ix2 b s) = ix3 b s (0 : Fin 1) := by
    funext a; match a with | ⟨0, _⟩ => rfl | ⟨1, _⟩ => rfl | ⟨2, _⟩ => rfl
  show (V (ix2 b s)).toNat / 4096 * 4096 + (V (ix2 b s)).toNat % 4096 = min (wrapped V hb hc (takeIdx (ix2 b s))).toInt.toNat (16384 - 1)
  rw [ht, wrapped_apply V hb hc b s (hV b s)]
  have := clamp_row _ (hV b s)
  omega

/-! ## The program's run -/

open Cert.GatherReferenceIdeal Cert.GatherReferenceIdeal.Gen Idealize.SL.Sem

/-- The index argument as rows. -/
def rows (i : S4x1024x1.Idx → BitVec 32) (hi : ∀ j, (i j).toNat < 16384) : Fin 4 → Fin 1024 → Fin 16384 :=
  fun b s => ⟨(i (ix3 b s (0 : Fin 1))).toNat, hi _⟩

theorem cast_rows (i : S4x1024x1.Idx → BitVec 32) (h : S4x1024x1.ShapeCasts S4x1024) (b : Fin 4) (s : Fin 1024) :
    shapeCast S4x1024 i h (ix2 b s) = i (ix3 b s (0 : Fin 1)) := by
  refine shapeCast_apply i h _ _ ?_
  rw [Shape.rowMajor_val_three, Shape.rowMajor_val_two]
  show (b.val * 1024 + s.val) * 1 + 0 = b.val * 1024 + s.val
  omega

variable {F : FTy → Type} [FloatOps F]

/-- Every run ends with the three results at the named rows, the arguments unchanged. -/
theorem run (m : (ℓ : Loc nD τ sig) → Buf (Elt F) ℓ) (ρ : Dev nD → PrngReg)
    (hm : ∀ (c : Dev nD) j, ((m ((c.tc : Thread nD τ).loc main_arg3) : S4x1024x1.Idx → BitVec 32) j).toNat < 16384) :
    θ_run defs (onTc (τ := τ) (main (F := F))) ⟨m, fun _ => 0, ρ⟩ fun r => ∀ c : Dev nD,
      r.2.mem ((c.tc : Thread nD τ).loc main_v8) = pick3 (rows (m ((c.tc : Thread nD τ).loc main_arg3)) (hm c)) (m ((c.tc : Thread nD τ).loc main_arg0))
      ∧ r.2.mem ((c.tc : Thread nD τ).loc main_v16) = pick3 (rows (m ((c.tc : Thread nD τ).loc main_arg3)) (hm c)) (m ((c.tc : Thread nD τ).loc main_arg1))
      ∧ r.2.mem ((c.tc : Thread nD τ).loc main_v24) = pick2 (rows (m ((c.tc : Thread nD τ).loc main_arg3)) (hm c)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hR : ∀ (c : Dev nD) (H : ∀ b s, (shapeCast S4x1024 (m ((c.tc : Thread nD τ).loc main_arg3) : S4x1024x1.Idx → BitVec 32) shapeCasts_S4x1024x1_S4x1024 (ix2 b s)).toNat < 16384),
      (fun b s => (⟨(shapeCast S4x1024 (m ((c.tc : Thread nD τ).loc main_arg3) : S4x1024x1.Idx → BitVec 32) shapeCasts_S4x1024x1_S4x1024 (ix2 b s)).toNat, H b s⟩ : Fin 16384))
        = rows (m ((c.tc : Thread nD τ).loc main_arg3)) (hm c) := fun c H => by
    funext b s
    exact Fin.ext (congrArg (fun v : BitVec 32 => v.toNat) (cast_rows (m ((c.tc : Thread nD τ).loc main_arg3)) shapeCasts_S4x1024x1_S4x1024 b s) :)
  have hV : ∀ (c : Dev nD) b s, (shapeCast S4x1024 (m ((c.tc : Thread nD τ).loc main_arg3) : S4x1024x1.Idx → BitVec 32) shapeCasts_S4x1024x1_S4x1024 (ix2 b s)).toNat < 16384 :=
    fun c b s => by rw [cast_rows]; exact hm c _
  refine (θ_run defs _ _).mono (fun _ h c => ?_) (Value.run m ρ)
  obtain ⟨h0, h1, h2, h3, h4, h5, h6⟩ := h c
  refine ⟨h0.trans ?_, h1.trans ?_, h2.trans ?_, h3, h4, h5, h6⟩
  · exact (rows_eq _ _ _ _ _ _ (hV c)).trans (by rw [hR])
  · exact (rows_eq _ _ _ _ _ _ (hV c)).trans (by rw [hR])
  · exact (ids_eq _ _ _ _ _ _ (hV c)).trans (by rw [hR])

end Cert.Proof.GatherRef
-- ==== Proof.GatherValue.lean ====
/-
  What `GatherIdeal`'s run leaves: the arguments as they were, and at the ideal instance the three results at the rows
  the index argument names. The precondition gives the run what it asks.
-/
module

public import proofs.«01_k».proof.Defs
public import proofs.«01_k».proof.Proof.GatherRun
public import proofs.«01_k».proof.Proof.GatherRef

@[expose] public section

set_option maxRecDepth 16384

noncomputable section

namespace Cert.Proof.GatherValue

open Idealize.ShloMosaic Idealize.ShloMosaic.ValueIdx Cert.Proof.GatherMath Cert.Proof.GatherRun
open Cert.GatherIdeal Cert.GatherIdeal.Gen
open Idealize.ShloMosaic.StableHlo (after)
open Idealize.SL.Sem

/-! ## The precondition -/

theorem andi_ofBool (p q : Bool) : IntOp.andi (BitVec.ofBool p) (BitVec.ofBool q) = BitVec.ofBool (p && q) := by
  cases p <;> cases q <;> decide

theorem ofBool_eq_one (p : Bool) : BitVec.ofBool p = 1#1 ↔ p = true := by cases p <;> decide

theorem lt_of_bits (w : BitVec 32) (e : IntOp.andi (IntOp.cmpi .sge w 0#32) (IntOp.cmpi .slt w 16384#32) = 1#1) : w.toNat < 16384 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition at an index word. -/
theorem rows_of_pre {F : FTy → Type} [FloatOps F] [Cert.Pre_inds_in_rows.Facts] {x : FVec F S4x4096x256 .f32} {p : FVec F S4x4096x3 .f32} {k : IVec S4x4096 32}
    {i : IVec S4x1024x1 32} (h : Cert.Pre_inds_in_rows.fn x p k i = fun _ => 1#1) (j : S4x1024x1.Idx) : (i j).toNat < 16384 :=
  lt_of_bits _ (congrFun h j)

/-! ## The arguments at the end -/

variable {F : FTy → Type} [FloatOps F] (m : (ℓ : Loc nD τ sig) → Buf (Elt F) ℓ) (hm : PreOK m)

/-- What the operations before the call write. -/
abbrev writesA : List (Ref sig .tc) := [main_v0, main_v1, main_v2, main_cst, main_v3, main_v4, main_v5, main_v6]
/-- What the operations after the call write. -/
abbrev writesB : List (Ref sig .tc) := [main_v8, main_v9, main_v10, main_v11, main_v12, main_v13, main_v14]

theorem VB_of_ne (d : Dev nD) {r : Ref sig .tc} (h0 : r ≠ main_v7_0) (h1 : r ≠ main_v7_1) :
    VB m hm d (Proc.devRef .tc r) = VA m d (Proc.devRef .tc r) := by
  unfold VB
  rw [Function.update_of_ne fun e => h1 (Proc.devRef_injective _ e), Function.update_of_ne fun e => h0 (Proc.devRef_injective _ e)]

/-- An array that no operation and no copy writes ends as it began. -/
theorem VC_unwritten (d : Dev nD) {r : Ref sig .tc} (hA : r ∉ writesA) (hB : r ∉ writesB) (h0 : r ≠ main_v7_0) (h1 : r ≠ main_v7_1) :
    VC m hm d (Proc.devRef .tc r) = m (d, Proc.devRef .tc r) :=
  (StableHlo.after_of_writes_sub hostB _ (StableHlo.forall_writes_sub_of_map (W := writesB) rfl) hB).trans <|
    (VB_of_ne m hm d h0 h1).trans <|
      StableHlo.after_of_writes_sub hostA _ (StableHlo.forall_writes_sub_of_map (W := writesA) rfl) hA

/-! ## The results at the end -/

theorem VB_ro (d : Dev nD) : VB m hm d (Proc.devRef .tc main_v7_0) = (ops m hm d).ro := by
  unfold VB
  rw [Function.update_of_ne fun e => absurd (Proc.devRef_injective _ e) (by decide), Function.update_self]

theorem VB_rp (d : Dev nD) : VB m hm d (Proc.devRef .tc main_v7_1) = (ops m hm d).rp := by
  unfold VB
  rw [Function.update_self]

/-- The feature table. -/
theorem VA_v0 (d : Dev nD) : VA m d (Proc.devRef .tc main_v0) = shapeCast S16384x2x128 (m ((d.tc : Thread nD τ).loc main_arg0) : S4x4096x256.Idx → Elt F .f32) shapeCasts_S4x4096x256_S16384x2x128 := by
  after_results
  rfl

/-- The camera column of the side table. -/
def camCol (k : S4x4096.Idx → BitVec 32) : S4x4096x1.Idx → Elt F .f32 :=
  broadcastInDim S4x4096x1 ![0, 1] bcast_S4x4096_S4x4096x1_0_1 (sitofp .f32 k : FVec F S4x4096 .f32)

/-- The padding of the side table. -/
def pad : S4x4096x124.Idx → Elt F .f32 := broadcastInDim S4x4096x124 ![] bcast_S_S4x4096x124 (constant S_ .f32 0x00000000#32 : FVec F S_ .f32)

/-- The side table. -/
theorem VA_v5 (d : Dev nD) : VA m d (Proc.devRef .tc main_v5)
    = shapeCast S16384x128 (side (m ((d.tc : Thread nD τ).loc main_arg1) : S4x4096x3.Idx → Elt F .f32) (camCol (m ((d.tc : Thread nD τ).loc main_arg2))) pad
        concatenates_S4x4096x3_S4x4096x1_S4x4096x124_S4x4096x128_d2) shapeCasts_S4x4096x128_S16384x128 := by
  after_results
  rfl

/-- The list. -/
theorem row_flat (d : Dev nD) (b : Fin 4) (s : Fin 1024) :
    (ops m hm d).row (flat b s) = GatherRef.rows (m ((d.tc : Thread nD τ).loc main_arg3)) (hm d) b s := by
  refine Fin.ext ?_
  show (VA m d (Proc.devRef .tc main_v6) (fun | 0 => flat b s) : BitVec 32).toNat = ((m ((d.tc : Thread nD τ).loc main_arg3) : S4x1024x1.Idx → BitVec 32) (ix3 b s (0 : Fin 1))).toNat
  rw [VA_v6]
  refine congrArg (fun j => ((m ((d.tc : Thread nD τ).loc main_arg3) : S4x1024x1.Idx → BitVec 32) j).toNat) (Shape.reshapeEquiv_eq_of_rowMajor _ ?_)
  rw [Shape.rowMajor_val_three, Shape.rowMajor_val_one]
  show (b.val * 1024 + s.val) * 1 + 0 = b.val * 1024 + s.val
  omega

theorem rows_flat (d : Dev nD) : (fun b s => (ops m hm d).row (flat b s)) = GatherRef.rows (m ((d.tc : Thread nD τ).loc main_arg3)) (hm d) := by
  funext b s; exact row_flat m hm d b s

theorem VC_v8 (d : Dev nD) : VC m hm d (Proc.devRef .tc main_v8)
    = pick3 (GatherRef.rows (m ((d.tc : Thread nD τ).loc main_arg3)) (hm d)) (m ((d.tc : Thread nD τ).loc main_arg0) : S4x4096x256.Idx → Elt F .f32) := by
  rw [← rows_flat m hm d]
  refine Eq.trans ?_ (feats_eq (m ((d.tc : Thread nD τ).loc main_arg0) : S4x4096x256.Idx → Elt F .f32) (ops m hm d).row shapeCasts_S4x4096x256_S16384x2x128
    shapeCasts_S4096x2x128_S4x1024x256)
  after_results
  rw [VB_ro]
  refine congrArg (fun g => shapeCast S4x1024x256 g shapeCasts_S4096x2x128_S4x1024x256) (funext fun j => ?_)
  show VA m d (Proc.devRef .tc main_v0) _ = _
  rw [VA_v0]
  refine congrArg _ (funext fun a => ?_)
  match a with
  | ⟨0, _⟩ => rfl
  | ⟨1, _⟩ => rfl
  | ⟨2, _⟩ => rfl

/-- A gathered side row. -/
theorem rp_at (d : Dev nD) (b : Fin 4) (s : Fin 1024) (l : Fin 128) : (ops m hm d).rp (ix2 (flat b s) l)
    = side (m ((d.tc : Thread nD τ).loc main_arg1) : S4x4096x3.Idx → Elt F .f32) (camCol (m ((d.tc : Thread nD τ).loc main_arg2))) pad
        concatenates_S4x4096x3_S4x4096x1_S4x4096x124_S4x4096x128_d2
        (ix3 (bat (GatherRef.rows (m ((d.tc : Thread nD τ).loc main_arg3)) (hm d) b s)) (tok (GatherRef.rows (m ((d.tc : Thread nD τ).loc main_arg3)) (hm d) b s)) l) := by
  rw [← row_flat m hm d]
  refine Eq.trans ?_ (side_row _ shapeCasts_S4x4096x128_S16384x128 _ _)
  show VA m d (Proc.devRef .tc main_v5) _ = _
  rw [VA_v5]
  refine congrArg _ (funext fun a => ?_)
  match a with
  | ⟨0, _⟩ => rfl
  | ⟨1, _⟩ => rfl

theorem VC_v10 (d : Dev nD) : VC m hm d (Proc.devRef .tc main_v10)
    = pick3 (GatherRef.rows (m ((d.tc : Thread nD τ).loc main_arg3)) (hm d)) (m ((d.tc : Thread nD τ).loc main_arg1) : S4x4096x3.Idx → Elt F .f32) := by
  refine Eq.trans ?_ (pos_eq (ops m hm d).rp _ _ slices_S4096x128_S4096x3_0_0 shapeCasts_S4096x3_S4x1024x3 fun b s c => (rp_at m hm d b s _).trans (side_pos _ _ _ _ _ _ c))
  after_results
  rw [VB_rp]
  rfl

end Cert.Proof.GatherValue

namespace Cert.Proof.GatherValue

open Idealize.ShloMosaic Idealize.ShloMosaic.ValueIdx Cert.Proof.GatherMath Cert.Proof.GatherRun
open Cert.GatherIdeal Cert.GatherIdeal.Gen

variable (m : (ℓ : Loc nD τ sig) → Buf (Elt Ideal) ℓ) (hm : PreOK m)

theorem VC_v14 (d : Dev nD) : VC m hm d (Proc.devRef .tc main_v14)
    = pick2 (GatherRef.rows (m ((d.tc : Thread nD τ).loc main_arg3)) (hm d)) (m ((d.tc : Thread nD τ).loc main_arg2) : S4x4096.Idx → BitVec 32) := by
  refine Eq.trans ?_ (cam_eq (ops m hm d).rp (Ideal.fptosi 32) _ _ slices_S4096x128_S4096x1_0_3 shapeCasts_S4096x1_S4096 shapeCasts_S4096_S4x1024
    fun b s => (congrArg (Ideal.fptosi 32) ((rp_at m hm d b s _).trans (side_cam _ _ _ _ _ _))).trans ?_)
  · after_results
    rw [VB_rp]
    rfl
  · refine Eq.trans (congrArg (Ideal.fptosi 32) ?_) (fptosi_sitofp _)
    refine (broadcastInDim_apply _ bcast_S4x4096_S4x4096x1_0_1 _ _ (ix2 _ _) fun a => ?_).trans rfl
    match a with
    | ⟨0, _⟩ => rfl
    | ⟨1, _⟩ => rfl

end Cert.Proof.GatherValue
-- ==== Proof.GatherClaims.lean ====
/-
  The claims about the gather: it runs at the machine's floats and at the ideal ones, leaves its arguments alone, and at
  the ideal ones leaves what its reference leaves.
-/
module

public import proofs.«01_k».proof.Proof.GatherValue
public import proofs.«01_k».proof.Proof.Gen.Gather
public import proofs.«01_k».proof.Proof.Gen.Pre_inds_in_rows

@[expose] public section

set_option maxRecDepth 16384

noncomputable section

namespace Cert.Proof.GatherClaims

open Idealize.ShloMosaic Idealize.SL.Sem Cert.Proof.GatherRun Cert.Proof.GatherValue

section

open Cert.GatherIdeal Cert.GatherIdeal.Gen
open Idealize.ShloMosaic.Pipeline (ucRefs)

theorem mem_uc (r : Ref sig .tc) (h : (Proc.devRef (τ := τ) .tc r).isScoped = false) : Proc.devRef (τ := τ) .tc r ∈ ucRefs τ sig :=
  Finset.mem_filter.mpr ⟨StableHlo.devRef_mem_tcRefs _, by simpa using h⟩

variable {F : FTy → Type} [FloatOps F] [∀ e, Nonempty (Elt F e)] (m : (ℓ : Loc nD τ sig) → Buf (Elt F) ℓ) (ρ : Dev nD → PrngReg) (hm : PreOK m)

/-! The run at any floats: the arguments unchanged, the counters at zero. -/
include hm in
theorem frame : θ_run (Cert.GatherIdeal.defs (F := F)) (Cert.GatherIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c _ (mem_uc main_arg0 rfl)).trans (VC_unwritten m hm c (by decide) (by decide) (by decide) (by decide)),
      (h.1 c _ (mem_uc main_arg1 rfl)).trans (VC_unwritten m hm c (by decide) (by decide) (by decide) (by decide)),
      (h.1 c _ (mem_uc main_arg2 rfl)).trans (VC_unwritten m hm c (by decide) (by decide) (by decide) (by decide)),
      (h.1 c _ (mem_uc main_arg3 rfl)).trans (VC_unwritten m hm c (by decide) (by decide) (by decide) (by decide))⟩, h.2⟩) (run_main m ρ hm)

end

theorem quiescent_gatherIdeal : Cert.quiescent_GatherIdeal :=
  fun m ρ h => frame m ρ fun d j => rows_of_pre (h d) j

theorem quiescent_gather : Cert.quiescent_Gather :=
  fun m ρ h => frame (F := Bits) m ρ fun d j => rows_of_pre (h d) j

theorem quiescent_gatherReferenceIdeal : Cert.quiescent_GatherReferenceIdeal := fun m ρ _ =>
  (θ_run Cert.GatherReferenceIdeal.defs _ _).mono (fun r h => ⟨fun c => (h c).2.2.2, sem_eq_zero_of_no_sems (by decide) r.2⟩)
    (Cert.GatherReferenceIdeal.Value.run m ρ)

theorem algebraic_gather : Cert.algebraic_GatherIdeal_GatherReferenceIdeal := fun m ρ m' ρ' hp ha => by
  have hm : PreOK m := fun d j => rows_of_pre (hp d) j
  have hm' : ∀ (c : Dev Cert.GatherReferenceIdeal.nD) j, ((m' ((c.tc : Thread Cert.GatherReferenceIdeal.nD Cert.GatherReferenceIdeal.τ).loc Cert.GatherReferenceIdeal.main_arg3) : Cert.GatherReferenceIdeal.S4x1024x1.Idx → BitVec 32) j).toNat < 16384 := fun c j => by
    rw [(ha c).2.2.2]; exact hm c j
  refine ⟨fun c => GatherMath.pick3 (GatherRef.rows (m ((c.tc : Thread Cert.GatherIdeal.nD Cert.GatherIdeal.τ).loc Cert.GatherIdeal.main_arg3)) (hm c)) (m ((c.tc : Thread Cert.GatherIdeal.nD Cert.GatherIdeal.τ).loc Cert.GatherIdeal.main_arg0)),
    fun c => GatherMath.pick3 (GatherRef.rows (m ((c.tc : Thread Cert.GatherIdeal.nD Cert.GatherIdeal.τ).loc Cert.GatherIdeal.main_arg3)) (hm c)) (m ((c.tc : Thread Cert.GatherIdeal.nD Cert.GatherIdeal.τ).loc Cert.GatherIdeal.main_arg1)),
    fun c => GatherMath.pick2 (GatherRef.rows (m ((c.tc : Thread Cert.GatherIdeal.nD Cert.GatherIdeal.τ).loc Cert.GatherIdeal.main_arg3)) (hm c)) (m ((c.tc : Thread Cert.GatherIdeal.nD Cert.GatherIdeal.τ).loc Cert.GatherIdeal.main_arg2)), (θ_run _ _ _).mono (fun r h c => ?_) (run_main m ρ hm), (θ_run _ _ _).mono (fun r h c => ?_) (GatherRef.run m' ρ' hm')⟩
  · exact ⟨(h.1 c _ (mem_uc Cert.GatherIdeal.main_v8 rfl)).trans (VC_v8 m hm c), (h.1 c _ (mem_uc Cert.GatherIdeal.main_v10 rfl)).trans (VC_v10 m hm c),
      (h.1 c _ (mem_uc Cert.GatherIdeal.main_v14 rfl)).trans (VC_v14 m hm c),
      (h.1 c _ (mem_uc Cert.GatherIdeal.main_arg0 rfl)).trans (VC_unwritten m hm c (by decide) (by decide) (by decide) (by decide)),
      (h.1 c _ (mem_uc Cert.GatherIdeal.main_arg1 rfl)).trans (VC_unwritten m hm c (by decide) (by decide) (by decide) (by decide)),
      (h.1 c _ (mem_uc Cert.GatherIdeal.main_arg2 rfl)).trans (VC_unwritten m hm c (by decide) (by decide) (by decide) (by decide)),
      (h.1 c _ (mem_uc Cert.GatherIdeal.main_arg3 rfl)).trans (VC_unwritten m hm c (by decide) (by decide) (by decide) (by decide))⟩
  · obtain ⟨h0, h1, h2, h3⟩ := h c
    obtain ⟨a0, a1, a2, a3⟩ := ha c
    have hR : GatherRef.rows (m' ((c.tc : Thread Cert.GatherReferenceIdeal.nD Cert.GatherReferenceIdeal.τ).loc Cert.GatherReferenceIdeal.main_arg3)) (hm' c)
        = GatherRef.rows (m ((c.tc : Thread Cert.GatherIdeal.nD Cert.GatherIdeal.τ).loc Cert.GatherIdeal.main_arg3)) (hm c) := by
      funext b s; exact Fin.ext (congrArg (fun i : Cert.GatherReferenceIdeal.S4x1024x1.Idx → BitVec 32 => (i (ValueIdx.ix3 b s (0 : Fin 1))).toNat) a3)
    rw [hR] at h0 h1 h2
    exact ⟨h0.trans (congrArg _ a0), h1.trans (congrArg _ a1), h2.trans (congrArg _ a2), h3⟩

end Cert.Proof.GatherClaims
-- ==== Proof.OrderMath.lean ====
/-
  Order statistics of a finite family of extended reals: the `i`-th smallest entry as a property, the minimum taken out
  round by round with its multiplicity, and the positions a stable sort by "greater" puts first.
-/
module

public import Idealize.ShloMosaic.Lib.ValueIdx
public import Idealize.ShloMosaic.Lib.SortFacts

@[expose] public section

noncomputable section

namespace Cert.Proof.OrderMath

open Idealize.ShloMosaic

variable {n : ℕ}

/-! ## The `i`-th smallest -/

/-- `v` is the `i`-th smallest of the family, counted from zero and with repetition. -/
def IsNth (f : Fin n → EReal) (i : ℕ) (v : EReal) : Prop :=
  (Finset.univ.filter fun k => f k < v).card ≤ i ∧ i < (Finset.univ.filter fun k => f k ≤ v).card

theorem IsNth.not_lt {f : Fin n → EReal} {i : ℕ} {v w : EReal} (hv : IsNth f i v) (hw : IsNth f i w) : ¬ v < w := by
  intro h
  have hsub : (Finset.univ.filter fun k => f k ≤ v) ⊆ Finset.univ.filter fun k => f k < w := fun k hk =>
    Finset.mem_filter.mpr ⟨Finset.mem_univ _, lt_of_le_of_lt (Finset.mem_filter.mp hk).2 h⟩
  have := Finset.card_le_card hsub
  have h1 := hv.2
  have h2 := hw.1
  omega

theorem IsNth.unique {f : Fin n → EReal} {i : ℕ} {v w : EReal} (hv : IsNth f i v) (hw : IsNth f i w) : v = w :=
  le_antisymm (_root_.not_lt.mp (hw.not_lt hv)) (_root_.not_lt.mp (hv.not_lt hw))

theorem IsNth.map {f : Fin n → EReal} {i : ℕ} {v : EReal} (hv : IsNth f i v) {g : EReal → EReal} (hg : Monotone g) :
    IsNth (fun k => g (f k)) i (g v) := by
  refine ⟨le_trans (Finset.card_le_card fun k hk => ?_) hv.1, lt_of_lt_of_le hv.2 (Finset.card_le_card fun k hk => ?_)⟩
  · refine Finset.mem_filter.mpr ⟨Finset.mem_univ _, not_le.mp fun hle => ?_⟩
    exact absurd (Finset.mem_filter.mp hk).2 (_root_.not_lt.mpr (hg hle))
  · exact Finset.mem_filter.mpr ⟨Finset.mem_univ _, hg (Finset.mem_filter.mp hk).2⟩

/-! ## Taking the minimum out, round by round -/

/-- The least entry. -/
def least (f : Fin n → EReal) : EReal := Finset.univ.inf f
/-- How often the least entry occurs. -/
def hits (f : Fin n → EReal) : ℕ := (Finset.univ.filter fun k => f k = least f).card
/-- The family with its least entries raised to the top. -/
def next (f : Fin n → EReal) : Fin n → EReal := fun k => if f k = least f then ⊤ else f k
/-- The family after `j` rounds. -/
def rest (f : Fin n → EReal) : ℕ → Fin n → EReal
  | 0 => f
  | j + 1 => next (rest f j)
/-- How many entries `j` rounds took out. -/
def taken (f : Fin n → EReal) : ℕ → ℕ
  | 0 => 0
  | j + 1 => taken f j + hits (rest f j)

theorem least_le (f : Fin n → EReal) (k : Fin n) : least f ≤ f k := Finset.inf_le (Finset.mem_univ k)

theorem exists_least (hn : 0 < n) (f : Fin n → EReal) : ∃ k, f k = least f := by
  obtain ⟨k, -, hk⟩ := Finset.exists_mem_eq_inf (s := (Finset.univ : Finset (Fin n))) ⟨⟨0, hn⟩, Finset.mem_univ _⟩ f
  exact ⟨k, hk.symm⟩

theorem hits_pos (hn : 0 < n) (f : Fin n → EReal) : 0 < hits f := by
  obtain ⟨k, hk⟩ := exists_least hn f
  exact Finset.card_pos.mpr ⟨k, Finset.mem_filter.mpr ⟨Finset.mem_univ _, hk⟩⟩

theorem hits_le (f : Fin n → EReal) : hits f ≤ n := (Finset.card_le_univ _).trans (by simp)

theorem taken_le (f : Fin n → EReal) (j : ℕ) : taken f j ≤ j * n := by
  induction j with
  | zero => simp [taken]
  | succ j ih =>
    have := hits_le (rest f j)
    show taken f j + hits (rest f j) ≤ _
    rw [Nat.succ_mul]
    omega

theorem le_taken (hn : 0 < n) (f : Fin n → EReal) (j : ℕ) : j ≤ taken f j := by
  induction j with
  | zero => simp [taken]
  | succ j ih =>
    have := hits_pos hn (rest f j)
    show j + 1 ≤ taken f j + hits (rest f j)
    omega

/-- After `j` rounds: the entries taken out are the smallest ones, unless nothing is left. -/
theorem rounds (f : Fin n → EReal) (j : ℕ) :
    (∃ R : Finset (Fin n), R.card = taken f j ∧ (∀ k, rest f j k = if k ∈ R then ⊤ else f k)
      ∧ ∀ k ∈ R, ∀ l, l ∉ R → f k < f l) ∨ n ≤ taken f j := by
  induction j with
  | zero => exact .inl ⟨∅, rfl, fun k => by simp [rest], fun k hk => absurd hk (Finset.notMem_empty k)⟩
  | succ j ih =>
    rcases ih with ⟨R, hR, hrest, hlt⟩ | hsat
    · by_cases htop : least (rest f j) = ⊤
      · refine .inr ?_
        have hall : (Finset.univ.filter fun k => rest f j k = least (rest f j)) = Finset.univ :=
          Finset.filter_true_of_mem fun k _ => by
            have := least_le (rest f j) k
            rw [htop] at this ⊢
            exact top_le_iff.mp this
        have hh : hits (rest f j) = n := by unfold hits; rw [hall]; simp
        show n ≤ taken f j + hits (rest f j)
        omega
      · refine .inl ⟨R ∪ Finset.univ.filter fun k => rest f j k = least (rest f j), ?_, fun k => ?_, fun k hk l hl => ?_⟩
        · rw [Finset.card_union_of_disjoint, hR]
          · rfl
          · refine Finset.disjoint_left.mpr fun k hk hk' => htop ?_
            rw [← (Finset.mem_filter.mp hk').2, hrest, if_pos hk]
        · show (if rest f j k = least (rest f j) then ⊤ else rest f j k) = _
          by_cases h : rest f j k = least (rest f j)
          · have hm : k ∈ Finset.univ.filter fun k => rest f j k = least (rest f j) :=
              Finset.mem_filter.mpr ⟨Finset.mem_univ _, h⟩
            rw [if_pos h, if_pos (Finset.mem_union_right _ hm)]
          · rw [if_neg h, hrest]
            by_cases hk : k ∈ R
            · rw [if_pos hk, if_pos (Finset.mem_union_left _ hk)]
            · rw [if_neg hk, if_neg]
              intro hk'
              rcases Finset.mem_union.mp hk' with hk' | hk'
              · exact hk hk'
              · exact h (Finset.mem_filter.mp hk').2
        · have hlR : l ∉ R := fun h => hl (Finset.mem_union_left _ h)
          have hlm : rest f j l ≠ least (rest f j) := fun h =>
            hl (Finset.mem_union_right _ (Finset.mem_filter.mpr ⟨Finset.mem_univ _, h⟩))
          rcases Finset.mem_union.mp hk with hk | hk
          · exact hlt k hk l hlR
          · have hkm := (Finset.mem_filter.mp hk).2
            have hkR : k ∉ R := fun h => htop (by rw [← hkm, hrest, if_pos h])
            have hfk : f k = least (rest f j) := by rw [← hkm, hrest, if_neg hkR]
            have hfl : rest f j l = f l := by rw [hrest, if_neg hlR]
            rw [hfk, ← hfl]
            exact lt_of_le_of_ne (least_le _ _) (Ne.symm hlm)
    · refine .inr ?_
      show n ≤ taken f j + hits (rest f j)
      omega

/-- The minimum of round `j` is the `i`-th smallest entry for each `i` of that round. -/
theorem isNth_round (f : Fin n → EReal) {i j : ℕ} (hi : i < n) (h0 : taken f j ≤ i) (h1 : i < taken f (j + 1)) :
    IsNth f i (least (rest f j)) := by
  rcases rounds f j with ⟨R, hR, hrest, hlt⟩ | hsat
  · have hR' : ∀ k, k ∉ R → least (rest f j) ≤ f k := fun k hk => by
      have := least_le (rest f j) k
      rwa [hrest, if_neg hk] at this
    refine ⟨?_, ?_⟩
    · refine le_trans (Finset.card_le_card (t := R) fun k hk => ?_) (hR.trans_le h0)
      by_contra h
      exact absurd (Finset.mem_filter.mp hk).2 (not_lt.mpr (hR' k h))
    · by_cases htop : least (rest f j) = ⊤
      · rw [htop, Finset.filter_true_of_mem fun k _ => le_top]
        simpa using hi
      · refine lt_of_lt_of_le h1 ?_
        have hc : (R ∪ Finset.univ.filter fun k => rest f j k = least (rest f j)).card = taken f (j + 1) := by
          rw [Finset.card_union_of_disjoint, hR]
          · rfl
          · refine Finset.disjoint_left.mpr fun k hk hk' => htop ?_
            rw [← (Finset.mem_filter.mp hk').2, hrest, if_pos hk]
        rw [← hc]
        refine Finset.card_le_card fun k hk => Finset.mem_filter.mpr ⟨Finset.mem_univ _, ?_⟩
        have hn : 0 < n := lt_of_le_of_lt (Nat.zero_le _) hi
        rcases Finset.mem_union.mp hk with hk | hk
        · obtain ⟨l, hl⟩ := exists_least hn (rest f j)
          have hlR : l ∉ R := fun h => htop (by rw [← hl, hrest, if_pos h])
          rw [← hl, hrest, if_neg hlR]
          exact (hlt k hk l hlR).le
        · have hkm := (Finset.mem_filter.mp hk).2
          have hkR : k ∉ R := fun h => htop (by rw [← hkm, hrest, if_pos h])
          rw [← hkm, hrest, if_neg hkR]
  · omega

/-- Slot `i` after `J` rounds: the sum over the rounds of the round's value where the round holds the slot. -/
def slot (g : ℕ → EReal) (p : ℕ → ℕ) (i : ℕ) : ℕ → EReal
  | 0 => 0
  | j + 1 => slot g p i j + if p j ≤ i ∧ i < p (j + 1) then g j else 0

theorem slot_eq (g : ℕ → EReal) (p : ℕ → ℕ) (hp : Monotone p) (h0 : p 0 = 0) (i : ℕ) (v : EReal)
    (hv : ∀ j, p j ≤ i → i < p (j + 1) → g j = v) (J : ℕ) : slot g p i J = if i < p J then v else 0 := by
  induction J with
  | zero => simp [slot, h0]
  | succ J ih =>
    show slot g p i J + _ = _
    rw [ih]
    have hmono : p J ≤ p (J + 1) := hp (Nat.le_succ J)
    by_cases h1 : i < p J
    · rw [if_pos h1, if_neg (by omega), if_pos (by omega), add_zero]
    · by_cases h2 : i < p (J + 1)
      · rw [if_neg h1, if_pos ⟨by omega, h2⟩, if_pos h2, hv J (by omega) h2, zero_add]
      · rw [if_neg h1, if_neg (by omega), if_neg h2, zero_add]

theorem taken_mono (f : Fin n → EReal) : Monotone (taken f) :=
  monotone_nat_of_le_succ fun _ => Nat.le_add_right _ _

/-- Slot `i` of the rounds, each round's minimum under a monotone map, is the `i`-th smallest entry under that map. -/
theorem isNth_slot (f : Fin n → EReal) {g : EReal → EReal} (hg : Monotone g) {i J : ℕ} (hi : i < n) (hJ : i < J) :
    IsNth (fun k => g (f k)) i (slot (fun j => g (least (rest f j))) (taken f) i J) := by
  have hn : 0 < n := lt_of_le_of_lt (Nat.zero_le _) hi
  have hiJ : i < taken f J := lt_of_lt_of_le hJ (le_taken hn f J)
  have hex : ∃ j, taken f j ≤ i ∧ i < taken f (j + 1) := by
    have hlt : ∃ j, i < taken f j := ⟨J, hiJ⟩
    classical
    have hs := Nat.find_spec hlt
    have hne : Nat.find hlt ≠ 0 := fun h => by rw [h] at hs; exact absurd hs (Nat.not_lt_zero _)
    obtain ⟨j, hj⟩ := Nat.exists_eq_succ_of_ne_zero hne
    refine ⟨j, not_lt.mp (Nat.find_min hlt (by omega)), ?_⟩
    rw [hj] at hs
    exact hs
  obtain ⟨j, hj0, hj1⟩ := hex
  have hnth := (isNth_round f hi hj0 hj1).map hg
  rw [slot_eq _ _ (taken_mono f) rfl i (g (least (rest f j))) ?_ J, if_pos hiJ]
  · exact hnth
  · intro j' h0 h1
    exact ((isNth_round f hi h0 h1).map hg).unique hnth

/-! ## The stable sort by "greater" -/

/-- Position `a` comes before position `b`: its entry is greater, or equal and `a` is the lower position. -/
def Ahead (y : Fin n → EReal) (a b : Fin n) : Prop := y b < y a ∨ (y a = y b ∧ a < b)

instance (y : Fin n → EReal) (a b : Fin n) : Decidable (Ahead y a b) := inferInstanceAs (Decidable (_ ∨ _))

theorem Ahead.trans {y : Fin n → EReal} {a b c : Fin n} (h : Ahead y a b) (h' : Ahead y b c) : Ahead y a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem Ahead.irrefl (y : Fin n → EReal) (a : Fin n) : ¬ Ahead y a a := by
  rintro (h | ⟨-, h⟩)
  · exact lt_irrefl _ h
  · exact lt_irrefl _ h

/-- "Greater", as the sort asks it. -/
def gt (y : Fin n → EReal) (a b : Fin n) : Bool := decide (y b < y a)

theorem ahead_insert (y : Fin n → EReal) (a : Fin n) (l : List (Fin n)) (ha : ∀ b ∈ l, a < b)
    (hl : l.Pairwise (Ahead y)) : (insertBefore (gt y) a l).Pairwise (Ahead y) := by
  induction l with
  | nil => exact List.pairwise_singleton _ _
  | cons b l ih =>
    unfold insertBefore
    have hb := List.pairwise_cons.mp hl
    split
    · rename_i h
      refine List.pairwise_cons.mpr ⟨fun c hc => ?_, ih (fun c hc => ha c (List.mem_cons_of_mem _ hc)) hb.2⟩
      rcases List.mem_cons.mp ((perm_insertBefore (gt y) a l).mem_iff.mp hc) with rfl | hc
      · exact .inl (of_decide_eq_true h)
      · exact hb.1 c hc
    · rename_i h
      have hab : Ahead y a b := by
        have h' : ¬ y a < y b := fun hh => h (decide_eq_true hh)
        rcases lt_or_eq_of_le (not_lt.mp h') with h' | h'
        · exact .inl h'
        · exact .inr ⟨h'.symm, ha b List.mem_cons_self⟩
      refine List.pairwise_cons.mpr ⟨fun c hc => ?_, hl⟩
      rcases List.mem_cons.mp hc with rfl | hc
      · exact hab
      · exact hab.trans (hb.1 c hc)

theorem ahead_stableSort (y : Fin n → EReal) (l : List (Fin n)) (hl : l.Pairwise (· < ·)) :
    (stableSort (gt y) l).Pairwise (Ahead y) := by
  induction l with
  | nil => exact List.Pairwise.nil
  | cons a l ih =>
    have h := List.pairwise_cons.mp hl
    exact ahead_insert y a _ (fun b hb => h.1 b ((perm_stableSort (gt y) l).mem_iff.mp hb)) (ih h.2)

/-- The position sorted to place `i`. -/
def pos (y : Fin n → EReal) : Fin n → Fin n := sortedFrom (gt y)

theorem ahead_pos (y : Fin n → EReal) {i j : Fin n} (hij : i < j) : Ahead y (pos y i) (pos y j) := by
  have h := List.pairwise_iff_get.mp (ahead_stableSort y (List.finRange n) (List.pairwise_lt_finRange n))
  exact h (i.cast (length_sortPositions n (gt y)).symm) (j.cast (length_sortPositions n (gt y)).symm) hij

theorem ahead_pos_iff (y : Fin n → EReal) (i j : Fin n) : Ahead y (pos y i) (pos y j) ↔ i < j := by
  refine ⟨fun h => ?_, ahead_pos y⟩
  by_contra hlt
  rcases lt_or_eq_of_le (not_lt.mp hlt) with h' | h'
  · exact Ahead.irrefl y _ (h.trans (ahead_pos y h'))
  · subst h'; exact Ahead.irrefl y _ h

/-- How many positions come before position `c`. -/
def rank (y : Fin n → EReal) (c : Fin n) : ℕ := (Finset.univ.filter fun m => Ahead y m c).card

theorem pos_bijective (y : Fin n → EReal) : Function.Bijective (pos y) :=
  ⟨sortedFrom_injective _, sortedFrom_surjective _⟩

theorem rank_pos (y : Fin n → EReal) (i : Fin n) : rank y (pos y i) = i.val := by
  have h : (Finset.univ.filter fun m => Ahead y m (pos y i)) = (Finset.univ.filter fun m => m < i).image (pos y) := by
    ext m
    obtain ⟨j, rfl⟩ := (pos_bijective y).2 m
    simp only [Finset.mem_filter, Finset.mem_univ, true_and, Finset.mem_image, ahead_pos_iff]
    exact ⟨fun h => ⟨j, h, rfl⟩, fun ⟨k, hk, he⟩ => (pos_bijective y).1 he ▸ hk⟩
  unfold rank
  rw [h, Finset.card_image_of_injective _ (pos_bijective y).1]
  have : (Finset.univ.filter fun m => m < i) = Finset.Iio i := by ext; simp
  rw [this, Fin.card_Iio]

theorem rank_eq_iff (y : Fin n → EReal) (c i : Fin n) : rank y c = i.val ↔ c = pos y i := by
  obtain ⟨j, rfl⟩ := (pos_bijective y).2 c
  rw [rank_pos]
  exact ⟨fun h => congrArg _ (Fin.ext h), fun h => congrArg _ ((pos_bijective y).1 h)⟩

theorem rank_lt (y : Fin n → EReal) (c : Fin n) : rank y c < n := by
  obtain ⟨j, rfl⟩ := (pos_bijective y).2 c
  rw [rank_pos]
  exact j.isLt

/-- The entry the sort of the negated family puts at place `i` is, negated back, the `i`-th smallest. -/
theorem isNth_pos (f : Fin n → EReal) (i : Fin n) : IsNth f i.val (- - f (pos (fun k => - f k) i)) := by
  rw [neg_neg]
  set y : Fin n → EReal := fun k => - f k with hy
  refine ⟨?_, ?_⟩
  · refine le_trans (Finset.card_le_card fun k hk => ?_) (rank_pos y i).le
    refine Finset.mem_filter.mpr ⟨Finset.mem_univ _, .inl ?_⟩
    exact EReal.neg_lt_neg_iff.mpr (Finset.mem_filter.mp hk).2
  · have hc : ((Finset.univ.filter fun m => m ≤ i).image (pos y)).card = i.val + 1 := by
      rw [Finset.card_image_of_injective _ (pos_bijective y).1]
      have : (Finset.univ.filter fun m => m ≤ i) = Finset.Iic i := by ext; simp
      rw [this, Fin.card_Iic]
    refine lt_of_lt_of_le (Nat.lt_succ_self _) (hc.symm.le.trans (Finset.card_le_card fun k hk => ?_))
    obtain ⟨j, hj, rfl⟩ := Finset.mem_image.mp hk
    refine Finset.mem_filter.mpr ⟨Finset.mem_univ _, ?_⟩
    rcases lt_or_eq_of_le (Finset.mem_filter.mp hj).2 with h | h
    · rcases ahead_pos y h with h' | ⟨h', -⟩
      · exact (EReal.neg_lt_neg_iff.mp h').le
      · exact (neg_injective h').le
    · rw [h]

end Cert.Proof.OrderMath
-- ==== Proof.KnnMath.lean ====
/-
  The density block: of each row of a block of squared distances, the eight smallest distances by eight rounds of
  minimum, multiplicity and removal, and their mean.
-/
module

public import proofs.«01_k».proof.Proof.OrderMath
public import Idealize.ShloMosaic.Lib.Pipeline.Value
public import Idealize.ShloMosaic.Lib.WordSum
public import Idealize.ShloMosaic.Lib.MatmulPlain

@[expose] public section

noncomputable section

namespace Cert.Proof.KnnMath

open Idealize.ShloMosaic Idealize.ShloMosaic.ValueIdx Cert.Proof.OrderMath

/-- A block of squared distances. -/
abbrev SD : Shape := ⟨2, ![256, 4096]⟩
/-- One number a row, as a column. -/
abbrev SC : Shape := ⟨2, ![256, 1]⟩
/-- One number a row. -/
abbrev SV : Shape := ⟨1, ![256]⟩

theorem reduces : SD.Reduces [1] SV := by decide
theorem casts : SV.ShapeCasts SC := by decide
theorem broadcasts : SC.Broadcasts SD := by decide

/-! ## The block's terms -/

def colMin (d : FVec Ideal SD .f32) : FVec Ideal SC .f32 :=
  shapeCast SC (multiReduction .minimumf [1] SV d 0x7F800000#32 reduces (.inl rfl) rfl) casts
def colEq (d : FVec Ideal SD .f32) : IVec SD 1 := cmpf .oeq d (broadcastTo SD (colMin d) broadcasts)
def colCnt (d : FVec Ideal SD .f32) : IVec SC 32 :=
  shapeCast SC (multiReductionI .add [1] SV (extui 32 (colEq d) (by decide)) 0#32 reduces rfl) casts
def colNext (d : FVec Ideal SD .f32) : FVec Ideal SD .f32 :=
  select (colEq d) (broadcast SD (Scalar.ofBits .f32 0x7F800000#32)) d
/-- The block after `j` rounds. -/
def dIter (d : FVec Ideal SD .f32) : ℕ → FVec Ideal SD .f32
  | 0 => d
  | j + 1 => colNext (dIter d j)
/-- How many entries of each row `j` rounds took out. -/
def pIter (d : FVec Ideal SD .f32) : ℕ → IVec SC 32
  | 0 => broadcast SC 0#32
  | j + 1 => addi (pIter d j) (colCnt (dIter d j))
/-- Round `j`'s share of slot `i`. -/
def share (d : FVec Ideal SD .f32) (i : BitVec 32) (j : ℕ) : FVec Ideal SC .f32 :=
  select (andi (cmpi .sle (pIter d j) (broadcast SC i)) (cmpi .sgt (pIter d (j + 1)) (broadcast SC i)))
    (sqrt (colMin (dIter d j))) (broadcast SC (Scalar.ofBits .f32 0x00000000#32))
/-- Slot `i` after round `j`. -/
def slots (d : FVec Ideal SD .f32) (i : BitVec 32) : ℕ → FVec Ideal SC .f32
  | 0 => share d i 0
  | j + 1 => addf (slots d i j) (share d i (j + 1))
/-- The mean of the eight slots. -/
def dens (d : FVec Ideal SD .f32) : FVec Ideal SC .f32 :=
  mulf (addf (addf (addf (slots d 0#32 7) (slots d 4#32 7)) (addf (slots d 2#32 7) (slots d 6#32 7)))
      (addf (addf (slots d 1#32 7) (slots d 5#32 7)) (addf (slots d 3#32 7) (slots d 7#32 7))))
    (broadcast SC (Scalar.ofBits .f32 0x3E000000#32))
/-- The squared distances of a block of rows to all the rows. -/
def dist2 (x0 : Vec Ideal ⟨3, ![1, 256, 256]⟩ .f32) (x1 : Vec Ideal ⟨3, ![1, 4096, 256]⟩ .f32)
    (x2 : Vec Ideal ⟨3, ![1, 256, 1]⟩ .f32) (x3 : Vec Ideal ⟨3, ![1, 1, 4096]⟩ .f32) : FVec Ideal SD .f32 :=
  maximumf
    (subf
      (addf (broadcastTo SD (shapeCast SC x2 (by decide) : FVec Ideal SC .f32) broadcasts)
        (broadcastTo SD (shapeCast ⟨2, ![1, 4096]⟩ x3 (by decide) : FVec Ideal ⟨2, ![1, 4096]⟩ .f32) (by decide)))
      (mulf (broadcast SD (Scalar.ofBits .f32 0x40000000#32))
        (matmul (DotDims.transposedRhs 256 256 4096) none
          (shapeCast ⟨2, ![256, 256]⟩ x0 (by decide) : FVec Ideal ⟨2, ![256, 256]⟩ .f32)
          (shapeCast ⟨2, ![4096, 256]⟩ x1 (by decide) : FVec Ideal ⟨2, ![4096, 256]⟩ .f32)
          (constant SD .f32 0x00000000#32))))
    (broadcast SD (Scalar.ofBits .f32 0x00000000#32))

/-! ## The block's terms at a row -/

theorem ofBits_inf : Ideal.ofBits .f32 0x7F800000#32 = ⊤ := by simp [Ideal.ofBits, Ideal.ieee]
theorem ofBits_zero : Ideal.ofBits .f32 0x00000000#32 = 0 := by simp [Ideal.ofBits, Ideal.ieee]

theorem sqrt_mono : Monotone Ideal.sqrt := by
  intro a b h
  induction a with
  | bot => exact bot_le
  | top => rw [top_le_iff.mp h]
  | coe r =>
    induction b with
    | bot => exact absurd h (by simp)
    | top => exact le_top
    | coe q =>
      show (if r < 0 then ⊥ else (Real.sqrt r : EReal)) ≤ if q < 0 then ⊥ else (Real.sqrt q : EReal)
      have hrq : r ≤ q := EReal.coe_le_coe_iff.mp h
      by_cases hr : r < 0
      · rw [if_pos hr]; exact bot_le
      · rw [if_neg hr, if_neg (by linarith)]
        exact EReal.coe_le_coe_iff.mpr (Real.sqrt_le_sqrt hrq)

theorem ix2_zero (r : Fin 256) (c : Fin 1) : (ix2 r c : SC.Idx) = ix2 r 0 := by
  rw [Subsingleton.elim c 0]

theorem cast_apply {α : Type} (x : SV.Idx → α) (r : Fin 256) : shapeCast SC x casts (ix2 r 0) = x (ix1 r) :=
  shapeCast_apply x casts _ _ (by rw [Shape.rowMajor_val_two, Shape.rowMajor_val_one]; show r.val = r.val * 1 + 0; omega)

theorem spread_apply {α : Type} (x : SC.Idx → α) (r : Fin 256) (k : Fin 4096) :
    broadcastTo SD x broadcasts (ix2 r k) = x (ix2 r 0) :=
  broadcastTo_apply x broadcasts _ _ (by intro a; match a with | ⟨0, _⟩ => rfl | ⟨1, _⟩ => rfl)

theorem lift_apply (r : Fin 256) (k : Fin 4096) : reduces.lift (ix1 r) k = (ix2 r k : SD.Idx) := by
  funext a; apply Fin.ext
  match a with
  | ⟨0, _⟩ => rfl
  | ⟨1, _⟩ => rfl

/-- Row `r` of a block. -/
def row (d : FVec Ideal SD .f32) (r : Fin 256) : Fin 4096 → EReal := fun k => d (ix2 r k)

theorem colMin_apply (d : FVec Ideal SD .f32) (r : Fin 256) : colMin d (ix2 r 0) = least (row d r) := by
  unfold colMin
  rw [cast_apply]
  refine Eq.trans (multiReduction_minimumf_eq_fold d _ reduces (.inl rfl) rfl (ix1 r)) ?_
  refine (reduces.fold_filter_drop_single _ _ d (ix1 r)).trans ?_
  have hf : d ∘ reduces.lift (ix1 r) = row d r := funext fun k => congrArg d (lift_apply r k)
  rw [hf]
  show Finset.univ.fold min (Ideal.ofBits .f32 0x7F800000#32) (row d r) = Finset.univ.inf (row d r)
  rw [ofBits_inf]
  rfl

theorem colEq_apply (d : FVec Ideal SD .f32) (r : Fin 256) (k : Fin 4096) :
    colEq d (ix2 r k) = BitVec.ofBool (decide (row d r k = least (row d r))) := by
  show Ideal.cmp .oeq (d (ix2 r k)) (broadcastTo SD (colMin d) broadcasts (ix2 r k)) = _
  rw [spread_apply, colMin_apply]
  rfl

theorem colCnt_apply (d : FVec Ideal SD .f32) (r : Fin 256) : (colCnt d (ix2 r 0)).toNat = hits (row d r) := by
  unfold colCnt
  rw [cast_apply]
  have hval : ∀ k, (extui 32 (colEq d) (by decide) (ix2 r k) : BitVec 32).toNat = if row d r k = least (row d r) then 1 else 0 := by
    intro k
    show ((colEq d (ix2 r k)).setWidth 32).toNat = _
    rw [colEq_apply]
    by_cases h : row d r k = least (row d r)
    · rw [decide_eq_true h, if_pos h]; rfl
    · rw [decide_eq_false h, if_neg h]; rfl
  have hsum : ∑ i ∈ Finset.univ.filter (fun i => reduces.drop i = ix1 r), (extui 32 (colEq d) (by decide) i : BitVec 32).toNat
      = hits (row d r) := by
    rw [reduces.sum_filter_drop_single (fun i => (extui 32 (colEq d) (by decide) i : BitVec 32).toNat) (ix1 r)]
    refine (Finset.sum_congr rfl fun (k : Fin 4096) _ => ?_).trans (Finset.card_filter _ _).symm
    rw [lift_apply]
    exact hval k
  exact (WordSum.toNat_multiReductionI_add (extui 32 (colEq d) (by decide)) reduces rfl (ix1 r)
    (by rw [hsum]; exact lt_of_le_of_lt (hits_le _) (by norm_num))).trans hsum

theorem row_next (d : FVec Ideal SD .f32) (r : Fin 256) : row (colNext d) r = next (row d r) := by
  funext k
  show Scalar.select (colEq d (ix2 r k)) (Ideal.ofBits .f32 0x7F800000#32) (d (ix2 r k)) = _
  rw [colEq_apply, ofBits_inf]
  unfold next
  by_cases h : row d r k = least (row d r)
  · rw [decide_eq_true h, if_pos h]; rfl
  · rw [decide_eq_false h, if_neg h]; rfl

theorem row_dIter (d : FVec Ideal SD .f32) (r : Fin 256) (j : ℕ) : row (dIter d j) r = rest (row d r) j := by
  induction j with
  | zero => rfl
  | succ j ih => show row (colNext (dIter d j)) r = next (rest (row d r) j); rw [row_next, ih]

theorem pIter_apply (d : FVec Ideal SD .f32) (r : Fin 256) (j : ℕ) (hj : j ≤ 8) :
    (pIter d j (ix2 r 0)).toNat = taken (row d r) j := by
  induction j with
  | zero => rfl
  | succ j ih =>
    show (pIter d j (ix2 r 0) + colCnt (dIter d j) (ix2 r 0)).toNat = taken (row d r) j + hits (rest (row d r) j)
    have h := taken_le (row d r) (j + 1)
    have h' : taken (row d r) (j + 1) = taken (row d r) j + hits (rest (row d r) j) := rfl
    rw [BitVec.toNat_add, ih (by omega), colCnt_apply, row_dIter]
    refine Nat.mod_eq_of_lt ?_
    have : (j + 1) * 4096 ≤ 8 * 4096 := Nat.mul_le_mul_right _ hj
    omega

theorem sle_ofNat (a : BitVec 32) (i : ℕ) (ha : a.toNat < 2 ^ 31) (hi : i < 2 ^ 31) :
    IntOp.cmpi .sle a (BitVec.ofNat 32 i) = BitVec.ofBool (decide (a.toNat ≤ i)) := by
  show BitVec.ofBool (a.sle (BitVec.ofNat 32 i)) = _
  congr 1
  rw [BitVec.sle_eq_decide, BitVec.toInt_eq_toNat_of_lt (by omega), BitVec.toInt_eq_toNat_of_lt (by rw [BitVec.toNat_ofNat]; omega),
    BitVec.toNat_ofNat, Nat.mod_eq_of_lt (by omega)]
  simp

theorem sgt_ofNat (a : BitVec 32) (i : ℕ) (ha : a.toNat < 2 ^ 31) (hi : i < 2 ^ 31) :
    IntOp.cmpi .sgt a (BitVec.ofNat 32 i) = BitVec.ofBool (decide (i < a.toNat)) := by
  show BitVec.ofBool ((BitVec.ofNat 32 i).slt a) = _
  congr 1
  rw [BitVec.slt_eq_decide, BitVec.toInt_eq_toNat_of_lt (x := a) (by omega), BitVec.toInt_eq_toNat_of_lt (by rw [BitVec.toNat_ofNat]; omega),
    BitVec.toNat_ofNat, Nat.mod_eq_of_lt (by omega)]
  simp

theorem share_core (p q : IVec SC 32) (m z : FVec Ideal SC .f32) (i : BitVec 32) (x : SC.Idx) :
    select (andi (cmpi .sle p (broadcast SC i)) (cmpi .sgt q (broadcast SC i))) (sqrt m) z x
      = Scalar.select (IntOp.andi (IntOp.cmpi .sle (p x) i) (IntOp.cmpi .sgt (q x) i)) (Ideal.sqrt (m x)) (z x) := rfl

theorem zero_at (x : SC.Idx) : (broadcast SC (Scalar.ofBits .f32 0x00000000#32 : Ideal .f32) : FVec Ideal SC .f32) x = 0 :=
  ofBits_zero

theorem share_apply (d : FVec Ideal SD .f32) (r : Fin 256) (i j : ℕ) (hi : i < 2 ^ 31) (hj : j < 8) :
    share d (BitVec.ofNat 32 i) j (ix2 r 0)
      = if taken (row d r) j ≤ i ∧ i < taken (row d r) (j + 1) then Ideal.sqrt (least (rest (row d r) j)) else 0 := by
  unfold share
  rw [share_core, zero_at]
  have hb : ∀ j, j ≤ 8 → taken (row d r) j < 2 ^ 31 := fun j hj =>
    lt_of_le_of_lt (taken_le _ _) (lt_of_le_of_lt (Nat.mul_le_mul_right _ hj) (by norm_num))
  rw [sle_ofNat _ _ (by rw [pIter_apply _ _ _ (by omega)]; exact hb _ (by omega)) hi,
    sgt_ofNat _ _ (by rw [pIter_apply _ _ _ (by omega)]; exact hb _ (by omega)) hi,
    pIter_apply _ _ _ (by omega), pIter_apply _ _ _ (by omega), colMin_apply, row_dIter]
  by_cases h0 : taken (row d r) j ≤ i <;> by_cases h1 : i < taken (row d r) (j + 1)
  · rw [decide_eq_true h0, decide_eq_true h1, if_pos ⟨h0, h1⟩]; rfl
  · rw [decide_eq_true h0, decide_eq_false h1, if_neg (fun h => h1 h.2)]; rfl
  · rw [decide_eq_false h0, decide_eq_true h1, if_neg (fun h => h0 h.1)]; rfl
  · rw [decide_eq_false h0, decide_eq_false h1, if_neg (fun h => h0 h.1)]; rfl

theorem slots_apply (d : FVec Ideal SD .f32) (r : Fin 256) (i j : ℕ) (hi : i < 2 ^ 31) (hj : j < 8) :
    slots d (BitVec.ofNat 32 i) j (ix2 r 0)
      = slot (fun j => Ideal.sqrt (least (rest (row d r) j))) (taken (row d r)) i (j + 1) := by
  induction j with
  | zero =>
    show share d (BitVec.ofNat 32 i) 0 (ix2 r 0) = 0 + _
    rw [share_apply _ _ _ _ hi hj]
    exact (zero_add _).symm
  | succ j ih =>
    show slots d (BitVec.ofNat 32 i) j (ix2 r 0) + share d (BitVec.ofNat 32 i) (j + 1) (ix2 r 0) = _ + _
    rw [share_apply _ _ _ _ hi hj, ih (by omega)]

/-- Slot `i` of a row is its `i`-th smallest distance. -/
theorem isNth_slots (d : FVec Ideal SD .f32) (r : Fin 256) (i : ℕ) (hi : i < 8) :
    IsNth (fun k => Ideal.sqrt (row d r k)) i (slots d (BitVec.ofNat 32 i) 7 (ix2 r 0)) := by
  rw [slots_apply _ _ _ _ (by omega) (by omega)]
  exact isNth_slot (row d r) sqrt_mono (by omega) hi

theorem mean_core (a b c e a' b' c' e' : FVec Ideal SC .f32) (z : BitVec 32) (x : SC.Idx) :
    mulf (addf (addf (addf a b) (addf c e)) (addf (addf a' b') (addf c' e'))) (broadcast SC (Scalar.ofBits .f32 z)) x
      = (a x + b x + (c x + e x) + (a' x + b' x + (c' x + e' x))) * Ideal.ofBits .f32 z := rfl

/-- The mean, given the eight smallest distances. -/
theorem dens_apply (d : FVec Ideal SD .f32) (r : Fin 256) (s : Fin 8 → EReal)
    (hs : ∀ i, IsNth (fun k => Ideal.sqrt (row d r k)) i.val (s i)) :
    dens d (ix2 r 0) = Ideal.div (∑ i, s i) (Ideal.ofBits .f32 0x41000000#32) := by
  have h : ∀ (i : ℕ) (hi : i < 8), slots d (BitVec.ofNat 32 i) 7 (ix2 r 0) = s ⟨i, hi⟩ := fun i hi =>
    (isNth_slots d r i hi).unique (hs ⟨i, hi⟩)
  unfold dens
  rw [mean_core, h 0 (by omega), h 1 (by omega), h 2 (by omega), h 3 (by omega), h 4 (by omega), h 5 (by omega),
    h 6 (by omega), h 7 (by omega)]
  have h8 : Ideal.ofBits .f32 0x41000000#32 = ((8 : ℝ) : EReal) := by
    simp [Ideal.ofBits, Ideal.ieee, -EReal.coe_mul]; norm_num
  have h18 : Ideal.ofBits .f32 0x3E000000#32 = ((1 / 8 : ℝ) : EReal) := by
    simp [Ideal.ofBits, Ideal.ieee, -EReal.coe_mul]; norm_num
  rw [h8, h18, Ideal.div_coe (by norm_num), Fin.sum_univ_eight]
  congr 1
  show s 0 + s 4 + (s 2 + s 6) + (s 1 + s 5 + (s 3 + s 7)) = _
  abel

end Cert.Proof.KnnMath
-- ==== Proof.RankMath.lean ====
/-
  The rank block and the picking block: how many entries come before each entry of a block of a row, and, of the ranks
  of a row, the position at each of a block of ranks.
-/
module

public import proofs.«01_k».proof.Proof.OrderMath
public import Idealize.ShloMosaic.Lib.Pipeline.Value
public import Idealize.ShloMosaic.Lib.WordSum

@[expose] public section

noncomputable section

namespace Cert.Proof.RankMath

open Idealize.ShloMosaic Idealize.ShloMosaic.ValueIdx Cert.Proof.OrderMath

/-- One number a column, as a row. -/
abbrev SR : Shape := ⟨2, ![1, 4096]⟩
/-- The same with a leading unit axis. -/
abbrev SR1 : Shape := ⟨3, ![1, 1, 4096]⟩
abbrev SQ : Shape := ⟨2, ![512, 4096]⟩
abbrev SQc : Shape := ⟨2, ![512, 1]⟩
abbrev SP : Shape := ⟨2, ![256, 4096]⟩

theorem castR : SR1.ShapeCasts SR := by decide
theorem spreadRQ : SR.Broadcasts SQ := by decide
theorem spreadCQ : SQc.Broadcasts SQ := by decide
theorem spreadRP : SR.Broadcasts SP := by decide
theorem castC : (⟨3, ![1, 512, 1]⟩ : Shape).ShapeCasts SQc := by decide
theorem redQ : SQ.Reduces [1] ⟨1, ![512]⟩ := by decide
theorem redP : SP.Reduces [1] ⟨1, ![256]⟩ := by decide
theorem outQ : (⟨1, ![512]⟩ : Shape).ShapeCasts ⟨3, ![1, 1, 512]⟩ := by decide
theorem castP : (⟨1, ![256]⟩ : Shape).ShapeCasts ⟨2, ![256, 1]⟩ := by decide
theorem outP : (⟨2, ![256, 1]⟩ : Shape).ShapeCasts ⟨3, ![1, 256, 1]⟩ := by decide
theorem iotaQ (d : Fin 2) : SQ.Iotas .tc 32 [d] := by revert d; decide
theorem iotaP (d : Fin 2) : SP.Iotas .tc 32 [d] := by revert d; decide

/-! ## The blocks' terms -/

/-- Which columns come before which rows. -/
def beats (a : BitVec 32) (x0 : Vec Ideal ⟨3, ![1, 512, 1]⟩ .f32) (x1 : Vec Ideal SR1 .f32) : IVec SQ 1 :=
  let dn : FVec Ideal SQ .f32 := broadcastTo SQ (shapeCast SQc x0 castC : FVec Ideal SQc .f32) spreadCQ
  let dm : FVec Ideal SQ .f32 := broadcastTo SQ (shapeCast SR x1 castR : FVec Ideal SR .f32) spreadRQ
  ori (cmpf .ogt dm dn)
    (andi (cmpf .oeq dm dn)
      (cmpi .slt (iota .tc SQ 32 [1] (iotaQ 1)) (addi (iota .tc SQ 32 [0] (iotaQ 0)) (broadcast SQ (Scalar.muli a 512#32)))))

/-- The rank block. -/
def rankBlock (a : BitVec 32) (x0 : Vec Ideal ⟨3, ![1, 512, 1]⟩ .f32) (x1 : Vec Ideal SR1 .f32) :
    IVec ⟨3, ![1, 1, 512]⟩ 32 :=
  shapeCast _ (multiReductionI .add [1] ⟨1, ![512]⟩ (extui 32 (beats a x0 x1) (by decide)) 0#32 redQ rfl) outQ

/-- The columns of the wanted ranks, zero elsewhere. -/
def hit (b : BitVec 32) (x0 : Vec Ideal SR1 .i32) : IVec SP 32 :=
  select (cmpi .eq (broadcastTo SP (shapeCast SR x0 castR : IVec SR 32) spreadRP)
      (addi (iota .tc SP 32 [0] (iotaP 0)) (broadcast SP (Scalar.muli b 256#32))))
    (iota .tc SP 32 [1] (iotaP 1)) (broadcast SP 0#32)

/-- The picking block. -/
def pickBlock (a b : BitVec 32) (x0 : Vec Ideal SR1 .i32) : IVec ⟨3, ![1, 256, 1]⟩ 32 :=
  shapeCast _ (addi (shapeCast ⟨2, ![256, 1]⟩ (multiReductionI .add [1] ⟨1, ![256]⟩ (hit b x0) 0#32 redP rfl) castP)
    (broadcast ⟨2, ![256, 1]⟩ (Scalar.muli a 4096#32))) outP

/-! ## The blocks' terms at an index -/

theorem spreadRQ_apply {α : Type} (x : SR1.Idx → α) (r : Fin 512) (k : Fin 4096) :
    broadcastTo SQ (shapeCast SR x castR) spreadRQ (ix2 r k) = x (ix3 0 0 k) :=
  (broadcastTo_apply _ spreadRQ _ (ix2 0 k : SR.Idx) (by intro a; match a with | ⟨0, _⟩ => rfl | ⟨1, _⟩ => rfl)).trans
    (shapeCast_apply x castR _ _ (by rw [Shape.rowMajor_val_two, Shape.rowMajor_val_three]; show (0 * 1 + 0) * 4096 + k.val = 0 * 4096 + k.val; omega))

theorem spreadRP_apply {α : Type} (x : SR1.Idx → α) (r : Fin 256) (k : Fin 4096) :
    broadcastTo SP (shapeCast SR x castR) spreadRP (ix2 r k) = x (ix3 0 0 k) :=
  (broadcastTo_apply _ spreadRP _ (ix2 0 k : SR.Idx) (by intro a; match a with | ⟨0, _⟩ => rfl | ⟨1, _⟩ => rfl)).trans
    (shapeCast_apply x castR _ _ (by rw [Shape.rowMajor_val_two, Shape.rowMajor_val_three]; show (0 * 1 + 0) * 4096 + k.val = 0 * 4096 + k.val; omega))

theorem spreadCQ_apply {α : Type} (x : (⟨3, ![1, 512, 1]⟩ : Shape).Idx → α) (r : Fin 512) (k : Fin 4096) :
    broadcastTo SQ (shapeCast SQc x castC) spreadCQ (ix2 r k) = x (ix3 0 r 0) :=
  (broadcastTo_apply _ spreadCQ _ (ix2 r 0 : SQc.Idx) (by intro a; match a with | ⟨0, _⟩ => rfl | ⟨1, _⟩ => rfl)).trans
    (shapeCast_apply x castC _ _ (by rw [Shape.rowMajor_val_two, Shape.rowMajor_val_three]; show (0 * 512 + r.val) * 1 + 0 = r.val * 1 + 0; omega))

/-- A row number of a block, as the program computes it. -/
theorem word_add (r a s : ℕ) : BitVec.ofNat 32 r + BitVec.ofNat 32 a * BitVec.ofNat 32 s = BitVec.ofNat 32 (a * s + r) := by
  rw [← BitVec.ofNat_mul, ← BitVec.ofNat_add, Nat.add_comm]

theorem slt_ofNat (m n : ℕ) (hm : m < 2 ^ 31) (hn : n < 2 ^ 31) :
    IntOp.cmpi .slt (BitVec.ofNat 32 m) (BitVec.ofNat 32 n) = BitVec.ofBool (decide (m < n)) := by
  show BitVec.ofBool ((BitVec.ofNat 32 m).slt (BitVec.ofNat 32 n)) = _
  congr 1
  rw [BitVec.slt_eq_decide, BitVec.toInt_eq_toNat_of_lt (by rw [BitVec.toNat_ofNat]; omega),
    BitVec.toInt_eq_toNat_of_lt (by rw [BitVec.toNat_ofNat]; omega),
    BitVec.toNat_ofNat, Nat.mod_eq_of_lt (by omega), BitVec.toNat_ofNat, Nat.mod_eq_of_lt (by omega)]
  simp

theorem beats_core (dn dm : FVec Ideal SQ .f32) (p q : IVec SQ 32) (x : SQ.Idx) :
    ori (cmpf .ogt dm dn) (andi (cmpf .oeq dm dn) (cmpi .slt p q)) x
      = BitVec.ofBool (decide (dn x < dm x)) ||| (BitVec.ofBool (decide (dm x = dn x)) &&& IntOp.cmpi .slt (p x) (q x)) := rfl

/-- Column `k` beats row `a * 512 + r` exactly where it comes before it. -/
theorem beats_apply (a : ℕ) (ha : a < 8) (x0 : Vec Ideal ⟨3, ![1, 512, 1]⟩ .f32) (x1 : Vec Ideal SR1 .f32)
    (y : Fin 4096 → EReal) (h1 : ∀ k, x1 (ix3 0 0 k) = y k)
    (r : Fin 512) (n : Fin 4096) (hn : n.val = a * 512 + r.val) (h0 : x0 (ix3 0 r 0) = y n) (k : Fin 4096) :
    beats (BitVec.ofNat 32 a) x0 x1 (ix2 r k) = BitVec.ofBool (decide (Ahead y k n)) := by
  unfold beats
  rw [beats_core, spreadRQ_apply, spreadCQ_apply, h1, h0, iota_single_apply]
  have hq : addi (iota .tc SQ 32 [0] (iotaQ 0)) (broadcast SQ (Scalar.muli (BitVec.ofNat 32 a) 512#32)) (ix2 r k)
      = BitVec.ofNat 32 n.val := by
    show iota .tc SQ 32 [0] (iotaQ 0) (ix2 r k) + BitVec.ofNat 32 a * BitVec.ofNat 32 512 = _
    rw [iota_single_apply, hn]
    exact word_add r.val a 512
  rw [hq, show ((ix2 r k : SQ.Idx) 1).val = k.val from rfl, slt_ofNat _ _ (by omega) (by omega)]
  have hd : decide (Ahead y k n) = (decide (y n < y k) || (decide (y k = y n) && decide (k.val < n.val))) := by
    rw [← Bool.decide_and, ← Bool.decide_or]
    rfl
  rw [hd]
  cases decide (y n < y k) <;> cases decide (y k = y n) <;> cases decide (k.val < n.val) <;> rfl

/-- The rank block holds the ranks. -/
theorem rankBlock_apply (a : ℕ) (ha : a < 8) (x0 : Vec Ideal ⟨3, ![1, 512, 1]⟩ .f32) (x1 : Vec Ideal SR1 .f32)
    (y : Fin 4096 → EReal) (h1 : ∀ k, x1 (ix3 0 0 k) = y k)
    (r : Fin 512) (n : Fin 4096) (hn : n.val = a * 512 + r.val) (h0 : x0 (ix3 0 r 0) = y n) :
    rankBlock (BitVec.ofNat 32 a) x0 x1 (ix3 0 0 r) = BitVec.ofNat 32 (rank y n) := by
  unfold rankBlock
  rw [shapeCast_apply _ outQ _ (ix1 r) (by
    rw [Shape.rowMajor_val_one, Shape.rowMajor_val_three]; show r.val = (0 * 1 + 0) * 512 + r.val; omega)]
  have hval : ∀ k, (extui 32 (beats (BitVec.ofNat 32 a) x0 x1) (by decide) (ix2 r k) : BitVec 32).toNat
      = if Ahead y k n then 1 else 0 := by
    intro k
    show ((beats (BitVec.ofNat 32 a) x0 x1 (ix2 r k)).setWidth 32).toNat = _
    rw [beats_apply a ha x0 x1 y h1 r n hn h0]
    by_cases h : Ahead y k n
    · rw [decide_eq_true h, if_pos h]; rfl
    · rw [decide_eq_false h, if_neg h]; rfl
  have hsum : ∑ i ∈ Finset.univ.filter (fun i => redQ.drop i = ix1 r),
      (extui 32 (beats (BitVec.ofNat 32 a) x0 x1) (by decide) i : BitVec 32).toNat = rank y n := by
    rw [redQ.sum_filter_drop_single (fun i => (extui 32 (beats (BitVec.ofNat 32 a) x0 x1) (by decide) i : BitVec 32).toNat) (ix1 r)]
    refine (Finset.sum_congr rfl fun (k : Fin 4096) _ => ?_).trans (Finset.card_filter _ _).symm
    rw [show redQ.lift (ix1 r) k = (ix2 r k : SQ.Idx) from by
      funext b; apply Fin.ext
      match b with
      | ⟨0, _⟩ => rfl
      | ⟨1, _⟩ => rfl]
    exact hval k
  have hlt := rank_lt y n
  refine BitVec.eq_of_toNat_eq ?_
  rw [BitVec.toNat_ofNat, Nat.mod_eq_of_lt (by omega)]
  exact (WordSum.toNat_multiReductionI_add (extui 32 (beats (BitVec.ofNat 32 a) x0 x1) (by decide)) redQ rfl (ix1 r)
    (by rw [hsum]; omega)).trans hsum

theorem hit_core (p q s z : IVec SP 32) (x : SP.Idx) :
    select (cmpi .eq p q) s z x = if p x = q x then s x else z x := by
  show Scalar.select (BitVec.ofBool (p x == q x)) (s x) (z x) = _
  by_cases h : p x = q x
  · rw [if_pos h, h, beq_self_eq_true]; rfl
  · rw [if_neg h, beq_false_of_ne h]; rfl

/-- The picking block holds, at rank `b * 256 + r`, the position of that rank, offset by the batch. -/
theorem pickBlock_apply (a b : ℕ) (hb : b < 16) (x0 : Vec Ideal SR1 .i32)
    (y : Fin 4096 → EReal) (h0 : ∀ k, x0 (ix3 0 0 k) = BitVec.ofNat 32 (rank y k))
    (r : Fin 256) (n : Fin 4096) (hn : n.val = b * 256 + r.val) :
    pickBlock (BitVec.ofNat 32 a) (BitVec.ofNat 32 b) x0 (ix3 0 r 0)
      = BitVec.ofNat 32 (a * 4096 + (OrderMath.pos y n).val) := by
  unfold pickBlock
  rw [shapeCast_apply _ outP _ (ix2 r 0) (by
    rw [Shape.rowMajor_val_two, Shape.rowMajor_val_three]; show r.val * 1 + 0 = (0 * 256 + r.val) * 1 + 0; omega)]
  show shapeCast ⟨2, ![256, 1]⟩ (multiReductionI .add [1] ⟨1, ![256]⟩ (hit (BitVec.ofNat 32 b) x0) 0#32 redP rfl) castP (ix2 r 0)
    + BitVec.ofNat 32 a * BitVec.ofNat 32 4096 = _
  rw [shapeCast_apply _ castP _ (ix1 r) (by
    rw [Shape.rowMajor_val_one, Shape.rowMajor_val_two]; show r.val = r.val * 1 + 0; omega)]
  have hval : ∀ k, (hit (BitVec.ofNat 32 b) x0 (ix2 r k)).toNat = if k = OrderMath.pos y n then k.val else 0 := by
    intro k
    unfold hit
    rw [hit_core, spreadRP_apply, h0, iota_single_apply]
    have hq : addi (iota .tc SP 32 [0] (iotaP 0)) (broadcast SP (Scalar.muli (BitVec.ofNat 32 b) 256#32)) (ix2 r k)
        = BitVec.ofNat 32 n.val := by
      show iota .tc SP 32 [0] (iotaP 0) (ix2 r k) + BitVec.ofNat 32 b * BitVec.ofNat 32 256 = _
      rw [iota_single_apply, hn]
      exact word_add r.val b 256
    have hlt := rank_lt y k
    rw [hq]
    have hiff : BitVec.ofNat 32 (rank y k) = BitVec.ofNat 32 n.val ↔ k = OrderMath.pos y n := by
      rw [← rank_eq_iff]
      refine ⟨fun h => ?_, fun h => by rw [h]⟩
      have h' : (BitVec.ofNat 32 (rank y k)).toNat = (BitVec.ofNat 32 n.val).toNat := by rw [h]
      rw [BitVec.toNat_ofNat, BitVec.toNat_ofNat, Nat.mod_eq_of_lt (by omega), Nat.mod_eq_of_lt (by omega)] at h'
      exact h'
    by_cases h : k = OrderMath.pos y n
    · rw [if_pos (hiff.mpr h), if_pos h]
      show (BitVec.ofNat 32 k.val).toNat = k.val
      rw [BitVec.toNat_ofNat, Nat.mod_eq_of_lt (by omega)]
    · rw [if_neg (fun h' => h (hiff.mp h')), if_neg h]
      rfl
  have hsum : ∑ i ∈ Finset.univ.filter (fun i => redP.drop i = ix1 r), (hit (BitVec.ofNat 32 b) x0 i).toNat
      = (OrderMath.pos y n).val := by
    rw [redP.sum_filter_drop_single (fun i => (hit (BitVec.ofNat 32 b) x0 i).toNat) (ix1 r)]
    refine (Finset.sum_congr rfl fun (k : Fin 4096) _ => ?_).trans
      (Finset.sum_ite_eq' Finset.univ (OrderMath.pos y n) fun k => k.val) |>.trans (if_pos (Finset.mem_univ _))
    rw [show redP.lift (ix1 r) k = (ix2 r k : SP.Idx) from by
      funext b; apply Fin.ext
      match b with
      | ⟨0, _⟩ => rfl
      | ⟨1, _⟩ => rfl]
    exact hval k
  have hm : multiReductionI .add [1] ⟨1, ![256]⟩ (hit (BitVec.ofNat 32 b) x0) 0#32 redP rfl (ix1 r)
      = BitVec.ofNat 32 (OrderMath.pos y n).val := by
    refine BitVec.eq_of_toNat_eq ?_
    rw [BitVec.toNat_ofNat, Nat.mod_eq_of_lt (by omega)]
    exact (WordSum.toNat_multiReductionI_add (hit (BitVec.ofNat 32 b) x0) redP rfl (ix1 r) (by rw [hsum]; omega)).trans hsum
  rw [hm]
  exact word_add _ a 4096

end Cert.Proof.RankMath
-- ==== Proof.KBody.lean ====
/-
  The bodies of the three TensorCore calls of the kernel on the extended reals, inside the program's own ghost state:
  what each leaves in its output buffers from the blocks it reads, and the pipelines' proof data.
-/
module

public import proofs.«01_k».proof.Defs
public import proofs.«01_k».proof.Proof.KnnMath
public import proofs.«01_k».proof.Proof.RankMath
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.UnfoldOut
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.KBody

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KnnMath Cert.Proof.RankMath

/-! ## The program's tables and the ghost state -/

abbrev ΛP : Labels := Pipeline.Sig Λ₀ (Fin 3) fun p => (pcfgs (F := Ideal) p).Adm
abbrev K : SparseCore.Cfg τ sig ΛP 1 := sc (F := Ideal)
abbrev D : Defs nD τ sig (Elt Ideal) ΛP := Pipeline.defs pcfgs defs₀
abbrev 𝒱₀ : Variants := Variants.none
abbrev 𝒱 : Variants := 𝒱₀.lift
abbrev v₀ : 𝒱.V := Sum.inl none

/-- The handshakes' rounds, the pipelines' rounds and the streams' counters. -/
abbrev UU : Type := URounds (GSem nD τ sig) ℕ × (URounds (GSem nD τ sig) Unit × Counters)

local notation "𝕄" => MT nD τ sig (HIx 1) (Elt Ideal) ℕ UU ℕ

abbrev Vals : Type := (c : Dev nD) → (b : Ref sig .tc) → Buf (Elt Ideal) ((c : Thread nD τ).loc b)

/-- What the TensorCore owes before the SparseCore call. -/
abbrev owe (c : Dev nD) : CellTallies nD τ sig (HIx 1) := (K).Otc c 0
/-- The pairs its waits may have recorded by then: those of level zero. -/
def recd (c : Dev nD) : Set (SemLoc sig × HIx 1) := {p | (K).lev (SparseCore.T c, p.1) p.2 ≤ 0}

variable (V : Vals)

/-! ## The accesses -/

abbrev rX : Rect S1x256x256 := Rect.unit (s := S1x256x256) ![0, 0, 0] S1x256x256.size inb_S1x256x256_S1x256x256_0_0_0
abbrev rY : Rect S1x4096x256 := Rect.unit (s := S1x4096x256) ![0, 0, 0] S1x4096x256.size inb_S1x4096x256_S1x4096x256_0_0_0
abbrev rC : Rect S1x256x1 := Rect.unit (s := S1x256x1) ![0, 0, 0] S1x256x1.size inb_S1x256x1_S1x256x1_0_0_0
abbrev rR : Rect S1x1x4096 := Rect.unit (s := S1x1x4096) ![0, 0, 0] S1x1x4096.size inb_S1x1x4096_S1x1x4096_0_0_0
abbrev rO : Rect S1x1x256 := Rect.unit (s := S1x1x256) ![0, 0, 0] S1x1x256.size inb_S1x1x256_S1x1x256_0_0_0
abbrev rQ : Rect S1x512x1 := Rect.unit (s := S1x512x1) ![0, 0, 0] S1x512x1.size inb_S1x512x1_S1x512x1_0_0_0
abbrev rP : Rect S1x1x512 := Rect.unit (s := S1x1x512) ![0, 0, 0] S1x1x512.size inb_S1x1x512_S1x1x512_0_0_0

theorem coverO (p0 : Vec Ideal S1x1x256 .f32) (y : S1x1x256.Idx) :
    ∃ pc ∈ ([⟨rO, p0⟩] : List (View.Piece (Elt Ideal) S1x1x256 .f32)), y ∈ pc.1.set :=
  View.cover_of_tiled [⟨rO, p0⟩] S1x1x256.size (by rfl) y
theorem coverC (p0 : Vec Ideal S1x256x1 .f32) (y : S1x256x1.Idx) :
    ∃ pc ∈ ([⟨rC, p0⟩] : List (View.Piece (Elt Ideal) S1x256x1 .f32)), y ∈ pc.1.set :=
  View.cover_of_tiled [⟨rC, p0⟩] S1x256x1.size (by rfl) y
theorem coverP (p0 : Vec Ideal S1x1x512 .i32) (y : S1x1x512.Idx) :
    ∃ pc ∈ ([⟨rP, p0⟩] : List (View.Piece (Elt Ideal) S1x1x512 .i32)), y ∈ pc.1.set :=
  View.cover_of_tiled [⟨rP, p0⟩] S1x1x512.size (by rfl) y
theorem coverI (p0 : Vec Ideal S1x256x1 .i32) (y : S1x256x1.Idx) :
    ∃ pc ∈ ([⟨rC, p0⟩] : List (View.Piece (Elt Ideal) S1x256x1 .i32)), y ∈ pc.1.set :=
  View.cover_of_tiled [⟨rC, p0⟩] S1x256x1.size (by rfl) y

/-! ## What the bodies leave -/

/-- The block of densities, one a row. -/
def densOf (x0 : Vec Ideal S1x256x256 .f32) (x1 : Vec Ideal S1x4096x256 .f32) (x2 : Vec Ideal S1x256x1 .f32)
    (x3 : Vec Ideal S1x1x4096 .f32) : FVec Ideal S256x1 .f32 :=
  dens (dist2 (View.ld x0 rX) (View.ld x1 rY) (View.ld x2 rC) (View.ld x3 rR))

def outRow (x0 : Vec Ideal S1x256x256 .f32) (x1 : Vec Ideal S1x4096x256 .f32) (x2 : Vec Ideal S1x256x1 .f32)
    (x3 : Vec Ideal S1x1x4096 .f32) : Vec Ideal S1x1x256 .f32 :=
  View.canon [⟨rO, (shapeCast S1x1x256 (shapeCast S256 (densOf x0 x1 x2 x3) shapeCasts_S256x1_S256 : FVec Ideal S256 .f32) shapeCasts_S256_S1x1x256 : FVec Ideal S1x1x256 .f32)⟩]

def outCol (x0 : Vec Ideal S1x256x256 .f32) (x1 : Vec Ideal S1x4096x256 .f32) (x2 : Vec Ideal S1x256x1 .f32)
    (x3 : Vec Ideal S1x1x4096 .f32) : Vec Ideal S1x256x1 .f32 :=
  View.canon [⟨rC, (shapeCast S1x256x1 (densOf x0 x1 x2 x3) shapeCasts_S256x1_S1x256x1 : FVec Ideal S1x256x1 .f32)⟩]

def outRank (i : grid1.Coords) (x0 : Vec Ideal S1x512x1 .f32) (x1 : Vec Ideal S1x1x4096 .f32) : Vec Ideal S1x1x512 .i32 :=
  View.canon [⟨rP, (rankBlock (BitVec.ofNat 32 (i 1).val) (View.ld x0 rQ) (View.ld x1 rR) : IVec S1x1x512 32)⟩]

def outPick (i : grid2.Coords) (x0 : Vec Ideal S1x1x4096 .i32) : Vec Ideal S1x256x1 .i32 :=
  View.canon [⟨rC, (pickBlock (BitVec.ofNat 32 (i 0).val) (BitVec.ofNat 32 (i 1).val) (View.ld x0 rR) : IVec S1x256x1 32)⟩]

/-! ## The bodies' triples -/

set_option maxHeartbeats 6000000 in
theorem sound0 (c : Dev nD) (E : Set ℕ) (i : grid0.Coords)
    (a0 : Memref sig .tc .vmem S1x256x256 .f32) (h0 : a0.IsWhole) (a1 : Memref sig .tc .vmem S1x4096x256 .f32) (h1 : a1.IsWhole)
    (a2 : Memref sig .tc .vmem S1x256x1 .f32) (h2 : a2.IsWhole) (a3 : Memref sig .tc .vmem S1x1x4096 .f32) (h3 : a3.IsWhole)
    (a4 : Memref sig .tc .vmem S1x1x256 .f32) (h4 : a4.IsWhole) (a5 : Memref sig .tc .vmem S1x256x1 .f32) (h5 : a5.IsWhole)
    (x0 : Vec Ideal S1x256x256 .f32) (x1 : Vec Ideal S1x4096x256 .f32) (x2 : Vec Ideal S1x256x1 .f32) (x3 : Vec Ideal S1x1x4096 .f32)
    (Q : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (outRow x0 x1 x2 x3)
            ∗ owns (c : Thread nD τ) a5 fullShare (outCol x0 x1 x2 x3)) -∗ Q ⟨⟩))
      ⊢ wp frame (wpE (defs₀ (F := Ideal)) Variants.none c none) E (cc0__knn_kernel i a0 h0 a1 h1 a2 h2 a3 h3 a4 h4 a5 h5) Q := by
  simp only [cc0__knn_kernel_eq_skeleton]; unfold cc0__knn_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverO _)).trans ?_
    rfl
  iexists _; isplitr
  swap; · iexact H5
  ipureintro
  refine (View.read_writes_eq_canon _ _ _ (coverC _)).trans ?_
  rfl

set_option maxHeartbeats 1000000 in
theorem sound1 (c : Dev nD) (E : Set ℕ) (i : grid1.Coords)
    (a0 : Memref sig .tc .vmem S1x512x1 .f32) (h0 : a0.IsWhole) (a1 : Memref sig .tc .vmem S1x1x4096 .f32) (h1 : a1.IsWhole)
    (a2 : Memref sig .tc .vmem S1x1x512 .i32) (h2 : a2.IsWhole)
    (x0 : Vec Ideal S1x512x1 .f32) (x1 : Vec Ideal S1x1x4096 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (outRank i x0 x1)) -∗ Q ⟨⟩))
      ⊢ wp frame (wpE (defs₀ (F := Ideal)) Variants.none c none) E (cc1__rank_kernel i a0 h0 a1 h1 a2 h2) Q := by
  simp only [cc1__rank_kernel_eq_skeleton]; unfold cc1__rank_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (coverP _)).trans ?_
  rfl

set_option maxHeartbeats 1000000 in
theorem sound2 (c : Dev nD) (E : Set ℕ) (i : grid2.Coords)
    (a0 : Memref sig .tc .vmem S1x1x4096 .i32) (h0 : a0.IsWhole) (a1 : Memref sig .tc .vmem S1x256x1 .i32) (h1 : a1.IsWhole)
    (x0 : Vec Ideal S1x1x4096 .i32) (Q : PUnit → sProp 𝕄) :
    iprop(owns (c : Thread nD τ) a0 fullShare x0 ∗ (∃ d, owns (c : Thread nD τ) a1 fullShare d)
        ∗ (iprop(owns (c : Thread nD τ) a0 fullShare x0 ∗ owns (c : Thread nD τ) a1 fullShare (outPick i x0)) -∗ Q ⟨⟩))
      ⊢ wp frame (wpE (defs₀ (F := Ideal)) Variants.none c none) E (cc2__inds_kernel i a0 h0 a1 h1) Q := by
  simp only [cc2__inds_kernel_eq_skeleton]; unfold cc2__inds_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (coverI _)).trans ?_
  rfl

/-! ## The pipelines' proof data -/

/-- A window's block at a point, off its array as the call finds it. -/
def blk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))
def blk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))
def blk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

def dat0 (c : Dev nD) : Dat τ (Elt Ideal) (HIx 1) ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => outRow (blk0 V c 0 t) (blk0 V c 1 t) (blk0 V c 2 t) (blk0 V c 3 t)
    | ⟨5, _⟩ => outCol (blk0 V c 0 t) (blk0 V c 1 t) (blk0 V c 2 t) (blk0 V c 3 t)
  Φ _ := Pipeline.scopedRest spec0 c
  q w := Pipeline.shareOf spec0 w
  owed _ := owe c
  recorded _ := recd c

def dat1 (c : Dev nD) : Dat τ (Elt Ideal) (HIx 1) ℕ UU ℕ cfg1 c where
  A w := V c (Pipeline.arrRef spec1 w)
  after w t := match w with
    | ⟨0, _⟩ => blk1 V c 0 t
    | ⟨1, _⟩ => blk1 V c 1 t
    | ⟨2, _⟩ => outRank (grid1.coords t) (blk1 V c 0 t) (blk1 V c 1 t)
  Φ _ := Pipeline.scopedRest spec1 c
  q _ := fullShare
  owed _ := owe c
  recorded _ := recd c

def dat2 (c : Dev nD) : Dat τ (Elt Ideal) (HIx 1) ℕ UU ℕ cfg2 c where
  A w := V c (Pipeline.arrRef spec2 w)
  after w t := match w with
    | ⟨0, _⟩ => blk2 V c 0 t
    | ⟨1, _⟩ => outPick (grid2.coords t) (blk2 V c 0 t)
  Φ _ := Pipeline.scopedRest spec2 c
  q _ := fullShare
  owed _ := owe c
  recorded _ := recd c

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_4 (c : Dev nD) (t : Fin cfg0.N) :
    (dat0 V c).after 4 t = outRow (blk0 V c 0 t) (blk0 V c 1 t) (blk0 V c 2 t) (blk0 V c 3 t) := by dsimp only [dat0]
theorem after0_5 (c : Dev nD) (t : Fin cfg0.N) :
    (dat0 V c).after 5 t = outCol (blk0 V c 0 t) (blk0 V c 1 t) (blk0 V c 2 t) (blk0 V c 3 t) := by dsimp only [dat0]
theorem after1_2 (c : Dev nD) (t : Fin cfg1.N) :
    (dat1 V c).after 2 t = outRank (grid1.coords t) (blk1 V c 0 t) (blk1 V c 1 t) := by dsimp only [dat1]
theorem after2_1 (c : Dev nD) (t : Fin cfg2.N) :
    (dat2 V c).after 1 t = outPick (grid2.coords t) (blk2 V c 0 t) := by dsimp only [dat2]

/-- An input window's buffer holds its block at every point, in a pipeline whose body leaves it. -/
theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun t => by dsimp only [dat0]; rfl) t d).trans rfl
theorem before0_2 (c : Dev nD) (t : Fin cfg0.N) (d) : (dat0 V c).before 2 t d = blk0 V c 2 t :=
  ((dat0 V c).before_in_eq_fetched 2 rfl (fun _ => rfl) (fun _ _ _ => rfl) (fun t => by dsimp only [dat0]; rfl) t d).trans rfl
theorem before0_3 (c : Dev nD) (t : Fin cfg0.N) (d) : (dat0 V c).before 3 t d = blk0 V c 3 t :=
  ((dat0 V c).before_in_eq_fetched 3 rfl (fun _ => rfl) (fun _ _ _ => rfl) (fun t => by dsimp only [dat0]; rfl) t d).trans rfl
theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun t => by dsimp only [dat1]; rfl) t d).trans rfl
theorem before2_0 (c : Dev nD) (t : Fin cfg2.N) (d) : (dat2 V c).before 0 t d = blk2 V c 0 t :=
  ((dat2 V c).before_in_eq_fetched 0 rfl (fun _ => rfl) (fun _ _ _ => rfl) (fun t => by dsimp only [dat2]; rfl) t d).trans rfl

/-! ## The body obligations -/

theorem row0 (t : Fin cfg0.N) : defs₀ (F := Ideal) .tc cfg0.body (cfg0.bodyArgs t (cfg0.slots t)) = bodyAt0 t := by
  rfl
theorem row1 (t : Fin cfg1.N) : defs₀ (F := Ideal) .tc cfg1.body (cfg1.bodyArgs t (cfg1.slots t)) = bodyAt1 t := by
  rfl
theorem row2 (t : Fin cfg2.N) : defs₀ (F := Ideal) .tc cfg2.body (cfg2.bodyArgs t (cfg2.slots t)) = bodyAt2 t := by
  rfl

theorem at0 (c : Dev nD) (t : Fin cfg0.N) :
    (iprop((dat0 V c).Φ t.castSucc ∗ (dat0 V c).owesAt none t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))) : sProp 𝕄)
      ⊢ wp frame (wpE (defs₀ (F := Ideal)) Variants.none c none) Set.univ (bodyAt0 t) (fun _ =>
        iprop((dat0 V c).Φ t.succ ∗ (dat0 V c).owesAt none t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  simp only [before0_0, before0_1, before0_2, before0_3]
  rw [show (dat0 V c).Φ t.succ = (dat0 V c).Φ t.castSucc from rfl,
    show (dat0 V c).owesAt none t.succ = (dat0 V c).owesAt none t.castSucc from rfl, after0_4, after0_5,
    show (dat0 V c).after 0 t = blk0 V c 0 t by dsimp only [dat0], show (dat0 V c).after 1 t = blk0 V c 1 t by dsimp only [dat0],
    show (dat0 V c).after 2 t = blk0 V c 2 t by dsimp only [dat0], show (dat0 V c).after 3 t = blk0 V c 3 t by dsimp only [dat0]]
  iintro ⟨HΦ, Ho, ⟨%d0, H0⟩, ⟨%d1, H1⟩, ⟨%d2, H2⟩, ⟨%d3, H3⟩, ⟨%d4, H4⟩, ⟨%d5, H5⟩⟩
  iapply (sound0 c Set.univ (grid0.coords t) _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body0 (c : Dev nD) : BodyObligation (dat0 V c) (defs₀ (F := Ideal)) Variants.none none Set.univ := fun t => by
  rw [bigSep_W0, bigSep_W0, row0]
  exact triple_restated (at0 V c t) rfl .rfl fun _ => .rfl

theorem at1 (c : Dev nD) (t : Fin cfg1.N) :
    (iprop((dat1 V c).Φ t.castSucc ∗ (dat1 V c).owesAt none t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))) : sProp 𝕄)
      ⊢ wp frame (wpE (defs₀ (F := Ideal)) Variants.none c none) Set.univ (bodyAt1 t) (fun _ =>
        iprop((dat1 V c).Φ t.succ ∗ (dat1 V c).owesAt none t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt none t.succ = (dat1 V c).owesAt none t.castSucc from rfl, after1_2,
    show (dat1 V c).after 0 t = blk1 V c 0 t by dsimp only [dat1], show (dat1 V c).after 1 t = blk1 V c 1 t by dsimp only [dat1]]
  iintro ⟨HΦ, Ho, ⟨%d0, H0⟩, ⟨%d1, H1⟩, ⟨%d2, H2⟩⟩
  iapply (sound1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body1 (c : Dev nD) : BodyObligation (dat1 V c) (defs₀ (F := Ideal)) Variants.none none Set.univ := fun t => by
  rw [bigSep_W1, bigSep_W1, row1]
  exact triple_restated (at1 V c t) rfl .rfl fun _ => .rfl

theorem at2 (c : Dev nD) (t : Fin cfg2.N) :
    (iprop((dat2 V c).Φ t.castSucc ∗ (dat2 V c).owesAt none t.castSucc
      ∗ (∃ d, owns (c : Thread nD τ) (st2_0 t) fullShare ((dat2 V c).before 0 t d))
      ∗ (∃ d, owns (c : Thread nD τ) (st2_1 t) fullShare ((dat2 V c).before 1 t d))) : sProp 𝕄)
      ⊢ wp frame (wpE (defs₀ (F := Ideal)) Variants.none c none) Set.univ (bodyAt2 t) (fun _ =>
        iprop((dat2 V c).Φ t.succ ∗ (dat2 V c).owesAt none t.succ
        ∗ owns (c : Thread nD τ) (st2_0 t) fullShare ((dat2 V c).after 0 t)
        ∗ owns (c : Thread nD τ) (st2_1 t) fullShare ((dat2 V c).after 1 t))) := by
  unfold bodyAt2
  simp only [before2_0]
  rw [show (dat2 V c).Φ t.succ = (dat2 V c).Φ t.castSucc from rfl,
    show (dat2 V c).owesAt none t.succ = (dat2 V c).owesAt none t.castSucc from rfl, after2_1,
    show (dat2 V c).after 0 t = blk2 V c 0 t by dsimp only [dat2]]
  iintro ⟨HΦ, Ho, ⟨%d0, H0⟩, ⟨%d1, H1⟩⟩
  iapply (sound2 c Set.univ (grid2.coords t) _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body2 (c : Dev nD) : BodyObligation (dat2 V c) (defs₀ (F := Ideal)) Variants.none none Set.univ := fun t => by
  rw [bigSep_W2, bigSep_W2, row2]
  exact triple_restated (at2 V c t) rfl .rfl fun _ => .rfl

end Cert.Proof.KBody
-- ==== Proof.KReg.lean ====
/-
  The three TensorCore calls as steps of the kernel's main program: from every array at some contents to every array at
  those contents with the call's outputs replaced, the core still owing the SparseCore call its start.
-/
module

public import proofs.«01_k».proof.Proof.KBody

@[expose] public section

set_option maxRecDepth 16384

noncomputable section

namespace Cert.Proof.KReg

open Cert.KernelIdeal Cert.KernelIdeal.Gen Cert.Proof.KBody

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

local notation "𝕄" => MT nD τ sig (HIx 1) (Elt Ideal) ℕ UU ℕ

abbrev EH : Emb (URounds (GSem nD τ sig) ℕ) (MT nD τ sig (HIx 1) (Elt Ideal) ℕ UU ℕ) := embL
/-- The pipelines' rounds in the ghost state. -/
def EP : Emb (URounds (GSem nD τ sig) Unit) (MT nD τ sig (HIx 1) (Elt Ideal) ℕ UU ℕ) :=
  (Emb.inl : Emb (URounds (GSem nD τ sig) Unit) (URounds (GSem nD τ sig) Unit × Counters)).trans embR
instance : (EP).LandsIn (upEmb : UEmb _ 𝕄) := by unfold EP; infer_instance

abbrev ValsAt : Type := Dev nD → Valuation τ sig (Elt Ideal)
abbrev vals (W : ValsAt) : Vals := fun c b => W c b

variable (W : ValsAt)

def adm : (p : Fin 3) → (pcfgs (F := Ideal) p).Adm := fun p => (cfgs p).toPCfg_adm

def pdats : (p : Fin 3) → (c : Dev nD) → Dat τ (Elt Ideal) (HIx 1) ℕ UU ℕ (Pipeline.pin (pcfgs (F := Ideal)) adm p) c
  | ⟨0, _⟩ => fun c => dat0 (vals W) c
  | ⟨1, _⟩ => fun c => dat1 (vals W) c
  | ⟨2, _⟩ => fun c => dat2 (vals W) c

/-- What the core owes, its recorded waits of level zero. -/
abbrev ow (c : Dev nD) : sProp 𝕄 := Pipeline.owesWithin c (owe c) (recd c)

/-! ## The arrays after each call -/

def next0 (c : Dev nD) : Valuation τ sig (Elt Ideal) :=
  Pipeline.withArrays spec0 c (W c) fun w => (dat0 (vals W) c).arrAt w cfg0.N
def next1 (c : Dev nD) : Valuation τ sig (Elt Ideal) :=
  Pipeline.withArrays spec1 c (W c) fun w => (dat1 (vals W) c).arrAt w cfg1.N
def next2 (c : Dev nD) : Valuation τ sig (Elt Ideal) :=
  Pipeline.withArrays spec2 c (W c) fun w => (dat2 (vals W) c).arrAt w cfg2.N

theorem next0_arr (c : Dev nD) (w : Fin cfg0.W) :
    next0 W c (Proc.devRef .tc (Pipeline.arrRef spec0 w)) = (dat0 (vals W) c).arrAt w cfg0.N := by
  unfold next0; exact (dat0 (vals W) c).withArrays_arrAt launch₀0.sharedIn _ (A_eq0 (vals W) c) w
theorem next1_arr (c : Dev nD) (w : Fin cfg1.W) :
    next1 W c (Proc.devRef .tc (Pipeline.arrRef spec1 w)) = (dat1 (vals W) c).arrAt w cfg1.N := by
  unfold next1; exact Pipeline.withArrays_arr spec1 launch1.win.arr_inj c _ _ w
theorem next2_arr (c : Dev nD) (w : Fin cfg2.W) :
    next2 W c (Proc.devRef .tc (Pipeline.arrRef spec2 w)) = (dat2 (vals W) c).arrAt w cfg2.N := by
  unfold next2; exact Pipeline.withArrays_arr spec2 launch2.win.arr_inj c _ _ w

theorem next0_ne (c : Dev nD) (b : Ref sig .tc) (hb : ∀ w, Pipeline.arrRef spec0 w ≠ b) :
    next0 W c (Proc.devRef .tc b) = W c (Proc.devRef .tc b) := by
  unfold next0; exact Pipeline.withArrays_of_ne spec0 c _ _ b hb
theorem next1_ne (c : Dev nD) (b : Ref sig .tc) (hb : ∀ w, Pipeline.arrRef spec1 w ≠ b) :
    next1 W c (Proc.devRef .tc b) = W c (Proc.devRef .tc b) := by
  unfold next1; exact Pipeline.withArrays_of_ne spec1 c _ _ b hb
theorem next2_ne (c : Dev nD) (b : Ref sig .tc) (hb : ∀ w, Pipeline.arrRef spec2 w ≠ b) :
    next2 W c (Proc.devRef .tc b) = W c (Proc.devRef .tc b) := by
  unfold next2; exact Pipeline.withArrays_of_ne spec2 c _ _ b hb

/-- A call leaves every array that is none of its outputs. -/
theorem next0_of (c : Dev nD) (r : Ref sig .tc) (h : ∀ w : Fin cfg0.W, Pipeline.arrRef spec0 w = r → (cfg0.win w).isOut = false) :
    next0 W c (Proc.devRef .tc r) = W c (Proc.devRef .tc r) := by
  by_cases hw : ∃ w : Fin cfg0.W, Pipeline.arrRef spec0 w = r
  · obtain ⟨w, rfl⟩ := hw
    exact (next0_arr W c w).trans (((dat0 (vals W) c).arrAt_in w (h w rfl) _).trans (A_eq0 (vals W) c w))
  · exact next0_ne W c r fun w e => hw ⟨w, e⟩
theorem next1_of (c : Dev nD) (r : Ref sig .tc) (h : ∀ w : Fin cfg1.W, Pipeline.arrRef spec1 w = r → (cfg1.win w).isOut = false) :
    next1 W c (Proc.devRef .tc r) = W c (Proc.devRef .tc r) := by
  by_cases hw : ∃ w : Fin cfg1.W, Pipeline.arrRef spec1 w = r
  · obtain ⟨w, rfl⟩ := hw
    exact (next1_arr W c w).trans (((dat1 (vals W) c).arrAt_in w (h w rfl) _).trans (A_eq1 (vals W) c w))
  · exact next1_ne W c r fun w e => hw ⟨w, e⟩
theorem next2_of (c : Dev nD) (r : Ref sig .tc) (h : ∀ w : Fin cfg2.W, Pipeline.arrRef spec2 w = r → (cfg2.win w).isOut = false) :
    next2 W c (Proc.devRef .tc r) = W c (Proc.devRef .tc r) := by
  by_cases hw : ∃ w : Fin cfg2.W, Pipeline.arrRef spec2 w = r
  · obtain ⟨w, rfl⟩ := hw
    exact (next2_arr W c w).trans (((dat2 (vals W) c).arrAt_in w (h w rfl) _).trans (A_eq2 (vals W) c w))
  · exact next2_ne W c r fun w e => hw ⟨w, e⟩

/-! ## What the core owes, around a call -/

theorem owe_none (c : Dev nD) (g : GSem nD τ sig) : owe c g none = 0 := by
  simp [SparseCore.Cfg.Otc, tallyAt_apply]

theorem ow_in (c : Dev nD) (B : Set (SemLoc sig × HIx 1)) : ow c ⊢ (Pipeline.owesWithin c (owe c) (recd c ∪ B) : sProp 𝕄) :=
  Pipeline.owesWithin_mono c _ Set.subset_union_left

theorem ow_out (c : Dev nD) (cfg : Pipeline.Cfg sig Λ₀) :
    (Pipeline.owesWithin c (owe c) (recd c ∪ cfg.waitPairs (none : HIx 1)) : sProp 𝕄) ⊢ ow c :=
  Pipeline.owesWithin_mono c _ (Set.union_subset subset_rfl fun p hp => by
    obtain ⟨w, s, h⟩ := hp; subst h; exact Nat.le_refl 0)

theorem waits (p : Fin 3) (howed : ∀ c t, (pdats W p c).owed t = owe c) (c : Dev nD) :
    (levAts (K).L (K).lev : sProp 𝕄) ⊢ Pipeline.cellsWaits (Pipeline.pin (pcfgs (F := Ideal)) adm) (pdats W) none p c :=
  Pipeline.cellsWaits_intro (Pipeline.pin (pcfgs (F := Ideal)) adm) (pdats W) none p c fun w s t => by
    rw [howed]; exact (K).mayWait_none _ (owe_none c)

/-! ## The calls as regions -/

set_option backward.isDefEq.respectTransparency.types false in
def reg0 : Pipeline.RegionSeg (pcfgs (F := Ideal)) adm (pdats W) none defs₀ 𝒱₀ (K).L (K).lev 0 where
  win := launch₀0.win
  block_pos := launch₀0.block_pos
  stage_whole := launch₀0.stage_whole
  K := PEmpty
  osem k := k.elim
  ho := Pipeline.OwnSemFacts.none _
  hbody c := (body0 (vals W) c).loose
  hwaits := waits W 0 fun _ _ => rfl
  pre c := iprop(held (c : Thread nD τ) (Pipeline.ucRefs τ sig) (W c) ∗ ow c)
  post c := iprop(held (c : Thread nD τ) (Pipeline.ucRefs τ sig) (next0 W c) ∗ ow c)
  X c := iprop(emp)
  Y c := iprop(emp)
  Z c := Pipeline.unscopedRest (Ix := HIx 1) (Name := ℕ) (U := UU) (Lvl := ℕ) spec0 c (vals W c)
  hentry c := by
    rw [Pipeline.ownSems0_none]
    have hsplit := Pipeline.arrays_of_unscopedBufs_shared (p := 0) (pcfgs (F := Ideal)) adm (pdats W) launch₀0.win launch₀0.sharedIn launch₀0.arr_whole c
      (fun _ _ => rfl) (vals W c) (A_eq0 (vals W) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (ow_in c _); iexact HO
    isplitr; · iempintro
    iexact Hrest
  hin c := by
    rw [show (pdats W 0 c).Φ 0 = Pipeline.scopedRest spec0 c from rfl]
    iintro ⟨-, -, Hr⟩
    iexact Hr
  hout c := by
    rw [Pipeline.ownSems0_none, show (pdats W 0 c).Φ (Fin.last _) = Pipeline.scopedRest spec0 c from rfl]
    iintro Hr
    isplitr; · iempintro
    isplitr; · iempintro
    iexact Hr
  hexit c := by
    have hjoin := Pipeline.unscopedBufs_of_arrays_shared (p := 0) (pcfgs (F := Ideal)) adm (Ix := HIx 1) (Name := ℕ) (U := UU) (Lvl := ℕ)
      launch₀0.win launch₀0.sharedIn launch₀0.arr_whole c (pdats W) (fun _ _ => rfl)
      (vals W c) (vals (next0 W) c) ((pdats W 0 c).arrAt · cfg0.N) (fun w => (next0_arr W c w).symm)
      (fun b hb => next0_ne W c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    iapply (ow_out c cfg0); iexact HO

set_option backward.isDefEq.respectTransparency.types false in
def reg1 : Pipeline.RegionSeg (pcfgs (F := Ideal)) adm (pdats W) none defs₀ 𝒱₀ (K).L (K).lev 1 where
  win := launch1.win.to₀
  block_pos := launch1.block_pos
  stage_whole := launch1.stage_whole
  K := PEmpty
  osem k := k.elim
  ho := Pipeline.OwnSemFacts.none _
  hbody c := (body1 (vals W) c).loose
  hwaits := waits W 1 fun _ _ => rfl
  pre c := iprop(held (c : Thread nD τ) (Pipeline.ucRefs τ sig) (W c) ∗ ow c)
  post c := iprop(held (c : Thread nD τ) (Pipeline.ucRefs τ sig) (next1 W c) ∗ ow c)
  X c := iprop(emp)
  Y c := iprop(emp)
  Z c := Pipeline.unscopedRest (Ix := HIx 1) (Name := ℕ) (U := UU) (Lvl := ℕ) spec1 c (vals W c)
  hentry c := by
    rw [Pipeline.ownSems0_none]
    have hsplit := Pipeline.arrays_of_unscopedBufs (p := 1) (pcfgs (F := Ideal)) adm (pdats W) launch1.win launch1.arr_whole c
      ((pdats W 1 c).share_full fun _ => rfl) (vals W c) (A_eq1 (vals W) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (ow_in c _); iexact HO
    isplitr; · iempintro
    iexact Hrest
  hin c := by
    rw [show (pdats W 1 c).Φ 0 = Pipeline.scopedRest spec1 c from rfl]
    iintro ⟨-, -, Hr⟩
    iexact Hr
  hout c := by
    rw [Pipeline.ownSems0_none, show (pdats W 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := Ideal)) adm (Ix := HIx 1) (Name := ℕ) (U := UU) (Lvl := ℕ)
      launch1.win launch1.arr_whole c (pdats W) ((pdats W 1 c).share_full fun _ => rfl)
      (vals W c) (vals (next1 W) c) ((pdats W 1 c).arrAt · cfg1.N) (fun w => (next1_arr W c w).symm)
      (fun b hb => next1_ne W c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    iapply (ow_out c cfg1); iexact HO

set_option backward.isDefEq.respectTransparency.types false in
def reg2 : Pipeline.RegionSeg (pcfgs (F := Ideal)) adm (pdats W) none defs₀ 𝒱₀ (K).L (K).lev 2 where
  win := launch2.win.to₀
  block_pos := launch2.block_pos
  stage_whole := launch2.stage_whole
  K := PEmpty
  osem k := k.elim
  ho := Pipeline.OwnSemFacts.none _
  hbody c := (body2 (vals W) c).loose
  hwaits := waits W 2 fun _ _ => rfl
  pre c := iprop(held (c : Thread nD τ) (Pipeline.ucRefs τ sig) (W c) ∗ ow c)
  post c := iprop(held (c : Thread nD τ) (Pipeline.ucRefs τ sig) (next2 W c) ∗ ow c)
  X c := iprop(emp)
  Y c := iprop(emp)
  Z c := Pipeline.unscopedRest (Ix := HIx 1) (Name := ℕ) (U := UU) (Lvl := ℕ) spec2 c (vals W c)
  hentry c := by
    rw [Pipeline.ownSems0_none]
    have hsplit := Pipeline.arrays_of_unscopedBufs (p := 2) (pcfgs (F := Ideal)) adm (pdats W) launch2.win launch2.arr_whole c
      ((pdats W 2 c).share_full fun _ => rfl) (vals W c) (A_eq2 (vals W) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (ow_in c _); iexact HO
    isplitr; · iempintro
    iexact Hrest
  hin c := by
    rw [show (pdats W 2 c).Φ 0 = Pipeline.scopedRest spec2 c from rfl]
    iintro ⟨-, -, Hr⟩
    iexact Hr
  hout c := by
    rw [Pipeline.ownSems0_none, show (pdats W 2 c).Φ (Fin.last _) = Pipeline.scopedRest spec2 c from rfl]
    iintro Hr
    isplitr; · iempintro
    isplitr; · iempintro
    iexact Hr
  hexit c := by
    have hjoin := Pipeline.unscopedBufs_of_arrays (p := 2) (pcfgs (F := Ideal)) adm (Ix := HIx 1) (Name := ℕ) (U := UU) (Lvl := ℕ)
      launch2.win launch2.arr_whole c (pdats W) ((pdats W 2 c).share_full fun _ => rfl)
      (vals W c) (vals (next2 W) c) ((pdats W 2 c).arrAt · cfg2.N) (fun w => (next2_arr W c w).symm)
      (fun b hb => next2_ne W c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    iapply (ow_out c cfg2); iexact HO

/-! ## The calls in the main program -/

/-- A pipeline's share of the launch's ghost state. -/
abbrev gst (p : Fin 3) (c : Dev nD) : sProp 𝕄 :=
  iprop(Pipeline.cellsGhost (Pipeline.pin (pcfgs (F := Ideal)) adm) EP p c ∗ Pipeline.toksInit (Pipeline.pin (pcfgs (F := Ideal)) adm) EP p c)

set_option backward.isDefEq.respectTransparency.types false in
theorem call (p : Fin 3) (R : Pipeline.RegionSeg (pcfgs (F := Ideal)) adm (pdats W) none defs₀ 𝒱₀ (K).L (K).lev p) (c : Dev nD)
    (Q : PUnit → sProp 𝕄) :
    iprop((iprop(boundary (c : Thread nD τ) ∗ R.post c) -∗ Q ⟨⟩) ∗ boundary (c : Thread nD τ) ∗ R.pre c ∗ levAts (K).L (K).lev ∗ gst p c)
      ⊢ wp frame (wpE ((K).defs D) 𝒱 (SparseCore.T c) none) Set.univ
          (Prog.lift (.customCall (SparseCore.inner (Pipeline.entry p)) ())) Q := by
  refine BI.Entails.trans ?_ ((K).wp_liftProg D 𝒱 (SparseCore.T c) Set.univ none (.op (.customCall (Pipeline.entry p) ()) .ret) Q)
  refine BI.Entails.trans ?_ (R.wp (pcfgs (F := Ideal)) adm (pdats W) none cellOf_inj EP defs₀ 𝒱₀ (K).L (K).lev c none (fun _ h => nomatch h) .ret Q)
  show (iprop((iprop(boundary (c : Thread nD τ) ∗ R.post c) -∗ Q ⟨⟩) ∗ boundary (c : Thread nD τ) ∗ R.pre c ∗ levAts (K).L (K).lev ∗ gst p c) : sProp 𝕄)
    ⊢ _
  iintro ⟨Hk, Hb, Hpre, Hl, Hg, Ht⟩
  isplitl [Hk]
  · iintro H
    rw [wp_ret]
    imodintro
    iapply Hk; iexact H
  isplitl [Hb]; · iexact Hb
  isplitl [Hpre]; · iexact Hpre
  isplitl [Hl]; · iexact Hl
  isplitl [Hg] <;> iassumption

end Cert.Proof.KReg
-- ==== Proof.KTile.lean ====
/-
  One task of the SparseCore call inside the whole kernel: as in `GatherTile`, at the kernel's own arrays and ghost
  state. A vector subcore's blocks of the two results end at the tables read at the list.
-/
module

public import proofs.«01_k».proof.Proof.KReg
public import proofs.«01_k».proof.Proof.GatherTile

@[expose] public section

set_option maxRecDepth 16384

noncomputable section

namespace Cert.Proof.KTile

open Cert.KernelIdeal Cert.KernelIdeal.Gen Cert.Proof.KBody Cert.Proof.KReg
open Cert.Proof.GatherTile (Ops blk_iff read_writes_whole writes_whole_eq)

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

/-! ## The arrays -/

abbrev iLoc (d : Dev nD) : Loc nD τ sig := (SparseCore.T d).loc main_v13
abbrev xLoc (d : Dev nD) : Loc nD τ sig := (SparseCore.T d).loc main_v7
abbrev yLoc (d : Dev nD) : Loc nD τ sig := (SparseCore.T d).loc main_v12
abbrev oLoc (d : Dev nD) : Loc nD τ sig := (SparseCore.T d).loc main_v14_0
abbrev pLoc (d : Dev nD) : Loc nD τ sig := (SparseCore.T d).loc main_v14_1

local notation "iV" => (Memref.whole Cert.KernelIdeal.main_v13_scv : Memref Cert.KernelIdeal.sig Kind.scVector Space.hbm Cert.KernelIdeal.S4096 EltTy.i32)
local notation "xV" => (Memref.whole Cert.KernelIdeal.main_v7_scv : Memref Cert.KernelIdeal.sig Kind.scVector Space.hbm Cert.KernelIdeal.S16384x2x128 EltTy.f32)
local notation "yV" => (Memref.whole Cert.KernelIdeal.main_v12_scv : Memref Cert.KernelIdeal.sig Kind.scVector Space.hbm Cert.KernelIdeal.S16384x128 EltTy.f32)
local notation "oV" => (Memref.whole Cert.KernelIdeal.main_v14_0_scv : Memref Cert.KernelIdeal.sig Kind.scVector Space.hbm Cert.KernelIdeal.S4096x2x128 EltTy.f32)
local notation "pV" => (Memref.whole Cert.KernelIdeal.main_v14_1_scv : Memref Cert.KernelIdeal.sig Kind.scVector Space.hbm Cert.KernelIdeal.S4096x128 EltTy.f32)
local notation "sV" => (Memref.whole Cert.KernelIdeal.cc3_scratch0 : Memref Cert.KernelIdeal.sig Kind.scVector Space.vmem Cert.KernelIdeal.S128 EltTy.i32)
local notation "rV" => (Memref.whole Cert.KernelIdeal.cc3_scratch1 : Memref Cert.KernelIdeal.sig Kind.scVector Space.vmem Cert.KernelIdeal.S128x2x128 EltTy.f32)
local notation "tV" => (Memref.whole Cert.KernelIdeal.cc3_scratch2 : Memref Cert.KernelIdeal.sig Kind.scVector Space.vmem Cert.KernelIdeal.S128x128 EltTy.f32)

variable (A : Dev nD → Ops Ideal)

/-! ## The 32 blocks of 128 rows -/

def iBlk (w : Fin 32) : Finset S4096.Idx := Finset.univ.filter fun x => (x 0).val / 128 = w.val
def oBlk (w : Fin 32) : Finset S4096x2x128.Idx := Finset.univ.filter fun x => (x 0).val / 128 = w.val
def pBlk (w : Fin 32) : Finset S4096x128.Idx := Finset.univ.filter fun x => (x 0).val / 128 = w.val

/-- Task `w`'s read share of a table. -/
abbrev shr (w : Fin 32) : PosShare TreeShare := pieceOf fullShare 32 (by decide) w

abbrev iPts (d : Dev nD) (w : Fin 32) : sProp 𝕄 := iLoc d ↦[iBlk w]{fullShare} (A d).ci
abbrev xPts (d : Dev nD) (w : Fin 32) : sProp 𝕄 := xLoc d ↦{shr w} (A d).cx
abbrev yPts (d : Dev nD) (w : Fin 32) : sProp 𝕄 := yLoc d ↦{shr w} (A d).cy
abbrev oPts (d : Dev nD) (w : Fin 32) (f : Buf (Elt Ideal) (oLoc d)) : sProp 𝕄 := oLoc d ↦[oBlk w]{fullShare} f
abbrev pPts (d : Dev nD) (w : Fin 32) (f : Buf (Elt Ideal) (pLoc d)) : sProp 𝕄 := pLoc d ↦[pBlk w]{fullShare} f

/-- What task `w` is handed, and what it hands back. -/
abbrev goR (d : Dev nD) (w : Fin 32) : sProp 𝕄 :=
  iprop(iPts A d w ∗ xPts A d w ∗ yPts A d w ∗ oPts d w (A d).co ∗ pPts d w (A d).cp)
abbrev tdR (d : Dev nD) (w : Fin 32) : sProp 𝕄 :=
  iprop(iPts A d w ∗ xPts A d w ∗ yPts A d w ∗ oPts d w (A d).ro ∗ pPts d w (A d).rp)

/-! ## The task's views -/

section Tile

variable (d : Dev nD) (L : grid3.Coords)

abbrev cV (L : grid3.Coords) : Fin τ.nSC := (L 0).castLE hcore3
abbrev jV (L : grid3.Coords) : Fin τ.nSub := (L 1).castLE hsub3

/-- The task's number: its block. -/
def wid (L : grid3.Coords) : Fin 32 :=
  ⟨2 * (L 1).val + (L 0).val, by
    have h0 : (L 0).val < 2 := (L 0).isLt
    have h1 : (L 1).val < 16 := (L 1).isLt
    omega⟩

abbrev iK (L : grid3.Coords) : Memref sig .scVector .hbm S128 .i32 :=
  (iV).slice (Rect.unit (s := S4096) (k3_off1 L) S128.size (k3_off1_inb L)) (fun _ => rfl)
abbrev oK (L : grid3.Coords) : Memref sig .scVector .hbm S128x2x128 .f32 :=
  (oV).slice (Rect.unit (s := S4096x2x128) (k3_off2 L) S128x2x128.size (k3_off2_inb L)) (fun _ => rfl)
abbrev pK (L : grid3.Coords) : Memref sig .scVector .hbm S128x128 .f32 :=
  (pV).slice (Rect.unit (s := S4096x128) (k3_off3 L) S128x128.size (k3_off3_inb L)) (fun _ => rfl)
abbrev xK : Memref sig .scVector .hbm S16384x2x128 .f32 :=
  (xV).slice (Rect.unit (s := S16384x2x128) ![0, 0, 0] S16384x2x128.size inb_S16384x2x128_S16384x2x128_0_0_0) (fun _ => rfl)
abbrev yK : Memref sig .scVector .hbm S16384x128 .f32 :=
  (yV).slice (Rect.unit (s := S16384x128) ![0, 0] S16384x128.size inb_S16384x128_S16384x128_0_0) (fun _ => rfl)

theorem set_iK : (iK L).view.set = iBlk (wid L) := by
  refine (View.set_slice_whole _ _).trans ?_
  ext (x : S4096.Idx)
  refine Rect.mem_set_unit.trans (Iff.trans ?_ (show (x 0).val / 128 = (wid L).val ↔ x ∈ iBlk (wid L) by simp [iBlk]))
  simp only [k3_off1_eq]
  refine ⟨fun h => ?_, fun h a => ?_⟩
  · exact (blk_iff _ _ _).1 (h 0)
  · match a with
    | 0 => exact (blk_iff _ _ _).2 h
theorem set_oK : (oK L).view.set = oBlk (wid L) := by
  refine (View.set_slice_whole _ _).trans ?_
  ext (x : S4096x2x128.Idx)
  refine Rect.mem_set_unit.trans (Iff.trans ?_ (show (x 0).val / 128 = (wid L).val ↔ x ∈ oBlk (wid L) by simp [oBlk]))
  simp only [k3_off2_eq]
  refine ⟨fun h => ?_, fun h a => ?_⟩
  · exact (blk_iff _ _ _).1 (h 0)
  · match a with
    | 0 => exact (blk_iff _ _ _).2 h
    | 1 => exact ⟨Nat.zero_le _, by simpa using (x 1).isLt⟩
    | 2 => exact ⟨Nat.zero_le _, by simpa using (x 2).isLt⟩
theorem set_pK : (pK L).view.set = pBlk (wid L) := by
  refine (View.set_slice_whole _ _).trans ?_
  ext (x : S4096x128.Idx)
  refine Rect.mem_set_unit.trans (Iff.trans ?_ (show (x 0).val / 128 = (wid L).val ↔ x ∈ pBlk (wid L) by simp [pBlk]))
  simp only [k3_off3_eq]
  refine ⟨fun h => ?_, fun h a => ?_⟩
  · exact (blk_iff _ _ _).1 (h 0)
  · match a with
    | 0 => exact (blk_iff _ _ _).2 h
    | 1 => exact ⟨Nat.zero_le _, by simpa using (x 1).isLt⟩

/-- The three scoped regions' cells and the two streams' cells. -/
abbrev cell (d : Dev nD) (L : grid3.Coords) (s : DmaSem sig) : GSem nD τ sig := (V d (cV L) (jV L), .dma s)

theorem cell_ne {s s' : DmaSem sig} (h : s ≠ s') : cell d L s ≠ cell d L s' := fun e => h (by simpa [cell] using e)

theorem ownSems0_V :
    (ownSems0 (V d (cV L) (jV L)) : sProp 𝕄)
      = iprop(semVal (cell d L cc3_scoped0.sem) 0 ∗ semVal (cell d L cc3_scoped1.sem) 0 ∗ semVal (cell d L cc3_scoped2.sem) 0
          ∗ semVal (cell d L cc3_scratch3.sem) 0 ∗ semVal (cell d L cc3_scratch4.sem) 0
          ∗ bigSep ((((((ownCells (V d (cV L) (jV L))).erase (cell d L cc3_scoped0.sem)).erase (cell d L cc3_scoped1.sem)).erase
              (cell d L cc3_scoped2.sem)).erase (cell d L cc3_scratch3.sem)).erase (cell d L cc3_scratch4.sem)) fun g => semVal g 0) := by
  unfold SparseCore.Cfg.ownSems0
  have own : ∀ s : DmaSem sig, (SemLoc.dma s : SemLoc sig).isScoped .scVector = true → cell d L s ∈ ownCells (V d (cV L) (jV L)) :=
    fun s h => mem_ownCells.mpr ⟨rfl, h⟩
  rw [SparseCore.bigSep_erase' (own cc3_scoped0.sem (by decide)),
    SparseCore.bigSep_erase' (Finset.mem_erase.mpr ⟨cell_ne d L (by decide), own cc3_scoped1.sem (by decide)⟩),
    SparseCore.bigSep_erase' (Finset.mem_erase.mpr ⟨cell_ne d L (by decide), Finset.mem_erase.mpr ⟨cell_ne d L (by decide), own cc3_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), own cc3_scratch3.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), own cc3_scratch4.sem (by decide)⟩⟩⟩⟩)]

theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have ne : ∀ {b b' : Ref sig .scVector}, b ≠ b' → (Proc.scVector (cV L) (jV L)).devRef b ≠ (Proc.scVector (cV L) (jV L)).devRef b' :=
    fun h e => h (Proc.devRef_injective _ e)
  refine (SparseCore.bigSep_erase' (own cc3_scratch0 rfl)).trans ?_
  rw [SparseCore.bigSep_erase' (Finset.mem_erase.mpr ⟨ne (by decide), own cc3_scratch1 rfl⟩),
    SparseCore.bigSep_erase' (Finset.mem_erase.mpr ⟨ne (by decide), Finset.mem_erase.mpr ⟨ne (by decide), own cc3_scratch2 rfl⟩⟩)]

/-! ## What the list buffer holds, and what the streams deliver -/

/-- The task's list after its fetch. -/
abbrev lst (d : Dev nD) (L : grid3.Coords) : S128.Idx → Elt Ideal .i32 := (iK L).view.read (Elt Ideal) (A d).ci

theorem lst_lt (d : Dev nD) (L : grid3.Coords) (fs : Buf (Elt Ideal) ((V d (cV L) (jV L)).loc cc3_scratch0)) (pay : S128.Idx → Elt Ideal .i32)
    (hpay : pay = lst A d L) (x : S128.Idx) :
    ((sV).view.read (Elt Ideal) (View.write (Elt Ideal) (sV).view fs pay Finset.univ) x).toNat < 16384 := by
  subst hpay
  rw [View.write_whole_univ]
  exact (A d).hi _

/-- Word `k` of the task's list is word `128 * wid + k` of the whole list. -/
theorem lst_apply (k : S128.Idx) (j : Fin 4096) (hj : j.val = 128 * (wid L).val + (k 0).val) :
    lst A d L k = (A d).ci (fun | 0 => j) := by
  refine (View.read_apply _ _).trans ((cast_eq _ _).trans (congrArg (A d).ci ?_))
  funext a
  match a with
  | 0 =>
    apply Fin.ext
    show (k3_off1 L) 0 + 1 * (k 0).val = j.val
    rw [k3_off1_eq, hj]
    simp [wid]
    omega

theorem xK_read (f : Buf (Elt Ideal) (xLoc d)) : xK.view.read (Elt Ideal) f = f := by
  refine funext fun x => (View.read_apply _ _).trans ((cast_eq _ _).trans (congrArg f (funext fun a => Fin.ext ?_)))
  show (![0, 0, 0] : Fin 3 → ℕ) a + 1 * (x a).val = (x a).val
  match a with
  | 0 => simp
  | 1 => simp
  | 2 => simp

theorem yK_read (f : Buf (Elt Ideal) (yLoc d)) : yK.view.read (Elt Ideal) f = f := by
  refine funext fun x => (View.read_apply _ _).trans ((cast_eq _ _).trans (congrArg f (funext fun a => Fin.ext ?_)))
  show (![0, 0] : Fin 2 → ℕ) a + 1 * (x a).val = (x a).val
  match a with
  | 0 => simp
  | 1 => simp

/-- The row entry `k` of the fetched list names is the row entry `128 * wid + k` of the whole list names. -/
theorem row_val {o : ℕ} (fs : Buf (Elt Ideal) ((V d (cV L) (jV L)).loc cc3_scratch0)) (hn : S128.numel = o)
    (hin : ∀ x, ((sV).view.read (Elt Ideal) (View.write (Elt Ideal) (sV).view fs (lst A d L) Finset.univ) x).toNat < 16384)
    (k : Fin o) (j : Fin 4096) (hj : j.val = 128 * (wid L).val + k.val) :
    (SparseCore.rows ((sV).view.read (Elt Ideal) (View.write (Elt Ideal) (sV).view fs (lst A d L) Finset.univ)) hn hin k).val = ((A d).row j).val := by
  have hk : ((S128.rowMajor.symm (k.cast hn.symm)) 0).val = k.val := by
    rw [← Shape.rowMajor_val_one, Equiv.apply_symm_apply]; rfl
  have e := lst_apply A d L (S128.rowMajor.symm (k.cast hn.symm)) j (by rw [hk]; exact hj)
  show (((sV).view.read (Elt Ideal) (View.write (Elt Ideal) (sV).view fs (lst A d L) Finset.univ)) (S128.rowMajor.symm (k.cast hn.symm))).toNat = _
  rw [View.write_whole_univ]
  exact (congrArg (fun v : BitVec 32 => v.toNat) e :)

/-- What the first stream delivers: the task's block of the first result. -/
theorem payload_x (fs : Buf (Elt Ideal) ((V d (cV L) (jV L)).loc cc3_scratch0)) (pay : S128.Idx → Elt Ideal .i32) (hpay : pay = lst A d L)
    (hn : S128.numel = S128x2x128.size gathers_S16384x2x128_S128x2x128.axis')
    (hin : ∀ x, ((sV).view.read (Elt Ideal) (View.write (Elt Ideal) (sV).view fs pay Finset.univ) x).toNat < S16384x2x128.size gathers_S16384x2x128_S128x2x128.axis) :
    SparseCore.gatherPayload gathers_S16384x2x128_S128x2x128 (A d).cx
        (SparseCore.rows ((sV).view.read (Elt Ideal) (View.write (Elt Ideal) (sV).view fs pay Finset.univ)) hn hin)
      = (oK L).view.read (Elt Ideal) (A d).ro := by
  subst hpay
  funext x
  refine Eq.trans ?_ ((View.read_apply _ _).trans (cast_eq _ _)).symm
  refine congrArg (A d).cx (funext fun a => Fin.ext ?_)
  match a with
  | 0 =>
    refine (congrArg Fin.val (Shape.Gathers.idx_axis gathers_S16384x2x128_S128x2x128 _ x)).trans (row_val A d L fs hn hin _ _ ?_)
    show (k3_off2 L) 0 + 1 * (x 0).val = _
    rw [k3_off2_eq]; simp [wid]; omega
  | 1 =>
    refine (Shape.Gathers.idx_of_ne gathers_S16384x2x128_S128x2x128 _ x 1 (by decide)).trans ?_
    show (x 1).val = (k3_off2 L) 1 + 1 * (x 1).val
    rw [k3_off2_eq]; simp
  | 2 =>
    refine (Shape.Gathers.idx_of_ne gathers_S16384x2x128_S128x2x128 _ x 2 (by decide)).trans ?_
    show (x 2).val = (k3_off2 L) 2 + 1 * (x 2).val
    rw [k3_off2_eq]; simp

/-- What the second stream delivers: the task's block of the second result. -/
theorem payload_y (fs : Buf (Elt Ideal) ((V d (cV L) (jV L)).loc cc3_scratch0)) (pay : S128.Idx → Elt Ideal .i32) (hpay : pay = lst A d L)
    (hn : S128.numel = S128x128.size gathers_S16384x128_S128x128.axis')
    (hin : ∀ x, ((sV).view.read (Elt Ideal) (View.write (Elt Ideal) (sV).view fs pay Finset.univ) x).toNat < S16384x128.size gathers_S16384x128_S128x128.axis) :
    SparseCore.gatherPayload gathers_S16384x128_S128x128 (A d).cy
        (SparseCore.rows ((sV).view.read (Elt Ideal) (View.write (Elt Ideal) (sV).view fs pay Finset.univ)) hn hin)
      = (pK L).view.read (Elt Ideal) (A d).rp := by
  subst hpay
  funext x
  refine Eq.trans ?_ ((View.read_apply _ _).trans (cast_eq _ _)).symm
  refine congrArg (A d).cy (funext fun a => Fin.ext ?_)
  match a with
  | 0 =>
    refine (congrArg Fin.val (Shape.Gathers.idx_axis gathers_S16384x128_S128x128 _ x)).trans (row_val A d L fs hn hin _ _ ?_)
    show (k3_off3 L) 0 + 1 * (x 0).val = _
    rw [k3_off3_eq]; simp [wid]; omega
  | 1 =>
    refine (Shape.Gathers.idx_of_ne gathers_S16384x128_S128x128 _ x 1 (by decide)).trans ?_
    show (x 1).val = (k3_off3 L) 1 + 1 * (x 1).val
    rw [k3_off3_eq]; simp

set_option maxHeartbeats 4000000 in
/-- The task on vector subcore `(L 0, L 1)` of device `d`. -/
theorem tile_body (hF : (K).Facts) (O : CellTallies nD τ sig (HIx 1)) (W : Waits sig (HIx 1)) (hO : ∀ g, O g none = 0) :
    iprop(levAts (K).L (K).lev ∗ emp ∗ goR A d (wid L)
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc3__sc_gather_body L xV (Memref.isWhole_whole _) yV (Memref.isWhole_whole _) iV (Memref.isWhole_whole _)
            oV (Memref.isWhole_whole _) pV (Memref.isWhole_whole _) sV (Memref.isWhole_whole _) rV (Memref.isWhole_whole _) tV (Memref.isWhole_whole _)
            cc3_scratch3 cc3_scratch4 cc3_scoped0 cc3_scoped1 cc3_scoped2)
          fun _ => iprop(tdR A d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_gather_body_eq_skeleton]; unfold cc3__sc_gather_body_skel
  rw [(K).scopedBufs_V hF d (cV L) (jV L), SparseCore.Cfg.scopedSems0_V (Val := Elt Ideal) d (cV L) (jV L), ownSems0_V, ownBufs_V]
  iintro ⟨#Hlv, -, ⟨Hi, Hx, Hy, Ho, Hp⟩, ⟨⟨%fs, Hs⟩, ⟨%fr, Hr⟩, ⟨%ft, Ht⟩, Hbufs⟩, ⟨HsemA, HsemB, HsemC, HsemD, HsemE, Hsems⟩, HO⟩
  ihave Hmw := (show levAts (K).L (K).lev ⊢ Transfers.MayWaits (V d (cV L) (jV L)) (default : HIx 1) O from
    (K).mayWaits_none (thr := V d (cV L) (jV L)) hO) $$ Hlv
  ihave Hi' := (Entails.of_eq (show (iPts A d (wid L) : sProp 𝕄) = ((iK L).view.loc (V d (cV L) (jV L)) ↦[(iK L).view.set]{fullShare} (A d).ci) by rw [set_iK])) $$ Hi
  ihave Ho' := (Entails.of_eq (show (oPts d (wid L) (A d).co : sProp 𝕄) = ((oK L).view.loc (V d (cV L) (jV L)) ↦[(oK L).view.set]{fullShare} (A d).co) by rw [set_oK])) $$ Ho
  ihave Hp' := (Entails.of_eq (show (pPts d (wid L) (A d).cp : sProp 𝕄) = ((pK L).view.loc (V d (cV L) (jV L)) ↦[(pK L).view.set]{fullShare} (A d).cp) by rw [set_pK])) $$ Hp
  ihave Hx' := (Entails.of_eq (show (xPts A d (wid L) : sProp 𝕄) = ((xV).view.loc (V d (cV L) (jV L)) ↦{shr (wid L)} (A d).cx) from rfl)) $$ Hx
  ihave Hy' := (Entails.of_eq (show (yPts A d (wid L) : sProp 𝕄) = ((yV).view.loc (V d (cV L) (jV L)) ↦{shr (wid L)} (A d).cy) from rfl)) $$ Hy
  ihave Hs' := (Entails.of_eq (show (((V d (cV L) (jV L)).loc cc3_scratch0 ↦{fullShare} fs : sProp 𝕄)) = ((sV).view.loc (V d (cV L) (jV L)) ↦{fullShare} fs) from rfl)) $$ Hs
  ihave Hr' := (Entails.of_eq (show (((V d (cV L) (jV L)).loc cc3_scratch1 ↦{fullShare} fr : sProp 𝕄)) = ((rV).view.loc (V d (cV L) (jV L)) ↦{fullShare} fr) from rfl)) $$ Hr
  ihave Ht' := (Entails.of_eq (show (((V d (cV L) (jV L)).loc cc3_scratch2 ↦{fullShare} ft : sProp 𝕄)) = ((tV).view.loc (V d (cV L) (jV L)) ↦{fullShare} ft) from rfl)) $$ Ht
  sl_exec
  have hin : ∀ x, ((sV).view.read (Elt Ideal) (View.write (Elt Ideal) (sV).view fs (tile_body.sl.dma0 A d L) Finset.univ) x).toNat < S16384x2x128.size gathers_S16384x2x128_S128x2x128.axis :=
    fun x => lst_lt A d L fs _ rfl x
  have hin' : ∀ x, ((sV).view.read (Elt Ideal) (View.write (Elt Ideal) (sV).view fs (tile_body.sl.dma0 A d L) Finset.univ) x).toNat < S16384x128.size gathers_S16384x128_S128x128.axis :=
    fun x => lst_lt A d L fs _ rfl x
  sl_exec
  have hgx : tile_body.sl.dma0_1 A d L fs fr hin = (oK L).view.read (Elt Ideal) (A d).ro := by
    refine (read_writes_whole (rV).view fr _).trans ?_
    refine (congrArg (fun T => SparseCore.gatherPayload _ T _) (xK_read d (A d).cx)).trans ?_
    exact payload_x A d L fs _ rfl _ _
  have hgy : tile_body.sl.dma0_2 A d L fs ft hin' = (pK L).view.read (Elt Ideal) (A d).rp := by
    refine (read_writes_whole (tV).view ft _).trans ?_
    refine (congrArg (fun T => SparseCore.gatherPayload _ T _) (yK_read d (A d).cy)).trans ?_
    exact payload_y A d L fs _ rfl _ _
  sl_step
  isplitl [Hi' Hx' Hy' Ho' Hp']
  · isplitl [Hi']; · rw [set_iK]; iexact Hi'
    isplitl [Hx']; · iexact Hx'
    isplitl [Hy']; · iexact Hy'
    isplitl [Ho']
    · iapply (Entails.of_eq (show ((oK L).view.loc (V d (cV L) (jV L)) ↦[(oK L).view.set]{fullShare}
          (oK L).view.writes (Elt Ideal) (A d).co [⟨Rect.whole S128x2x128, tile_body.sl.dma0_1 A d L fs fr hin⟩] : sProp 𝕄) = oPts d (wid L) (A d).ro from by
        rw [hgx]; refine (pointsTo_congr (writes_whole_eq (oK L).view (A d).co (A d).ro)).trans ?_; rw [set_oK]))
      iexact Ho'
    · iapply (Entails.of_eq (show ((pK L).view.loc (V d (cV L) (jV L)) ↦[(pK L).view.set]{fullShare}
          (pK L).view.writes (Elt Ideal) (A d).cp [⟨Rect.whole S128x128, tile_body.sl.dma0_2 A d L fs ft hin'⟩] : sProp 𝕄) = pPts d (wid L) (A d).rp from by
        rw [hgy]; refine (pointsTo_congr (writes_whole_eq (pK L).view (A d).cp (A d).rp)).trans ?_; rw [set_pK]))
      iexact Hp'
  isplitl [Hs' Hr' Ht' Hbufs]
  · isplitl [Hs']; · iexists _; iexact Hs'
    isplitl [Hr']; · iexists _; iexact Hr'
    isplitl [Ht']; · iexists _; iexact Ht'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  simp only [Finset.mem_insert] at hp
  rcases hp with hp | hp | hp | hp | hp | hp
  iterate 5 exact .inr (hp ▸ rfl)
  exact .inl hp

end Tile

end Cert.Proof.KTile

end
-- ==== Proof.KRun.lean ====
/-
  The run of `KernelIdeal` from its launch to its end, with the values: the squared norms, the three TensorCore calls
  (distances and densities, ranks, the picked indices), the two tables and the list, the SparseCore call on its 32
  tasks (`KTile`), the last host operations. Stated by the contents of @main's arrays at the end, given that the
  picked indices name rows of the tables.
-/
module

public import proofs.«01_k».proof.Proof.KTile
public import Idealize.ShloMosaic.Lib.Pipeline.Frame

@[expose] public section

set_option maxRecDepth 16384

noncomputable section

namespace Cert.Proof.KRun

open Cert.KernelIdeal Cert.KernelIdeal.Gen Cert.Proof.KBody Cert.Proof.KReg Cert.Proof.KTile
open Cert.Proof.GatherTile (Ops)

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs)
open Idealize.ShloMosaic.StableHlo (after held)

local notation "𝕄" => MT nD τ sig (HIx 1) (Elt Ideal) ℕ UU ℕ

/-! ## The host operations -/

section Host
variable {F : FTy → Type} [FloatOps F]

/-- Before the TensorCore calls: the squared norms, as a column and as a row. -/
abbrev hostH : List (HloOp τ sig (Elt F)) :=
  [ StableHlo.binary main_arg0 main_arg0 main_v0 (mulf : (⟨S4x4096x256, .f32⟩ : BufTy).Contents (Elt F) → (⟨S4x4096x256, .f32⟩ : BufTy).Contents (Elt F) → (⟨S4x4096x256, .f32⟩ : BufTy).Contents (Elt F)),
    StableHlo.nullary main_cst (constant S_ .f32 0x00000000#32),
    StableHlo.binary main_v0 main_cst main_v1 ((fun x v => Host.reduceAdd x v reducesTo_S4x4096x256_S4x4096_d2 h_S_) : (⟨S4x4096x256, .f32⟩ : BufTy).Contents (Elt F) → (⟨S_, .f32⟩ : BufTy).Contents (Elt F) → (⟨S4x4096, .f32⟩ : BufTy).Contents (Elt F)),
    StableHlo.reshape main_v1 main_v2 (rfl : (.f32 : EltTy) = .f32) shapeCasts_S4x4096_S4x4096x1,
    StableHlo.reshape main_v1 main_v3 (rfl : (.f32 : EltTy) = .f32) shapeCasts_S4x4096_S4x1x4096 ]

/-- Before the SparseCore call: the two tables and the list. -/
abbrev hostA : List (HloOp τ sig (Elt F)) :=
  [ StableHlo.reshape main_arg0 main_v7 (rfl : (.f32 : EltTy) = .f32) shapeCasts_S4x4096x256_S16384x2x128,
    StableHlo.unary main_arg2 main_v8 (sitofp .f32 : (⟨S4x4096, .i32⟩ : BufTy).Contents (Elt F) → (⟨S4x4096, .f32⟩ : BufTy).Contents (Elt F)),
    StableHlo.unary main_v8 main_v9 (broadcastInDim S4x4096x1 ![0, 1] bcast_S4x4096_S4x4096x1_0_1 : (⟨S4x4096, .f32⟩ : BufTy).Contents (Elt F) → (⟨S4x4096x1, .f32⟩ : BufTy).Contents (Elt F)),
    StableHlo.nullary main_cst_0 (constant S_ .f32 0x00000000#32),
    StableHlo.unary main_cst_0 main_v10 (broadcastInDim S4x4096x124 ![] bcast_S_S4x4096x124 : (⟨S_, .f32⟩ : BufTy).Contents (Elt F) → (⟨S4x4096x124, .f32⟩ : BufTy).Contents (Elt F)),
    StableHlo.nary ![main_arg1, main_v9, main_v10] main_v11 (fun u => (concatenate S4x4096x128 2 [⟨S4x4096x3, (u 0 : (⟨S4x4096x3, .f32⟩ : BufTy).Contents (Elt F))⟩, ⟨S4x4096x1, (u 1 : (⟨S4x4096x1, .f32⟩ : BufTy).Contents (Elt F))⟩, ⟨S4x4096x124, (u 2 : (⟨S4x4096x124, .f32⟩ : BufTy).Contents (Elt F))⟩] concatenates_S4x4096x3_S4x4096x1_S4x4096x124_S4x4096x128_d2 : (⟨S4x4096x128, .f32⟩ : BufTy).Contents (Elt F))),
    StableHlo.reshape main_v11 main_v12 (rfl : (.f32 : EltTy) = .f32) shapeCasts_S4x4096x128_S16384x128,
    StableHlo.reshape main_v6 main_v13 (rfl : (.i32 : EltTy) = .i32) shapeCasts_S4x1024x1_S4096 ]

/-- After the call: the three results. -/
abbrev hostB : List (HloOp τ sig (Elt F)) :=
  [ StableHlo.reshape main_v14_0 main_v15 (rfl : (.f32 : EltTy) = .f32) shapeCasts_S4096x2x128_S4x1024x256,
    StableHlo.unary main_v14_1 main_v16 ((extractStridedSlice S4096x3 ![0, 0] · slices_S4096x128_S4096x3_0_0) : (⟨S4096x128, .f32⟩ : BufTy).Contents (Elt F) → (⟨S4096x3, .f32⟩ : BufTy).Contents (Elt F)),
    StableHlo.reshape main_v16 main_v17 (rfl : (.f32 : EltTy) = .f32) shapeCasts_S4096x3_S4x1024x3,
    StableHlo.unary main_v14_1 main_v18 ((extractStridedSlice S4096x1 ![0, 3] · slices_S4096x128_S4096x1_0_3) : (⟨S4096x128, .f32⟩ : BufTy).Contents (Elt F) → (⟨S4096x1, .f32⟩ : BufTy).Contents (Elt F)),
    StableHlo.reshape main_v18 main_v19 (rfl : (.f32 : EltTy) = .f32) shapeCasts_S4096x1_S4096,
    StableHlo.unary main_v19 main_v20 (fptosi 32 : (⟨S4096, .f32⟩ : BufTy).Contents (Elt F) → (⟨S4096, .i32⟩ : BufTy).Contents (Elt F)),
    StableHlo.reshape main_v20 main_v21 (rfl : (.i32 : EltTy) = .i32) shapeCasts_S4096_S4x1024 ]

theorem hostH_sub : (hostH : List (HloOp τ sig (Elt F))).Forall fun op => op.bufs ⊆ StableHlo.tcRefs τ sig :=
  ⟨StableHlo.binary_bufs_sub .., StableHlo.nullary_bufs_sub .., StableHlo.binary_bufs_sub .., StableHlo.reshape_bufs_sub .., StableHlo.reshape_bufs_sub ..⟩
theorem hostH_fresh : (hostH : List (HloOp τ sig (Elt F))).Forall fun op => op.fresh = ∅ := by
  simp only [List.Forall]; repeat' constructor
theorem hostA_sub : (hostA : List (HloOp τ sig (Elt F))).Forall fun op => op.bufs ⊆ StableHlo.tcRefs τ sig :=
  ⟨StableHlo.reshape_bufs_sub .., StableHlo.unary_bufs_sub .., StableHlo.unary_bufs_sub .., StableHlo.nullary_bufs_sub .., StableHlo.unary_bufs_sub ..,
    StableHlo.nary_bufs_sub .., StableHlo.reshape_bufs_sub .., StableHlo.reshape_bufs_sub ..⟩
theorem hostB_sub : (hostB : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub ..,
    StableHlo.unary_bufs_sub .., StableHlo.reshape_bufs_sub ..⟩
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor

end Host

theorem main_chain (d : Dev nD) : main (F := Ideal) d = Pipeline.chain [StableHlo.seq hostH,
    Prog.lift (.customCall (SparseCore.inner (Pipeline.entry 0)) ()), Prog.lift (.customCall (SparseCore.inner (Pipeline.entry 1)) ()),
    Prog.lift (.customCall (SparseCore.inner (Pipeline.entry 2)) ()), StableHlo.seq hostA, sc.run d 0, StableHlo.seq hostB] := by
  rfl

variable (m : (ℓ : Loc nD τ sig) → Buf (Elt Ideal) ℓ) (ρ : Dev nD → PrngReg)

/-! ## The arrays' contents at each boundary -/

/-- At launch. -/
abbrev V0 (d : Dev nD) : Valuation τ sig (Elt Ideal) := fun b => m (d, b)
/-- At the TensorCore calls, and after each. -/
def VH : ValsAt := fun d => after hostH (V0 m d)
def VN0 : ValsAt := next0 (VH m)
def VN1 : ValsAt := next1 (VN0 m)
def VN2 : ValsAt := next2 (VN1 m)
/-- At the SparseCore call. -/
abbrev VA (d : Dev nD) : Valuation τ sig (Elt Ideal) := after hostA (VN2 m d)

/-- What the run asks of the picked indices: every one names a row of the tables. -/
def PreOK : Prop := ∀ (d : Dev nD) (j : S4x1024x1.Idx), ((VN2 m d (Proc.devRef .tc main_v6) : S4x1024x1.Idx → Elt Ideal .i32) j).toNat < 16384

theorem VA_v13 (d : Dev nD) : VA m d (Proc.devRef .tc main_v13)
    = fun j : S4096.Idx => (VN2 m d (Proc.devRef .tc main_v6) : S4x1024x1.Idx → Elt Ideal .i32) (Shape.reshapeEquiv shapeCasts_S4x1024x1_S4096 j) := by
  after_results
  rfl

variable (hm : PreOK m)

/-- The call's operands and results as it finds them. -/
def ops (d : Dev nD) : Ops Ideal where
  ci := VA m d (Proc.devRef .tc main_v13)
  cx := VA m d (Proc.devRef .tc main_v7)
  cy := VA m d (Proc.devRef .tc main_v12)
  co := VA m d (Proc.devRef .tc main_v14_0)
  cp := VA m d (Proc.devRef .tc main_v14_1)
  hi := fun j => by rw [VA_v13]; exact hm d _

/-- After the call: its two results. -/
def VB (d : Dev nD) : Valuation τ sig (Elt Ideal) :=
  Function.update (Function.update (VA m d) (Proc.devRef .tc main_v14_0) (ops m hm d).ro) (Proc.devRef .tc main_v14_1) (ops m hm d).rp

/-- At the end. -/
abbrev VC (d : Dev nD) : Valuation τ sig (Elt Ideal) := after hostB (VB m hm d)

/-! ## The call's payloads -/

/-- The number of task `i` of SparseCore `c`. -/
def widOf (c : Fin (K.nCore 0)) (i : Fin (K.nSub 0)) : Fin 32 :=
  ⟨2 * i.val + c.val, by
    have hc : c.val < 2 := c.isLt
    have hi : i.val < 16 := i.isLt
    omega⟩

/-- Each SparseCore is handed what its sixteen tasks take, each task its part. -/
def P : K.Pay (nD := nD) (Val := Elt Ideal) (Name := ℕ) (U := UU) where
  st := fun q d c => match q with | 0 => bigSep Finset.univ fun i : Fin (K.nSub 0) => goR (ops m hm) d (widOf c i)
  dn := fun q d c => match q with | 0 => bigSep Finset.univ fun i : Fin (K.nSub 0) => tdR (ops m hm) d (widOf c i)
  go := fun q d c i => match q with | 0 => goR (ops m hm) d (widOf c i)
  td := fun q d c i => match q with | 0 => tdR (ops m hm) d (widOf c i)
  x := fun _ _ => iprop(emp)

instance P_storable : (P m hm).IsStorable where
  st q d c := match q with
    | 0 => (inferInstance : BI.Storable (upEmb : UEmb _ 𝕄) (bigSep Finset.univ fun i : Fin (K.nSub 0) => goR (ops m hm) d (widOf c i)))
  dn q d c := match q with
    | 0 => (inferInstance : BI.Storable (upEmb : UEmb _ 𝕄) (bigSep Finset.univ fun i : Fin (K.nSub 0) => tdR (ops m hm) d (widOf c i)))
  go q d c i := match q with
    | 0 => (inferInstance : BI.Storable (upEmb : UEmb _ 𝕄) (goR (ops m hm) d (widOf c i)))
  td q d c i := match q with
    | 0 => (inferInstance : BI.Storable (upEmb : UEmb _ 𝕄) (tdR (ops m hm) d (widOf c i)))

/-! ## The tasks' obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := Ideal) (.scVector c s) 3 ()
      = SparseCore.onTile hcore3 hsub3 (fun c s => cc3__sc_gather_body (coordsV c s)
          (Memref.whole main_v7_scv) (Memref.isWhole_whole _) (Memref.whole main_v12_scv) (Memref.isWhole_whole _)
          (Memref.whole main_v13_scv) (Memref.isWhole_whole _) (Memref.whole main_v14_0_scv) (Memref.isWhole_whole _)
          (Memref.whole main_v14_1_scv) (Memref.isWhole_whole _) (Memref.whole cc3_scratch0) (Memref.isWhole_whole _)
          (Memref.whole cc3_scratch1) (Memref.isWhole_whole _) (Memref.whole cc3_scratch2) (Memref.isWhole_whole _)
          cc3_scratch3 cc3_scratch4 cc3_scoped0 cc3_scoped1 cc3_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : K.Facts) : K.TileObl D 𝒱 (P m hm) v₀ 0 := by
  intro d c i O W hO _ _
  simp only [show (P m hm).ox = fun _ _ => 0 from rfl, add_zero]
  have hci : (K.core 0 c).val < grid3.bound 0 ∧ (K.sub 0 i).val < grid3.bound 1 := ⟨c.isLt, i.isLt⟩
  change _ ⊢ wp _ _ _ (Pipeline.liftProg (defs₀ (F := Ideal) (.scVector (K.core 0 c) (K.sub 0 i)) 3 ())) _
  refine BI.Entails.trans ?_ (Pipeline.wp_liftProg D (Pipeline.defs_kernel pcfgs defs₀) 𝒱₀ _ Set.univ none _ _)
  rw [defs₀_vector]; simp only [SparseCore.onTile, hci, and_self_iff, ↓reduceDIte]
  exact (tile_body (ops m hm) d (coordsV ⟨_, hci.1⟩ ⟨_, hci.2⟩) hF O W hO).trans (wp_mono frame _ _ fun _ => obl_post)

theorem vecSplit : K.VecSplit' (P m hm) 0 := by
  intro d c
  show (bigSep Finset.univ fun i : Fin (K.nSub 0) => goR (ops m hm) d (widOf c i)) ⊢ |={Set.univ}=> iprop(
      (bigSep Finset.univ fun i : Fin (K.nSub 0) => goR (ops m hm) d (widOf c i))
      ∗ ((bigSep Finset.univ fun i : Fin (K.nSub 0) => tdR (ops m hm) d (widOf c i))
          -∗ bigSep Finset.univ fun i : Fin (K.nSub 0) => tdR (ops m hm) d (widOf c i)))
  iintro H; imodintro
  isplitl [H]; · iexact H
  iintro H; iexact H

/-! ## The five arrays dealt to the 32 tasks and back -/

theorem blk_disjoint {ι : Type} [DecidableEq ι] [Fintype ι] (f : ι → ℕ) (w w' : Fin 32) (h : w ≠ w') :
    Disjoint (Finset.univ.filter fun x => f x / 128 = w.val) (Finset.univ.filter fun x => f x / 128 = w'.val) :=
  Finset.disjoint_filter.mpr fun _ _ e e' => h (Fin.ext (e.symm.trans e'))

theorem blk_cover {ι : Type} [DecidableEq ι] [Fintype ι] (f : ι → ℕ) (hf : ∀ x, f x < 4096) :
    (Finset.univ : Finset (Fin 32)).biUnion (fun w => Finset.univ.filter fun x => f x / 128 = w.val) = Finset.univ := by
  ext x
  have := hf x
  simp only [Finset.mem_biUnion, Finset.mem_univ, true_and, Finset.mem_filter, iff_true]
  exact ⟨⟨f x / 128, by omega⟩, rfl⟩

theorem iPts_blks (d : Dev nD) (f : Buf (Elt Ideal) (iLoc d)) :
    (iLoc d ↦{fullShare} f : sProp 𝕄) = bigSep Finset.univ fun w : Fin 32 => iLoc d ↦[iBlk w]{fullShare} f := by
  have hc : (Finset.univ : Finset (Fin 32)).biUnion iBlk = Finset.univ := blk_cover (fun x : S4096.Idx => (x 0).val) fun x => (x 0).isLt
  refine Eq.trans ?_ (pointsTo_biUnion Finset.univ (ℓ := iLoc d) iBlk fun w _ w' _ h => blk_disjoint (fun x : S4096.Idx => (x 0).val) w w' h)
  rw [hc]; try rfl
theorem oPts_blks (d : Dev nD) (f : Buf (Elt Ideal) (oLoc d)) :
    (oLoc d ↦{fullShare} f : sProp 𝕄) = bigSep Finset.univ fun w : Fin 32 => oPts d w f := by
  have hc : (Finset.univ : Finset (Fin 32)).biUnion oBlk = Finset.univ := blk_cover (fun x : S4096x2x128.Idx => (x 0).val) fun x => (x 0).isLt
  refine Eq.trans ?_ (pointsTo_biUnion Finset.univ (ℓ := oLoc d) oBlk fun w _ w' _ h => blk_disjoint (fun x : S4096x2x128.Idx => (x 0).val) w w' h)
  rw [hc]; try rfl
theorem pPts_blks (d : Dev nD) (f : Buf (Elt Ideal) (pLoc d)) :
    (pLoc d ↦{fullShare} f : sProp 𝕄) = bigSep Finset.univ fun w : Fin 32 => pPts d w f := by
  have hc : (Finset.univ : Finset (Fin 32)).biUnion pBlk = Finset.univ := blk_cover (fun x : S4096x128.Idx => (x 0).val) fun x => (x 0).isLt
  refine Eq.trans ?_ (pointsTo_biUnion Finset.univ (ℓ := pLoc d) pBlk fun w _ w' _ h => blk_disjoint (fun x : S4096x128.Idx => (x 0).val) w w' h)
  rw [hc]; try rfl

/-- The (SparseCore, task) pairs are the 32 blocks. -/
def taskEquiv : Fin (K.nCore 0) × Fin (K.nSub 0) ≃ Fin 32 where
  toFun p := widOf p.1 p.2
  invFun w := (⟨w.val % 2, Nat.mod_lt _ (by decide)⟩, ⟨w.val / 2, show w.val / 2 < 16 by omega⟩)
  left_inv := fun ⟨c, i⟩ => by
    have hc : c.val < 2 := c.isLt
    refine Prod.ext (Fin.ext ?_) (Fin.ext ?_)
    · show (2 * i.val + c.val) % 2 = c.val; omega
    · show (2 * i.val + c.val) / 2 = i.val; omega
  right_inv := fun w => Fin.ext (show 2 * (w.val / 2) + w.val % 2 = w.val by omega)

theorem bigSep_tasks (Φ : Fin 32 → sProp 𝕄) :
    (bigSep Finset.univ fun c : Fin (K.nCore 0) => bigSep Finset.univ fun i : Fin (K.nSub 0) => Φ (widOf c i))
      = bigSep Finset.univ Φ := by
  rw [← bigSep_univ_prod fun p : Fin (K.nCore 0) × Fin (K.nSub 0) => Φ (widOf p.1 p.2)]
  exact (bigSep_univ_equiv taskEquiv Φ).symm

theorem xPts_shrs (d : Dev nD) (f : Buf (Elt Ideal) (xLoc d)) :
    (xLoc d ↦{fullShare} f : sProp 𝕄) = bigSep Finset.univ fun w : Fin 32 => xLoc d ↦{shr w} f :=
  pointsTo_piecesOf Finset.univ f (by decide) fullShare
theorem yPts_shrs (d : Dev nD) (f : Buf (Elt Ideal) (yLoc d)) :
    (yLoc d ↦{fullShare} f : sProp 𝕄) = bigSep Finset.univ fun w : Fin 32 => yLoc d ↦{shr w} f :=
  pointsTo_piecesOf Finset.univ f (by decide) fullShare

theorem st0_eq (d : Dev nD) : (bigSep Finset.univ fun c : Fin (K.nCore 0) => (P m hm).st 0 d c)
    = iprop((iLoc d ↦{fullShare} (ops m hm d).ci) ∗ (xLoc d ↦{fullShare} (ops m hm d).cx) ∗ (yLoc d ↦{fullShare} (ops m hm d).cy)
        ∗ (oLoc d ↦{fullShare} (ops m hm d).co) ∗ pLoc d ↦{fullShare} (ops m hm d).cp) := by
  refine (bigSep_tasks fun w => goR (ops m hm) d w).trans ?_
  rw [iPts_blks, oPts_blks, pPts_blks, xPts_shrs, yPts_shrs]
  rw [← bigSep_sep', ← bigSep_sep', ← bigSep_sep', ← bigSep_sep']
theorem dn0_eq (d : Dev nD) : (bigSep Finset.univ fun c : Fin (K.nCore 0) => (P m hm).dn 0 d c)
    = iprop((iLoc d ↦{fullShare} (ops m hm d).ci) ∗ (xLoc d ↦{fullShare} (ops m hm d).cx) ∗ (yLoc d ↦{fullShare} (ops m hm d).cy)
        ∗ (oLoc d ↦{fullShare} (ops m hm d).ro) ∗ pLoc d ↦{fullShare} (ops m hm d).rp) := by
  refine (bigSep_tasks fun w => tdR (ops m hm) d w).trans ?_
  rw [iPts_blks, oPts_blks, pPts_blks, xPts_shrs, yPts_shrs]
  rw [← bigSep_sep', ← bigSep_sep', ← bigSep_sep', ← bigSep_sep']

/-! ## The launch element of the ghost state -/

/-- The three pipelines' cells and tokens at launch. -/
def uPipe : URounds (GSem nD τ sig) Unit :=
  initOf (Pipeline.cells (Pipeline.pin (pcfgs (F := Ideal)) adm) cellOf_inj) (Pipeline.launchToks (Pipeline.pin (pcfgs (F := Ideal)) adm) cellOf_inj)
def u₀ : UU := (initOf K.hsCells K.hsToks, (uPipe, 1))

/-- What a device's TensorCore is dealt for its three calls. -/
abbrev G (d : Dev nD) : sProp 𝕄 :=
  iprop((bigSep Finset.univ fun p : Fin 3 => Pipeline.cellsGhost (Pipeline.pin (pcfgs (F := Ideal)) adm) EP p d)
    ∗ bigSep Finset.univ fun p : Fin 3 => Pipeline.toksInit (Pipeline.pin (pcfgs (F := Ideal)) adm) EP p d)

theorem bigSep_emp' {I : Type} (s : Finset I) : (bigSep s fun _ => iprop(emp)) = (iprop(emp) : sProp 𝕄) := bigSep_emp_const s

theorem hu₀ : (ownU u₀ : sProp 𝕄)
    ⊢ |={Set.univ}=> iprop(BI.own (EH (initOf K.hsCells K.hsToks)) ∗ (bigSep Finset.univ fun d : Dev nD => G d)
        ∗ bigSep Finset.univ fun thr : Thread nD τ => bigSep Finset.univ fun q : Fin 1 => (P m hm).x q thr) := by
  unfold u₀
  iintro Hu
  ihave H := (ownU_pair (initOf K.hsCells K.hsToks) ((uPipe, 1) : URounds (GSem nD τ sig) Unit × Counters)) $$ Hu
  icases H with ⟨HH, HR⟩
  ihave HR := (own_pair_emb embR uPipe (1 : Counters)) $$ HR
  icases HR with ⟨HP, -⟩
  ihave HP := (show (BI.own (((Emb.inl : Emb (URounds (GSem nD τ sig) Unit) (URounds (GSem nD τ sig) Unit × Counters)).trans embR) uPipe) : sProp 𝕄)
    ⊢ BI.own (EP uPipe) from .rfl) $$ HP
  unfold uPipe
  imod (Pipeline.fund_ghost (Pipeline.pin (pcfgs (F := Ideal)) adm) EP cellOf_inj) $$ HP with ⟨HC, HT⟩
  imodintro
  isplitl [HH]; · iexact HH
  isplitl [HC HT]
  · unfold G
    rw [bigSep_sep']
    isplitl [HC] <;> iassumption
  rw [show (bigSep Finset.univ fun thr : Thread nD τ => bigSep Finset.univ fun q : Fin 1 => (P m hm).x q thr) = bigSep Finset.univ fun _ => iprop(emp) from
    bigSep_congr fun _ _ => bigSep_univ_of_subsingleton (0 : Fin 1), bigSep_emp']
  iempintro

/-! ## @main on the TensorCore -/

/-- The call's five arrays. -/
def five : Finset (DevRef τ sig) :=
  {Proc.devRef .tc main_v13, Proc.devRef .tc main_v7, Proc.devRef .tc main_v12, Proc.devRef .tc main_v14_0, Proc.devRef .tc main_v14_1}

theorem five_sub : five ⊆ ucRefs τ sig := by
  intro b hb
  simp only [five, Finset.mem_insert, Finset.mem_singleton] at hb
  rcases hb with rfl | rfl | rfl | rfl | rfl <;> exact Finset.mem_filter.mpr ⟨StableHlo.devRef_mem_tcRefs _, by decide⟩

theorem held_five (d : Dev nD) (W : Valuation τ sig (Elt Ideal)) :
    (held (d.tc : Thread nD τ) five W : sProp 𝕄)
      = iprop((iLoc d ↦{fullShare} W (Proc.devRef .tc main_v13)) ∗ (xLoc d ↦{fullShare} W (Proc.devRef .tc main_v7)) ∗ (yLoc d ↦{fullShare} W (Proc.devRef .tc main_v12))
        ∗ (oLoc d ↦{fullShare} W (Proc.devRef .tc main_v14_0)) ∗ pLoc d ↦{fullShare} W (Proc.devRef .tc main_v14_1)) := by
  unfold held five
  rw [SparseCore.bigSep_insert' (by decide), SparseCore.bigSep_insert' (by decide), SparseCore.bigSep_insert' (by decide),
    SparseCore.bigSep_insert' (by decide), bigSep_singleton]

theorem held_VA (d : Dev nD) : (held (d.tc : Thread nD τ) (ucRefs τ sig) (VA m d) : sProp 𝕄)
    = iprop((bigSep Finset.univ fun c : Fin (K.nCore 0) => (P m hm).st 0 d c) ∗ held (d.tc : Thread nD τ) (ucRefs τ sig \ five) (VA m d)) := by
  rw [StableHlo.held_sub_split _ five_sub, held_five, st0_eq]; rfl

theorem held_VB (d : Dev nD) : (held (d.tc : Thread nD τ) (ucRefs τ sig) (VB m hm d) : sProp 𝕄)
    = iprop((bigSep Finset.univ fun c : Fin (K.nCore 0) => (P m hm).dn 0 d c) ∗ held (d.tc : Thread nD τ) (ucRefs τ sig \ five) (VA m d)) := by
  rw [StableHlo.held_sub_split _ five_sub, held_five, dn0_eq]
  have hrest : (held (d.tc : Thread nD τ) (ucRefs τ sig \ five) (VB m hm d) : sProp 𝕄) = held (d.tc : Thread nD τ) (ucRefs τ sig \ five) (VA m d) := by
    refine StableHlo.held_congr _ fun b hb => ?_
    have hb' := (Finset.mem_sdiff.mp hb).2
    unfold VB
    rw [Function.update_of_ne (fun e => hb' (by rw [e]; decide)), Function.update_of_ne (fun e => hb' (by rw [e]; decide))]
  rw [hrest]
  have e6 : VB m hm d (Proc.devRef .tc main_v13) = (ops m hm d).ci := by
    unfold VB; rw [Function.update_of_ne (by decide), Function.update_of_ne (by decide)]; rfl
  have e0 : VB m hm d (Proc.devRef .tc main_v7) = (ops m hm d).cx := by
    unfold VB; rw [Function.update_of_ne (by decide), Function.update_of_ne (by decide)]; rfl
  have e5 : VB m hm d (Proc.devRef .tc main_v12) = (ops m hm d).cy := by
    unfold VB; rw [Function.update_of_ne (by decide), Function.update_of_ne (by decide)]; rfl
  have eo : VB m hm d (Proc.devRef .tc main_v14_0) = (ops m hm d).ro := by
    unfold VB; rw [Function.update_of_ne (by decide), Function.update_self]
  have ep : VB m hm d (Proc.devRef .tc main_v14_1) = (ops m hm d).rp := by
    unfold VB; rw [Function.update_self]
  rw [e6, e0, e5, eo, ep]

abbrev FIN (d : Dev nD) : sProp 𝕄 := held (d.tc : Thread nD τ) (ucRefs τ sig) (VC m hm d)

/-- A device's share of the launch's ghost state, per call. -/
theorem G_split (d : Dev nD) : (G d : sProp 𝕄) ⊢ iprop(gst 0 d ∗ gst 1 d ∗ gst 2 d) := by
  unfold G
  rw [← bigSep_sep', show (Finset.univ : Finset (Fin 3)) = {0, 1, 2} from rfl, SparseCore.bigSep_insert' (by decide),
    SparseCore.bigSep_insert' (by decide), bigSep_singleton]

/-- What the TensorCore owes before the SparseCore call, and the rest of its state there. -/
theorem tcSt_ow (d : Dev nD) : ∃ R : sProp 𝕄, (K.tcSt EH d 0 ⊢ iprop(ow d ∗ R)) ∧ (iprop(ow d ∗ R) ⊢ K.tcSt EH d 0) := by
  refine ⟨iprop(atPos EH (K.doneCell d) 0 ∅ 0 ∗ reached EH (K.doneCell d) 0
    ∗ (bigSep Finset.univ fun c : Fin τ.nSC => reached EH (K.startCell d c) (K.sRank c 0))
    ∗ bigSep (SparseCore.Cfg.callsFrom 0) fun q => bigSep Finset.univ fun c : Fin (K.nCore q) =>
        iprop(dutyTok EH (K.startCell d (K.core q c)) (K.sRank (K.core q c) q.val) 0 ∗ cred (tallyAt (K.doneCell d) (some (SparseCore.Cfg.Blocks.last q)) 1))), ?_, ?_⟩
  · unfold SparseCore.Cfg.tcSt
    iintro ⟨⟨%W, %hW, HO⟩, HR⟩
    isplitl [HO]
    · iexists W; isplitr
      · ipureintro; exact fun p hp => hW p hp
      · iexact HO
    · iexact HR
  · unfold SparseCore.Cfg.tcSt
    iintro ⟨⟨%W, %hW, HO⟩, HR⟩
    isplitl [HO]
    · iexists W; isplitr
      · ipureintro; exact fun p hp => hW hp
      · iexact HO
    · iexact HR

/-! The three calls. -/
theorem call0 (W : ValsAt) (d : Dev nD) (Q : PUnit → sProp 𝕄) :
    iprop((iprop(boundary (d.tc : Thread nD τ) ∗ held (d.tc : Thread nD τ) (ucRefs τ sig) (next0 W d) ∗ ow d) -∗ Q ⟨⟩) ∗ boundary (d.tc : Thread nD τ)
        ∗ iprop(held (d.tc : Thread nD τ) (ucRefs τ sig) (W d) ∗ ow d) ∗ levAts K.L K.lev ∗ gst 0 d)
      ⊢ wp frame (wpE (K.defs D) 𝒱 (SparseCore.T d) none) Set.univ
          (Prog.lift (.customCall (SparseCore.inner (Pipeline.entry 0)) ())) Q := call W 0 (reg0 W) d Q
theorem call1 (W : ValsAt) (d : Dev nD) (Q : PUnit → sProp 𝕄) :
    iprop((iprop(boundary (d.tc : Thread nD τ) ∗ held (d.tc : Thread nD τ) (ucRefs τ sig) (next1 W d) ∗ ow d) -∗ Q ⟨⟩) ∗ boundary (d.tc : Thread nD τ)
        ∗ iprop(held (d.tc : Thread nD τ) (ucRefs τ sig) (W d) ∗ ow d) ∗ levAts K.L K.lev ∗ gst 1 d)
      ⊢ wp frame (wpE (K.defs D) 𝒱 (SparseCore.T d) none) Set.univ
          (Prog.lift (.customCall (SparseCore.inner (Pipeline.entry 1)) ())) Q := call W 1 (reg1 W) d Q
theorem call2 (W : ValsAt) (d : Dev nD) (Q : PUnit → sProp 𝕄) :
    iprop((iprop(boundary (d.tc : Thread nD τ) ∗ held (d.tc : Thread nD τ) (ucRefs τ sig) (next2 W d) ∗ ow d) -∗ Q ⟨⟩) ∗ boundary (d.tc : Thread nD τ)
        ∗ iprop(held (d.tc : Thread nD τ) (ucRefs τ sig) (W d) ∗ ow d) ∗ levAts K.L K.lev ∗ gst 2 d)
      ⊢ wp frame (wpE (K.defs D) 𝒱 (SparseCore.T d) none) Set.univ
          (Prog.lift (.customCall (SparseCore.inner (Pipeline.entry 2)) ())) Q := call W 2 (reg2 W) d Q

theorem hmain (κ : GSem nD τ sig → ℕ) (d : Dev nD) :
    iprop(K.ctx EH (P m hm) κ ∗ K.tcSt EH d 0 ∗ K.tcRes m ρ d ∗ G d)
      ⊢ wp frame (wpE (K.defs D) 𝒱 (SparseCore.T d) none) Set.univ (main d)
          fun _ => iprop(K.tcSt EH d 1 ∗ FIN m hm d ∗ K.tcEnd d) := by
  unfold SparseCore.Cfg.tcRes SparseCore.Cfg.tcEnd
  rw [show (unscopedBufs d (fun b => m ((SparseCore.T d).loc b)) : sProp 𝕄) = held (d.tc : Thread nD τ) (ucRefs τ sig) (V0 m d) from
    unscopedBufs_held (Ix := HIx 1) (Name := ℕ) (U := UU) (Lvl := ℕ) d (V0 m d)]
  rw [main_chain]
  simp only [Pipeline.chain]
  obtain ⟨R, hR, hR'⟩ := tcSt_ow d
  iintro ⟨#Hctx, Hst, ⟨Hb, Hbufs, Hts, -⟩, HG⟩
  ihave HG := (G_split d) $$ HG
  icases HG with ⟨Hg0, Hg1, Hg2⟩
  ihave Hst := hR $$ Hst
  icases Hst with ⟨How, HR⟩
  iapply (StableHlo.wp_seq 𝒱 none Set.univ d (ucRefs τ sig) _ hostH
    (fun op h => sub_ucRefs op ((List.forall_iff_forall_mem.mp hostH_sub) op h)) (List.forall_iff_forall_mem.mp hostH_fresh) (V0 m d)) $$ [Hb Hbufs]
  · isplitl [Hb]; · iexact Hb
    iexact Hbufs
  iintro ⟨Hb, Hbufs⟩
  rw [wp_bind]
  iapply (call0 (VH m) d)
  isplitr [Hb Hbufs How Hg0]
  rotate_left
  · isplitl [Hb]; · iexact Hb
    isplitl [Hbufs How]
    · isplitl [Hbufs]; · iexact Hbufs
      iexact How
    isplitr; · iapply (K.ctx_levAts κ); iexact Hctx
    iexact Hg0
  iintro ⟨Hb, Hbufs, How⟩
  rw [wp_bind]
  iapply (call1 (VN0 m) d)
  isplitr [Hb Hbufs How Hg1]
  rotate_left
  · isplitl [Hb]; · iexact Hb
    isplitl [Hbufs How]
    · isplitl [Hbufs]; · iexact Hbufs
      iexact How
    isplitr; · iapply (K.ctx_levAts κ); iexact Hctx
    iexact Hg1
  iintro ⟨Hb, Hbufs, How⟩
  rw [wp_bind]
  iapply (call2 (VN1 m) d)
  isplitr [Hb Hbufs How Hg2]
  rotate_left
  · isplitl [Hb]; · iexact Hb
    isplitl [Hbufs How]
    · isplitl [Hbufs]; · iexact Hbufs
      iexact How
    isplitr; · iapply (K.ctx_levAts κ); iexact Hctx
    iexact Hg2
  iintro ⟨Hb, Hbufs, How⟩
  ihave Hst := hR' $$ [How HR]
  · isplitl [How] <;> iassumption
  iapply (StableHlo.wp_seq 𝒱 none Set.univ d (ucRefs τ sig) _ hostA
    (fun op h => sub_ucRefs op ((List.forall_iff_forall_mem.mp hostA_sub) op h)) (List.forall_iff_forall_mem.mp hostA_fresh) (VN2 m d)) $$ [Hb Hbufs]
  · isplitl [Hb]; · iexact Hb
    iexact Hbufs
  iintro ⟨Hb, Hbufs⟩
  ihave Hbufs := (Entails.of_eq (held_VA m hm d)) $$ Hbufs
  icases Hbufs with ⟨Hfive, Hrest⟩
  rw [wp_bind]
  iapply (K.wp_run D 𝒱 (EH := EH) (P := P m hm) κ d 0) $$ [Hst Hfive Hrest Hb Hts]
  isplitr; · iexact Hctx
  isplitl [Hst]; · iexact Hst
  isplitl [Hfive]; · iexact Hfive
  iintro ⟨Hst, Hdn⟩
  ihave Hbufs := (Entails.of_eq (held_VB m hm d).symm) $$ [Hdn Hrest]
  · isplitl [Hdn] <;> iassumption
  iapply (StableHlo.wp_seq 𝒱 none Set.univ d (ucRefs τ sig) _ hostB
    (fun op h => sub_ucRefs op ((List.forall_iff_forall_mem.mp hostB_sub) op h)) (List.forall_iff_forall_mem.mp hostB_fresh) (VB m hm d)) $$ [Hb Hbufs]
  · isplitl [Hb]; · iexact Hb
    iexact Hbufs
  iintro ⟨Hb, Hbufs⟩
  rw [wp_pure]
  imodintro
  isplitl [Hst]; · iexact Hst
  isplitr [Hb Hts]; · iexact Hbufs
  isplitl [Hb] <;> iassumption

/-! ## The run -/

def fq (d : Dev nD) (s' : Phys nD τ sig (Elt Ideal)) : Prop := ∀ b ∈ ucRefs τ sig, s'.mem.mem (d, b) = VC m hm d b

theorem hfin (d : Dev nD) (s' : Phys nD τ sig (Elt Ideal)) : iprop(FIN m hm d ∗ SI s') ⊢ (⌜fq m hm d s'⌝ : sProp 𝕄) := by
  iintro ⟨H, HSI⟩
  ihave H := (show (FIN m hm d : sProp 𝕄) ⊢ bigSep (ucRefs τ sig) (fun b => (d, b) ↦{fullShare} VC m hm d b) from .rfl) $$ H
  ihave H := (SI_pointsTo_bufs_agree (st := s') (c := d) (qs := fun _ => fullShare) (F := VC m hm d) (ucRefs τ sig)) $$ [HSI H]
  · isplitl [HSI] <;> iassumption
  iexact H

/-- Every array of @main ends at `VC`, and the semaphores at zero. -/
def QC : PUnit × MemSt nD τ sig (Elt Ideal) → Prop := fun r => (∀ (d : Dev nD), ∀ b ∈ ucRefs τ sig, r.2.mem (d, b) = VC m hm d b) ∧ r.2.sem = fun _ => 0

theorem kfacts : K.Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

theorem run_main :
    θ_run (Cert.KernelIdeal.defs (F := Ideal)) (Cert.KernelIdeal.threads (F := Ideal)) ⟨m, fun _ => 0, ρ⟩ (QC m hm) :=
  SparseCore.Cfg.θ_run_sc_quiescent (K := K) (D := D) (𝒱 := 𝒱) (EH := EH) (P := P m hm) (A := ∅) kfacts v₀
    (fun q hq => match q with | 0 => nomatch hq)
    (fun q _ => match q with | 0 => tileObl m hm kfacts)
    (fun q _ => match q with | 0 => SparseCore.Cfg.VecSplit.of_plain (vecSplit m hm))
    m ρ main G (FIN m hm) u₀ (sep_elim_left.trans (hu₀ m hm)) (hmain m ρ hm) (fq m hm) (hfin m hm) (QC m hm) (fun _ h hz => ⟨h, hz⟩)

end Cert.Proof.KRun

end
-- ==== Proof.SelMath.lean ====
/-
  What the selection computes from the features, as plain maths over the extended reals: the squared distances of the
  rows of a batch, the mean distance of a row's eight nearest rows (its density), and the rows in the order of their
  densities. And the kernel's blocks read in those terms.
-/
module

public import proofs.«01_k».proof.Proof.KnnMath
public import proofs.«01_k».proof.Proof.RankMath

@[expose] public section

set_option maxRecDepth 16384

noncomputable section

namespace Cert.Proof.SelMath

open Idealize.ShloMosaic Idealize.ShloMosaic.ValueIdx Cert.Proof.OrderMath Cert.Proof.KnnMath

/-- The features. -/
abbrev SX : Shape := ⟨3, ![4, 4096, 256]⟩

variable (X : SX.Idx → EReal) (N : Fin 4 → Fin 4096 → EReal)

/-- The squared distance of rows `n` and `m` of batch `b`, from the squared norms `N`. -/
def sq (b : Fin 4) (n m : Fin 4096) : EReal :=
  max (N b n + N b m - Ideal.ofBits .f32 0x40000000#32 * ∑ c : Fin 256, X (ix3 b n c) * X (ix3 b m c)) 0

/-- The `i`-th row nearest to row `n`. -/
def near (b : Fin 4) (n : Fin 4096) (i : Fin 8) : Fin 4096 :=
  pos (fun m => - Ideal.sqrt (sq X N b n m)) (i.castLE (by decide))

/-- The mean distance of row `n` to its eight nearest rows. -/
def den (b : Fin 4) (n : Fin 4096) : EReal :=
  Ideal.div (∑ i : Fin 8, - - Ideal.sqrt (sq X N b n (near X N b n i))) (Ideal.ofBits .f32 0x41000000#32)

/-- The row of rank `r` in batch `b`. -/
def sel (b : Fin 4) (r : Fin 1024) : Fin 4096 := pos (den X N b) (r.castLE (by decide))

/-- A row of a batch, counted over all the batches. -/
def rowOf (S : Fin 4 → Fin 1024 → Fin 4096) (b : Fin 4) (s : Fin 1024) : Fin 16384 := ⟨b.val * 4096 + (S b s).val, by omega⟩

/-! ## The blocks -/

theorem dist2_apply (x0 : Vec Ideal ⟨3, ![1, 256, 256]⟩ .f32) (x1 : Vec Ideal ⟨3, ![1, 4096, 256]⟩ .f32)
    (x2 : Vec Ideal ⟨3, ![1, 256, 1]⟩ .f32) (x3 : Vec Ideal ⟨3, ![1, 1, 4096]⟩ .f32) (r : Fin 256) (k : Fin 4096) :
    dist2 x0 x1 x2 x3 (ix2 r k)
      = max (x2 (ix3 0 r 0) + x3 (ix3 0 0 k) - Ideal.ofBits .f32 0x40000000#32 * ∑ c : Fin 256, x0 (ix3 0 r c) * x1 (ix3 0 k c)) 0 := by
  have hm : matmul (DotDims.transposedRhs 256 256 4096) none
          (shapeCast ⟨2, ![256, 256]⟩ x0 (by decide) : FVec Ideal ⟨2, ![256, 256]⟩ .f32)
          (shapeCast ⟨2, ![4096, 256]⟩ x1 (by decide) : FVec Ideal ⟨2, ![4096, 256]⟩ .f32)
          (constant SD .f32 0x00000000#32) (ix2 r k) = ∑ c : Fin 256, x0 (ix3 0 r c) * x1 (ix3 0 k c) := by
    refine (Ideal.matmul_transposedRhs_apply none _ _ _ r k).trans ?_
    rw [show (constant SD .f32 0x00000000#32 : FVec Ideal SD .f32) (ix2 r k) = Ideal.ofBits .f32 0x00000000#32 from rfl, ofBits_zero, zero_add]
    refine Finset.sum_congr rfl fun c _ => ?_
    rw [shapeCast_apply x0 _ _ (ix3 0 r c) (by
        rw [Shape.rowMajor_val_two, Shape.rowMajor_val_three]; show (0 * 256 + r.val) * 256 + c.val = r.val * 256 + c.val; omega),
      shapeCast_apply x1 _ _ (ix3 0 k c) (by
        rw [Shape.rowMajor_val_two, Shape.rowMajor_val_three]; show (0 * 4096 + k.val) * 256 + c.val = k.val * 256 + c.val; omega)]
  have h2 : broadcastTo SD (shapeCast SC x2 (by decide) : FVec Ideal SC .f32) broadcasts (ix2 r k) = x2 (ix3 0 r 0) := by
    rw [spread_apply]
    exact shapeCast_apply x2 _ _ _ (by
      rw [Shape.rowMajor_val_two, Shape.rowMajor_val_three]; show (0 * 256 + r.val) * 1 + 0 = r.val * 1 + 0; omega)
  have h3 : broadcastTo SD (shapeCast ⟨2, ![1, 4096]⟩ x3 (by decide) : FVec Ideal ⟨2, ![1, 4096]⟩ .f32) (by decide) (ix2 r k) = x3 (ix3 0 0 k) :=
    (broadcastTo_apply _ (by decide) _ (ix2 0 k : (⟨2, ![1, 4096]⟩ : Shape).Idx) (by intro a; match a with | ⟨0, _⟩ => rfl | ⟨1, _⟩ => rfl)).trans
      (shapeCast_apply x3 _ _ _ (by
        rw [Shape.rowMajor_val_two, Shape.rowMajor_val_three]; show (0 * 1 + 0) * 4096 + k.val = 0 * 4096 + k.val; omega))
  have e : dist2 x0 x1 x2 x3 (ix2 r k)
      = max (broadcastTo SD (shapeCast SC x2 (by decide) : FVec Ideal SC .f32) broadcasts (ix2 r k)
          + broadcastTo SD (shapeCast ⟨2, ![1, 4096]⟩ x3 (by decide) : FVec Ideal ⟨2, ![1, 4096]⟩ .f32) (by decide) (ix2 r k)
          - Ideal.ofBits .f32 0x40000000#32 * matmul (DotDims.transposedRhs 256 256 4096) none
          (shapeCast ⟨2, ![256, 256]⟩ x0 (by decide) : FVec Ideal ⟨2, ![256, 256]⟩ .f32)
          (shapeCast ⟨2, ![4096, 256]⟩ x1 (by decide) : FVec Ideal ⟨2, ![4096, 256]⟩ .f32)
          (constant SD .f32 0x00000000#32) (ix2 r k)) (Ideal.ofBits .f32 0x00000000#32) := by
    unfold dist2; rfl
  rw [e, hm, h2, h3, ofBits_zero]

/-- The density block at row `r` of a block starting at row `n - r` of batch `b`. -/
theorem dens_dist2 (x0 : Vec Ideal ⟨3, ![1, 256, 256]⟩ .f32) (x1 : Vec Ideal ⟨3, ![1, 4096, 256]⟩ .f32)
    (x2 : Vec Ideal ⟨3, ![1, 256, 1]⟩ .f32) (x3 : Vec Ideal ⟨3, ![1, 1, 4096]⟩ .f32) (r : Fin 256) (b : Fin 4) (n : Fin 4096)
    (h0 : ∀ c, x0 (ix3 0 r c) = X (ix3 b n c)) (h1 : ∀ m c, x1 (ix3 0 m c) = X (ix3 b m c))
    (h2 : x2 (ix3 0 r 0) = N b n) (h3 : ∀ m, x3 (ix3 0 0 m) = N b m) :
    dens (dist2 x0 x1 x2 x3) (ix2 r 0) = den X N b n := by
  have hrow : row (dist2 x0 x1 x2 x3) r = sq X N b n := by
    funext m
    unfold row sq
    rw [dist2_apply, h2, h3]
    simp only [h0, h1]
  refine dens_apply (dist2 x0 x1 x2 x3) r (fun i => - - Ideal.sqrt (sq X N b n (near X N b n i))) fun i => ?_
  rw [hrow]
  exact isNth_pos (fun m => Ideal.sqrt (sq X N b n m)) (i.castLE (by decide))

end Cert.Proof.SelMath

end
-- ==== Proof.KVal.lean ====
/-
  The three TensorCore calls' result arrays: the densities (as a row and as a column), the ranks, the picked indices, each
  read at an index in terms of `SelMath`.
-/
module

public import proofs.«01_k».proof.Proof.KReg
public import proofs.«01_k».proof.Proof.SelMath
public import Idealize.ShloMosaic.Lib.Pipeline.ValueKit

@[expose] public section

set_option maxRecDepth 16384

noncomputable section

namespace Cert.Proof.KVal

open Cert.KernelIdeal Cert.KernelIdeal.Gen Cert.Proof.KBody Cert.Proof.SelMath Cert.Proof.OrderMath Cert.Proof.KnnMath Cert.Proof.RankMath
open Idealize.ShloMosaic hiding ix1 ix2 ix3 eq_ix1 eq_ix2 eq_ix3
open Idealize.ShloMosaic.ValueIdx Idealize.ShloMosaic.TcCoe

/-! ## The blocks -/

theorem zero3 : (![0, 0, 0] : Fin 3 → ℕ) = fun _ => 0 := by funext a; match a with | ⟨0, _⟩ => rfl | ⟨1, _⟩ => rfl | ⟨2, _⟩ => rfl

theorem densOf_eq (x0 : Vec Ideal S1x256x256 .f32) (x1 : Vec Ideal S1x4096x256 .f32) (x2 : Vec Ideal S1x256x1 .f32)
    (x3 : Vec Ideal S1x1x4096 .f32) : densOf x0 x1 x2 x3 = dens (dist2 x0 x1 x2 x3) := by
  unfold densOf
  rw [View.ld_unit_zero zero3 _ x0, View.ld_unit_zero zero3 _ x1, View.ld_unit_zero zero3 _ x2, View.ld_unit_zero zero3 _ x3]

theorem outRow_apply (x0 : Vec Ideal S1x256x256 .f32) (x1 : Vec Ideal S1x4096x256 .f32) (x2 : Vec Ideal S1x256x1 .f32)
    (x3 : Vec Ideal S1x1x4096 .f32) (r : Fin 256) :
    outRow x0 x1 x2 x3 (ix3 0 0 r) = dens (dist2 x0 x1 x2 x3) (ix2 r 0) := by
  unfold outRow
  rw [View.canon_unit_zero zero3, densOf_eq]
  refine (shapeCast_apply _ shapeCasts_S256_S1x1x256 _ (ix1 r) (by
    rw [Shape.rowMajor_val_one, Shape.rowMajor_val_three]; show r.val = (0 * 1 + 0) * 256 + r.val; omega)).trans ?_
  exact shapeCast_apply _ shapeCasts_S256x1_S256 _ _ (by
    rw [Shape.rowMajor_val_one, Shape.rowMajor_val_two]; show r.val * 1 + 0 = r.val; omega)

theorem outCol_apply (x0 : Vec Ideal S1x256x256 .f32) (x1 : Vec Ideal S1x4096x256 .f32) (x2 : Vec Ideal S1x256x1 .f32)
    (x3 : Vec Ideal S1x1x4096 .f32) (r : Fin 256) :
    outCol x0 x1 x2 x3 (ix3 0 r 0) = dens (dist2 x0 x1 x2 x3) (ix2 r 0) := by
  unfold outCol
  rw [View.canon_unit_zero zero3, densOf_eq]
  exact shapeCast_apply _ shapeCasts_S256x1_S1x256x1 _ _ (by
    rw [Shape.rowMajor_val_two, Shape.rowMajor_val_three]; show r.val * 1 + 0 = (0 * 256 + r.val) * 1 + 0; omega)

theorem outRank_eq (i : grid1.Coords) (x0 : Vec Ideal S1x512x1 .f32) (x1 : Vec Ideal S1x1x4096 .f32) :
    outRank i x0 x1 = rankBlock (BitVec.ofNat 32 (i 1).val) x0 x1 := by
  unfold outRank
  rw [View.canon_unit_zero zero3, View.ld_unit_zero zero3 _ x0, View.ld_unit_zero zero3 _ x1]

theorem outPick_eq (i : grid2.Coords) (x0 : Vec Ideal S1x1x4096 .i32) :
    outPick i x0 = pickBlock (BitVec.ofNat 32 (i 0).val) (BitVec.ofNat 32 (i 1).val) x0 := by
  unfold outPick
  rw [View.canon_unit_zero zero3, View.ld_unit_zero zero3 _ x0]

/-! ## The arrays -/

variable (V : Vals) (c : Dev nD) (X : SX.Idx → EReal) (N : Fin 4 → Fin 4096 → EReal)

theorem idx0_0 : ∀ t : Fin cfg0.N, win0_0.index t = ![(grid0.coords t 0).val, (grid0.coords t 1).val, 0] := (by decide +kernel : ∀ t : Fin grid0.N, _)
theorem idx0_1 : ∀ t : Fin cfg0.N, win0_1.index t = ![(grid0.coords t 0).val, 0, 0] := (by decide +kernel : ∀ t : Fin grid0.N, _)
theorem idx0_2 : ∀ t : Fin cfg0.N, win0_2.index t = ![(grid0.coords t 0).val, (grid0.coords t 1).val, 0] := (by decide +kernel : ∀ t : Fin grid0.N, _)
theorem idx0_3 : ∀ t : Fin cfg0.N, win0_3.index t = ![(grid0.coords t 0).val, 0, 0] := (by decide +kernel : ∀ t : Fin grid0.N, _)
theorem idx0_4 : ∀ t : Fin cfg0.N, win0_4.index t = ![(grid0.coords t 0).val, 0, (grid0.coords t 1).val] := (by decide +kernel : ∀ t : Fin grid0.N, _)
theorem idx0_5 : ∀ t : Fin cfg0.N, win0_5.index t = ![(grid0.coords t 0).val, (grid0.coords t 1).val, 0] := (by decide +kernel : ∀ t : Fin grid0.N, _)

/-- The batch and the row that row `r` of point `t`'s block is. -/
abbrev bat0 (t : Fin cfg0.N) : Fin 4 := ⟨(grid0.coords t 0).val, (grid0.coords t 0).isLt⟩
abbrev row0 (t : Fin cfg0.N) (r : Fin 256) : Fin 4096 :=
  ⟨(grid0.coords t 1).val * 256 + r.val, by have h : (grid0.coords t 1).val < 16 := (grid0.coords t 1).isLt; omega⟩

variable (hX : (V c main_arg0 : S4x4096x256.Idx → EReal) = X)
  (hC : ∀ b n, (V c main_v2 : S4x4096x1.Idx → EReal) (ix3 b n 0) = N b n)
  (hR : ∀ b n, (V c main_v3 : S4x1x4096.Idx → EReal) (ix3 b 0 n) = N b n)

include hX hC hR in
theorem dens0 (t : Fin cfg0.N) (r : Fin 256) :
    dens (dist2 (blk0 V c 0 t) (blk0 V c 1 t) (blk0 V c 2 t) (blk0 V c 3 t)) (ix2 r 0) = den X N (bat0 t) (row0 t r) := by
  refine dens_dist2 X N _ _ _ _ r _ _ (fun k => ?_) (fun m k => ?_) ?_ (fun m => ?_)
  · subst hX
    show (V c main_arg0 : S4x4096x256.Idx → EReal) (((cfg0.win 0).blk t).view.emb (ix3 0 r k)) = _
    refine congrArg (V c main_arg0 : S4x4096x256.Idx → EReal) ?_
    blk_ext [idx0_0 t]
  · subst hX
    show (V c main_arg0 : S4x4096x256.Idx → EReal) (((cfg0.win 1).blk t).view.emb (ix3 0 m k)) = _
    refine congrArg (V c main_arg0 : S4x4096x256.Idx → EReal) ?_
    blk_ext [idx0_1 t]
  · rw [← hC]
    show (V c main_v2 : S4x4096x1.Idx → EReal) (((cfg0.win 2).blk t).view.emb (ix3 0 r 0)) = _
    refine congrArg (V c main_v2 : S4x4096x1.Idx → EReal) ?_
    blk_ext [idx0_2 t]
  · rw [← hR]
    show (V c main_v3 : S4x1x4096.Idx → EReal) (((cfg0.win 3).blk t).view.emb (ix3 0 0 m)) = _
    refine congrArg (V c main_v3 : S4x1x4096.Idx → EReal) ?_
    blk_ext [idx0_3 t]

include hX hC hR in
/-- The first call leaves the densities, as a row and as a column. -/
theorem drow_arr : (dat0 V c).arrAt 4 cfg0.N = fun j : S4x1x4096.Idx => den X N (j 0) (j 2) := by
  refine (dat0 V c).arrAt_eq_of_covers 4 _ (by decide +kernel) fun t hf y => ?_
  blk_simp
  rw [after0_4]
  obtain ⟨y0, y1, r, rfl⟩ : ∃ y0 y1 r, y = (ix3 y0 y1 r : S1x1x256.Idx) := ⟨_, _, _, eq_ix3 _⟩
  obtain rfl : y0 = 0 := Subsingleton.elim _ _
  obtain rfl : y1 = 0 := Subsingleton.elim _ _
  refine (outRow_apply _ _ _ _ r).trans ((dens0 V c X N hX hC hR t r).trans ?_)
  refine congrArg₂ (den X N) (Fin.ext ?_) (Fin.ext ?_)
  · blk_simp [idx0_4 t]; try rfl
  · blk_simp [idx0_4 t]; try rfl

include hX hC hR in
theorem dcol_arr : (dat0 V c).arrAt 5 cfg0.N = fun j : S4x4096x1.Idx => den X N (j 0) (j 1) := by
  refine (dat0 V c).arrAt_eq_of_covers 5 _ (by decide +kernel) fun t hf y => ?_
  blk_simp
  rw [after0_5]
  obtain ⟨y0, r, y1, rfl⟩ : ∃ y0 r y1, y = (ix3 y0 r y1 : S1x256x1.Idx) := ⟨_, _, _, eq_ix3 _⟩
  obtain rfl : y0 = 0 := Subsingleton.elim _ _
  obtain rfl : y1 = 0 := Subsingleton.elim _ _
  refine (outCol_apply _ _ _ _ r).trans ((dens0 V c X N hX hC hR t r).trans ?_)
  refine congrArg₂ (den X N) (Fin.ext ?_) (Fin.ext ?_)
  · blk_simp [idx0_5 t]; try rfl
  · blk_simp [idx0_5 t]; try rfl

/-! ## The ranks -/

theorem idx1_0 : ∀ t : Fin cfg1.N, win1_0.index t = ![(grid1.coords t 0).val, (grid1.coords t 1).val, 0] := (by decide +kernel : ∀ t : Fin grid1.N, _)
theorem idx1_1 : ∀ t : Fin cfg1.N, win1_1.index t = ![(grid1.coords t 0).val, 0, 0] := (by decide +kernel : ∀ t : Fin grid1.N, _)
theorem idx1_2 : ∀ t : Fin cfg1.N, win1_2.index t = ![(grid1.coords t 0).val, 0, (grid1.coords t 1).val] := (by decide +kernel : ∀ t : Fin grid1.N, _)

variable (Y : Fin 4 → Fin 4096 → EReal)

/-- The second call leaves every row's rank among the densities it finds. -/
theorem rank_arr (h0 : (V c main_v4_1 : S4x4096x1.Idx → EReal) = fun j => Y (j 0) (j 1))
    (h1 : (V c main_v4_0 : S4x1x4096.Idx → EReal) = fun j => Y (j 0) (j 2)) :
    (dat1 V c).arrAt 2 cfg1.N = fun j : S4x1x4096.Idx => BitVec.ofNat 32 (rank (Y (j 0)) (j 2)) := by
  refine (dat1 V c).arrAt_eq_of_covers 2 _ (by decide +kernel) fun t hf y => ?_
  blk_simp
  rw [after1_2, outRank_eq]
  obtain ⟨y0, y1, r, rfl⟩ : ∃ y0 y1 r, y = (ix3 y0 y1 r : S1x1x512.Idx) := ⟨_, _, _, eq_ix3 _⟩
  obtain rfl : y0 = 0 := Subsingleton.elim _ _
  obtain rfl : y1 = 0 := Subsingleton.elim _ _
  have hb : (grid1.coords t 0).val < 4 := (grid1.coords t 0).isLt
  have ha : (grid1.coords t 1).val < 8 := (grid1.coords t 1).isLt
  refine (rankBlock_apply _ ha _ _ (Y ⟨_, hb⟩) (fun k => ?_) r ⟨(grid1.coords t 1).val * 512 + r.val, by omega⟩ rfl ?_).trans ?_
  · show (V c main_v4_0 : S4x1x4096.Idx → EReal) (((cfg1.win 1).blk t).view.emb (ix3 0 0 k)) = _
    rw [h1]
    refine congrArg₂ Y (Fin.ext ?_) (Fin.ext ?_)
    · blk_simp [idx1_1 t]; try rfl
    · blk_simp [idx1_1 t]; try rfl
  · show (V c main_v4_1 : S4x4096x1.Idx → EReal) (((cfg1.win 0).blk t).view.emb (ix3 0 r 0)) = _
    rw [h0]
    refine congrArg₂ Y (Fin.ext ?_) (Fin.ext ?_)
    · blk_simp [idx1_0 t]; try rfl
    · blk_simp [idx1_0 t]; try rfl
  · refine congrArg₂ (fun (b : Fin 4) (n : Fin 4096) => BitVec.ofNat 32 (rank (Y b) n)) (Fin.ext ?_) (Fin.ext ?_)
    · blk_simp [idx1_2 t]; try rfl
    · blk_simp [idx1_2 t]; try rfl

/-! ## The picked indices -/

theorem idx2_0 : ∀ t : Fin cfg2.N, win2_0.index t = ![(grid2.coords t 0).val, 0, 0] := (by decide +kernel : ∀ t : Fin grid2.N, _)
theorem idx2_1 : ∀ t : Fin cfg2.N, win2_1.index t = ![(grid2.coords t 0).val, (grid2.coords t 1).val, 0] := (by decide +kernel : ∀ t : Fin grid2.N, _)

/-- A row picked by its rank, counted over all the batches. -/
def pickAt (b : Fin 4) (n : Fin 4096) : BitVec 32 := BitVec.ofNat 32 (b.val * 4096 + (pos (Y b) n).val)

/-- The third call leaves, for each rank, the row of that rank, counted over all the batches. -/
theorem pick_arr (h0 : (V c main_v5 : S4x1x4096.Idx → BitVec 32) = fun j => BitVec.ofNat 32 (rank (Y (j 0)) (j 2))) :
    (dat2 V c).arrAt 1 cfg2.N = fun j : S4x1024x1.Idx =>
      pickAt Y (j 0) (Fin.castLE (n := 1024) (m := 4096) (by decide) (j 1)) := by
  refine (dat2 V c).arrAt_eq_of_covers 1 _ (by decide +kernel) fun t hf y => ?_
  blk_simp
  rw [after2_1, outPick_eq]
  obtain ⟨y0, r, y1, rfl⟩ : ∃ y0 r y1, y = (ix3 y0 r y1 : S1x256x1.Idx) := ⟨_, _, _, eq_ix3 _⟩
  obtain rfl : y0 = 0 := Subsingleton.elim _ _
  obtain rfl : y1 = 0 := Subsingleton.elim _ _
  have ha : (grid2.coords t 0).val < 4 := (grid2.coords t 0).isLt
  have hb : (grid2.coords t 1).val < 4 := (grid2.coords t 1).isLt
  refine (pickBlock_apply _ _ (by omega) _ (Y ⟨_, ha⟩) (fun k => ?_) r ⟨(grid2.coords t 1).val * 256 + r.val, by omega⟩ rfl).trans ?_
  · show (V c main_v5 : S4x1x4096.Idx → BitVec 32) (((cfg2.win 0).blk t).view.emb (ix3 0 0 k)) = _
    rw [h0]
    refine congrArg₂ (fun (b : Fin 4) (n : Fin 4096) => BitVec.ofNat 32 (rank (Y b) n)) (Fin.ext ?_) (Fin.ext ?_)
    · blk_simp [idx2_0 t]; try rfl
    · blk_simp [idx2_0 t]; try rfl
  · change pickAt Y _ _ = _
    refine congrArg₂ (pickAt Y) (Fin.ext ?_) (Fin.ext ?_)
    · blk_simp [idx2_1 t]; try rfl
    · show _ = (((cfg2.win 1).blk t).view.emb (ix3 0 r 0) 1).val
      blk_simp [idx2_1 t]; try rfl

end Cert.Proof.KVal

end
-- ==== Proof.KValue.lean ====
/-
  What `KernelIdeal`'s run leaves: the arguments as they were, and the three results at the rows the selection of
  `SelMath` picks. The picked indices name rows of the tables whatever the arguments.
-/
module

public import proofs.«01_k».proof.Proof.KRun
public import proofs.«01_k».proof.Proof.KVal
public import proofs.«01_k».proof.Proof.GatherMath

@[expose] public section

set_option maxRecDepth 16384

noncomputable section

namespace Cert.Proof.KValue

open Idealize.ShloMosaic hiding ix1 ix2 ix3 eq_ix1 eq_ix2 eq_ix3
open Idealize.ShloMosaic.ValueIdx Cert.Proof.GatherMath Cert.Proof.KReg Cert.Proof.KRun Cert.Proof.SelMath
open Cert.KernelIdeal Cert.KernelIdeal.Gen
open Idealize.ShloMosaic.StableHlo (after)
open Idealize.SL.Sem

variable (m : (ℓ : Loc nD τ sig) → Buf (Elt Ideal) ℓ)

/-! ## The arguments at the end -/

/-- What each stretch of host operations writes. -/
abbrev writesH : List (Ref sig .tc) := [main_v0, main_cst, main_v1, main_v2, main_v3]
abbrev writesA : List (Ref sig .tc) := [main_v7, main_v8, main_v9, main_cst_0, main_v10, main_v11, main_v12, main_v13]
abbrev writesB : List (Ref sig .tc) := [main_v15, main_v16, main_v17, main_v18, main_v19, main_v20, main_v21]

/-- An array none of the three calls writes. -/
theorem VN2_of (d : Dev nD) (r : Ref sig .tc) (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false) :
    VN2 m d (Proc.devRef .tc r) = VH m d (Proc.devRef .tc r) :=
  (next2_of (VN1 m) d r h2).trans <| (next1_of (VN0 m) d r h1).trans (next0_of (VH m) d r h0)

theorem VH_of (d : Dev nD) {r : Ref sig .tc} (h : r ∉ writesH) : VH m d (Proc.devRef .tc r) = m (d, Proc.devRef .tc r) :=
  StableHlo.after_of_writes_sub hostH _ (StableHlo.forall_writes_sub_of_map (W := writesH) rfl) h

theorem VN2_arg0 (d : Dev nD) : VN2 m d (Proc.devRef .tc main_arg0) = m (d, Proc.devRef .tc main_arg0) :=
  (VN2_of m d main_arg0 (by decide) (by decide) (by decide)).trans (VH_of m d (by decide))
theorem VN2_arg1 (d : Dev nD) : VN2 m d (Proc.devRef .tc main_arg1) = m (d, Proc.devRef .tc main_arg1) :=
  (VN2_of m d main_arg1 (by decide) (by decide) (by decide)).trans (VH_of m d (by decide))
theorem VN2_arg2 (d : Dev nD) : VN2 m d (Proc.devRef .tc main_arg2) = m (d, Proc.devRef .tc main_arg2) :=
  (VN2_of m d main_arg2 (by decide) (by decide) (by decide)).trans (VH_of m d (by decide))

/-! ## The picked indices -/

/-- The squared norms. -/
def norms (X : FVec Ideal S4x4096x256 .f32) (b : Fin 4) (n : Fin 4096) : EReal :=
  (Host.reduceAdd (mulf X X) (constant S_ .f32 0x00000000#32) reducesTo_S4x4096x256_S4x4096_d2 h_S_ : FVec Ideal S4x4096 .f32) (ix2 b n)

/-- The features and their squared norms at launch. -/
abbrev X (d : Dev nD) : FVec Ideal S4x4096x256 .f32 := m ((d.tc : Thread nD τ).loc main_arg0)

theorem VH_v2 (d : Dev nD) (b : Fin 4) (n : Fin 4096) :
    (VH m d (Proc.devRef .tc main_v2) : S4x4096x1.Idx → EReal) (ix3 b n 0) = norms (X m d) b n := by
  have e : VH m d (Proc.devRef .tc main_v2) = shapeCast S4x4096x1 (Host.reduceAdd (mulf (X m d) (X m d)) (constant S_ .f32 0x00000000#32)
      reducesTo_S4x4096x256_S4x4096_d2 h_S_ : FVec Ideal S4x4096 .f32) shapeCasts_S4x4096_S4x4096x1 := by
    unfold VH
    after_results
    rfl
  rw [e]
  exact shapeCast_apply _ _ _ _ (by rw [Shape.rowMajor_val_two, Shape.rowMajor_val_three]; show b.val * 4096 + n.val = (b.val * 4096 + n.val) * 1 + 0; omega)

theorem VH_v3 (d : Dev nD) (b : Fin 4) (n : Fin 4096) :
    (VH m d (Proc.devRef .tc main_v3) : S4x1x4096.Idx → EReal) (ix3 b 0 n) = norms (X m d) b n := by
  have e : VH m d (Proc.devRef .tc main_v3) = shapeCast S4x1x4096 (Host.reduceAdd (mulf (X m d) (X m d)) (constant S_ .f32 0x00000000#32)
      reducesTo_S4x4096x256_S4x4096_d2 h_S_ : FVec Ideal S4x4096 .f32) shapeCasts_S4x4096_S4x1x4096 := by
    unfold VH
    after_results
    rfl
  rw [e]
  exact shapeCast_apply _ _ _ _ (by rw [Shape.rowMajor_val_two, Shape.rowMajor_val_three]; show b.val * 4096 + n.val = (b.val * 1 + 0) * 4096 + n.val; omega)

/-- The densities at launch. -/
abbrev Y (d : Dev nD) : Fin 4 → Fin 4096 → EReal := den (X m d) (norms (X m d))

theorem VN0_v4_0 (d : Dev nD) : (VN0 m d (Proc.devRef .tc main_v4_0) : S4x1x4096.Idx → EReal) = fun j => Y m d (j 0) (j 2) :=
  (next0_arr (VH m) d 4).trans (KVal.drow_arr (vals (VH m)) d (X m d) _ (VH_of m d (by decide)) (VH_v2 m d) (VH_v3 m d))

theorem VN0_v4_1 (d : Dev nD) : (VN0 m d (Proc.devRef .tc main_v4_1) : S4x4096x1.Idx → EReal) = fun j => Y m d (j 0) (j 1) :=
  (next0_arr (VH m) d 5).trans (KVal.dcol_arr (vals (VH m)) d (X m d) _ (VH_of m d (by decide)) (VH_v2 m d) (VH_v3 m d))

theorem VN1_v5 (d : Dev nD) : (VN1 m d (Proc.devRef .tc main_v5) : S4x1x4096.Idx → BitVec 32)
    = fun j => BitVec.ofNat 32 (OrderMath.rank (Y m d (j 0)) (j 2)) :=
  (next1_arr (VN0 m) d 2).trans (KVal.rank_arr (vals (VN0 m)) d (Y m d) (VN0_v4_1 m d) (VN0_v4_0 m d))

theorem VN2_v6 (d : Dev nD) : (VN2 m d (Proc.devRef .tc main_v6) : S4x1024x1.Idx → BitVec 32)
    = fun j => KVal.pickAt (Y m d) (j 0) (Fin.castLE (n := 1024) (m := 4096) (by decide) (j 1)) :=
  (next2_arr (VN1 m) d 1).trans (KVal.pick_arr (vals (VN1 m)) d (Y m d) (VN1_v5 m d))

/-- The row of rank `s` in batch `b`, counted over all the batches. -/
def R (d : Dev nD) (b : Fin 4) (s : Fin 1024) : Fin 16384 := rowOf (sel (X m d) (norms (X m d))) b s

theorem VN2_v6_toNat (d : Dev nD) (b : Fin 4) (s : Fin 1024) :
    ((VN2 m d (Proc.devRef .tc main_v6) : S4x1024x1.Idx → BitVec 32) (ix3 b s 0)).toNat = (R m d b s).val := by
  rw [VN2_v6]
  show (BitVec.ofNat 32 (b.val * 4096 + (sel (X m d) (norms (X m d)) b s).val)).toNat = b.val * 4096 + (sel (X m d) (norms (X m d)) b s).val
  rw [BitVec.toNat_ofNat, Nat.mod_eq_of_lt (by omega)]

theorem preOK : PreOK m := by
  intro d j
  obtain ⟨b, s, z, rfl⟩ : ∃ b s z, j = (ix3 b s z : S4x1024x1.Idx) := ⟨_, _, _, eq_ix3 j⟩
  obtain rfl : z = 0 := Subsingleton.elim _ _
  exact lt_of_eq_of_lt (VN2_v6_toNat m d b s) (R m d b s).isLt

/-! ## After the SparseCore call -/

variable (hm : PreOK m)

theorem VB_of_ne (d : Dev nD) {r : Ref sig .tc} (h0 : r ≠ main_v14_0) (h1 : r ≠ main_v14_1) :
    VB m hm d (Proc.devRef .tc r) = VA m d (Proc.devRef .tc r) := by
  unfold VB
  rw [Function.update_of_ne fun e => h1 (Proc.devRef_injective _ e), Function.update_of_ne fun e => h0 (Proc.devRef_injective _ e)]

/-- An array that no operation, no call and no copy writes ends as it began. -/
theorem VC_unwritten (d : Dev nD) {r : Ref sig .tc} (hH : r ∉ writesH) (hA : r ∉ writesA) (hB : r ∉ writesB) (h0 : r ≠ main_v14_0) (h1 : r ≠ main_v14_1)
    (k0 : ∀ w : Fin cfg0.W, Pipeline.arrRef spec0 w = r → (cfg0.win w).isOut = false)
    (k1 : ∀ w : Fin cfg1.W, Pipeline.arrRef spec1 w = r → (cfg1.win w).isOut = false)
    (k2 : ∀ w : Fin cfg2.W, Pipeline.arrRef spec2 w = r → (cfg2.win w).isOut = false) :
    VC m hm d (Proc.devRef .tc r) = m (d, Proc.devRef .tc r) :=
  (StableHlo.after_of_writes_sub hostB _ (StableHlo.forall_writes_sub_of_map (W := writesB) rfl) hB).trans <|
    (VB_of_ne m hm d h0 h1).trans <|
      (StableHlo.after_of_writes_sub hostA _ (StableHlo.forall_writes_sub_of_map (W := writesA) rfl) hA).trans <|
        (VN2_of m d r k0 k1 k2).trans (VH_of m d hH)

/-! ## The results at the end -/

theorem VB_ro (d : Dev nD) : VB m hm d (Proc.devRef .tc main_v14_0) = (ops m hm d).ro := by
  unfold VB
  rw [Function.update_of_ne fun e => absurd (Proc.devRef_injective _ e) (by decide), Function.update_self]

theorem VB_rp (d : Dev nD) : VB m hm d (Proc.devRef .tc main_v14_1) = (ops m hm d).rp := by
  unfold VB
  rw [Function.update_self]

/-- The feature table. -/
theorem VA_v7 (d : Dev nD) : VA m d (Proc.devRef .tc main_v7) = shapeCast S16384x2x128 (m ((d.tc : Thread nD τ).loc main_arg0) : S4x4096x256.Idx → Elt Ideal .f32) shapeCasts_S4x4096x256_S16384x2x128 := by
  after_results
  rw [VN2_arg0]
  rfl

/-- The camera column of the side table. -/
def camCol (k : S4x4096.Idx → BitVec 32) : S4x4096x1.Idx → Elt Ideal .f32 :=
  broadcastInDim S4x4096x1 ![0, 1] bcast_S4x4096_S4x4096x1_0_1 (sitofp .f32 k : FVec Ideal S4x4096 .f32)

/-- The padding of the side table. -/
def pad : S4x4096x124.Idx → Elt Ideal .f32 := broadcastInDim S4x4096x124 ![] bcast_S_S4x4096x124 (constant S_ .f32 0x00000000#32 : FVec Ideal S_ .f32)

/-- The side table. -/
theorem VA_v12 (d : Dev nD) : VA m d (Proc.devRef .tc main_v12)
    = shapeCast S16384x128 (side (m ((d.tc : Thread nD τ).loc main_arg1) : S4x4096x3.Idx → Elt Ideal .f32) (camCol (m ((d.tc : Thread nD τ).loc main_arg2))) pad
        concatenates_S4x4096x3_S4x4096x1_S4x4096x124_S4x4096x128_d2) shapeCasts_S4x4096x128_S16384x128 := by
  after_results
  rfl

/-- The list. -/
theorem row_flat (d : Dev nD) (b : Fin 4) (s : Fin 1024) : (ops m hm d).row (flat b s) = R m d b s := by
  refine Fin.ext ?_
  show (VA m d (Proc.devRef .tc main_v13) (fun | 0 => flat b s) : BitVec 32).toNat = _
  rw [← VN2_v6_toNat, VA_v13]
  refine congrArg (fun j => ((VN2 m d (Proc.devRef .tc main_v6) : S4x1024x1.Idx → BitVec 32) j).toNat) (Shape.reshapeEquiv_eq_of_rowMajor _ ?_)
  rw [Shape.rowMajor_val_three, Shape.rowMajor_val_one]
  show (b.val * 1024 + s.val) * 1 + 0 = b.val * 1024 + s.val
  omega

theorem rows_flat (d : Dev nD) : (fun b s => (ops m hm d).row (flat b s)) = R m d := by
  funext b s; exact row_flat m hm d b s

theorem VC_v15 (d : Dev nD) : VC m hm d (Proc.devRef .tc main_v15)
    = pick3 (R m d) (m ((d.tc : Thread nD τ).loc main_arg0) : S4x4096x256.Idx → Elt Ideal .f32) := by
  rw [← rows_flat m hm d]
  refine Eq.trans ?_ (feats_eq (m ((d.tc : Thread nD τ).loc main_arg0) : S4x4096x256.Idx → Elt Ideal .f32) (ops m hm d).row shapeCasts_S4x4096x256_S16384x2x128
    shapeCasts_S4096x2x128_S4x1024x256)
  after_results
  rw [VB_ro]
  refine congrArg (fun g => shapeCast S4x1024x256 g shapeCasts_S4096x2x128_S4x1024x256) (funext fun j => ?_)
  show VA m d (Proc.devRef .tc main_v7) _ = _
  rw [VA_v7]
  refine congrArg _ (funext fun a => ?_)
  match a with
  | ⟨0, _⟩ => rfl
  | ⟨1, _⟩ => rfl
  | ⟨2, _⟩ => rfl

/-- A gathered side row. -/
theorem rp_at (d : Dev nD) (b : Fin 4) (s : Fin 1024) (l : Fin 128) : (ops m hm d).rp (ix2 (flat b s) l)
    = side (m ((d.tc : Thread nD τ).loc main_arg1) : S4x4096x3.Idx → Elt Ideal .f32) (camCol (m ((d.tc : Thread nD τ).loc main_arg2))) pad
        concatenates_S4x4096x3_S4x4096x1_S4x4096x124_S4x4096x128_d2
        (ix3 (bat (R m d b s)) (tok (R m d b s)) l) := by
  rw [← row_flat m hm d]
  refine Eq.trans ?_ (side_row _ shapeCasts_S4x4096x128_S16384x128 _ _)
  show VA m d (Proc.devRef .tc main_v12) _ = _
  rw [VA_v12]
  refine congrArg _ (funext fun a => ?_)
  match a with
  | ⟨0, _⟩ => rfl
  | ⟨1, _⟩ => rfl

theorem VC_v17 (d : Dev nD) : VC m hm d (Proc.devRef .tc main_v17)
    = pick3 (R m d) (m ((d.tc : Thread nD τ).loc main_arg1) : S4x4096x3.Idx → Elt Ideal .f32) := by
  refine Eq.trans ?_ (pos_eq (ops m hm d).rp _ _ slices_S4096x128_S4096x3_0_0 shapeCasts_S4096x3_S4x1024x3 fun b s c => (rp_at m hm d b s _).trans (side_pos _ _ _ _ _ _ c))
  after_results
  rw [VB_rp]
  rfl

theorem VC_v21 (d : Dev nD) : VC m hm d (Proc.devRef .tc main_v21)
    = pick2 (R m d) (m ((d.tc : Thread nD τ).loc main_arg2) : S4x4096.Idx → BitVec 32) := by
  refine Eq.trans ?_ (cam_eq (ops m hm d).rp (Ideal.fptosi 32) _ _ slices_S4096x128_S4096x1_0_3 shapeCasts_S4096x1_S4096 shapeCasts_S4096_S4x1024
    fun b s => (congrArg (Ideal.fptosi 32) ((rp_at m hm d b s _).trans (side_cam _ _ _ _ _ _))).trans ?_)
  · after_results
    rw [VB_rp]
    rfl
  · refine Eq.trans (congrArg (Ideal.fptosi 32) ?_) (fptosi_sitofp _)
    refine (broadcastInDim_apply _ bcast_S4x4096_S4x4096x1_0_1 _ _ (ix2 _ _) fun a => ?_).trans rfl
    match a with
    | ⟨0, _⟩ => rfl
    | ⟨1, _⟩ => rfl

end Cert.Proof.KValue
-- ==== Proof.RefMath.lean ====
/-
  What the references compute, read at an index: the squared distances, a row's nearest rows and their mean distance, and
  the rows in the order of their densities, in the plain terms of `SelMath`. Stated over the shapes alone, so both
  references are instances.
-/
module

public import proofs.«01_k».proof.Proof.SelMath

@[expose] public section

set_option maxRecDepth 16384

noncomputable section

namespace Cert.Proof.RefMath

open Idealize.ShloMosaic
open Idealize.ShloMosaic.ValueIdx Cert.Proof.OrderMath Cert.Proof.KnnMath Cert.Proof.SelMath

/-! ## The greatest entries along the last axis -/

/-- At the extended reals the total order's `>` is the order by which `pos` sorts. -/
theorem before_eq {n : ℕ} (y : Fin n → EReal) (k k' : Fin n) :
    (FloatOps.cmpfTotal (F := Ideal) (φ := .f32) .gt (y k) (y k') == 1#1) = gt y k k' := by
  show (BitVec.ofBool (decide (y k' < y k)) == 1#1) = decide (y k' < y k)
  cases decide (y k' < y k) <;> rfl

theorem along3 {A B N : ℕ} (a : Fin A) (b : Fin B) (i k : Fin N) :
    Shape.Idx.along (ix3 a b i : (⟨3, ![A, B, N]⟩ : Shape).Idx) (2 : Fin 3) k = ix3 a b k := by
  funext x
  match x with
  | ⟨0, _⟩ => rfl
  | ⟨1, _⟩ => rfl
  | ⟨2, _⟩ => rfl

theorem along2 {A N : ℕ} (a : Fin A) (i k : Fin N) :
    Shape.Idx.along (ix2 a i : (⟨2, ![A, N]⟩ : Shape).Idx) (1 : Fin 2) k = ix2 a k := by
  funext x
  match x with
  | ⟨0, _⟩ => rfl
  | ⟨1, _⟩ => rfl

theorem sort3 {A B N : ℕ} (x : FVec Ideal ⟨3, ![A, B, N]⟩ .f32) (a : Fin A) (b : Fin B) (i : Fin N) :
    sortedFrom (fun k k' : Fin N => FloatOps.cmpfTotal .gt (x (Shape.Idx.along (ix3 a b i : (⟨3, ![A, B, N]⟩ : Shape).Idx) (2 : Fin 3) k))
        (x (Shape.Idx.along (ix3 a b i : (⟨3, ![A, B, N]⟩ : Shape).Idx) (2 : Fin 3) k')) == 1#1)
      = pos (fun m => x (ix3 a b m)) := by
  refine congrArg sortedFrom (funext fun k => funext fun k' => ?_)
  rw [along3 a b i k, along3 a b i k']
  exact before_eq (fun m => x (ix3 a b m)) k k'

theorem sort2 {A N : ℕ} (x : FVec Ideal ⟨2, ![A, N]⟩ .f32) (a : Fin A) (i : Fin N) :
    sortedFrom (fun k k' : Fin N => FloatOps.cmpfTotal .gt (x (Shape.Idx.along (ix2 a i : (⟨2, ![A, N]⟩ : Shape).Idx) (1 : Fin 2) k))
        (x (Shape.Idx.along (ix2 a i : (⟨2, ![A, N]⟩ : Shape).Idx) (1 : Fin 2) k')) == 1#1)
      = pos (fun m => x (ix2 a m)) := by
  refine congrArg sortedFrom (funext fun k => funext fun k' => ?_)
  rw [along2 a i k, along2 a i k']
  exact before_eq (fun m => x (ix2 a m)) k k'

/-- The values: at place `i` the entry that sorts there. -/
theorem topK3_val {A B N K : ℕ} (hK : K ≤ N) (x : FVec Ideal ⟨3, ![A, B, N]⟩ .f32)
    (h : (⟨3, ![A, B, N]⟩ : Shape).Slices (fun _ => 0) ⟨3, ![A, B, K]⟩) (a : Fin A) (b : Fin B) (i : Fin K) :
    (Host.topK ⟨3, ![A, B, K]⟩ 2 (FloatOps.cmpfTotal .gt) x h).1 (ix3 a b i)
      = x (ix3 a b (pos (fun m => x (ix3 a b m)) (i.castLE hK))) := by
  unfold Host.topK
  dsimp only
  refine (extractStridedSlice_apply _ _ h (ix3 a b i) (ix3 a b (i.castLE hK)) fun c => ?_).trans ?_
  · match c with
    | ⟨0, _⟩ => exact (Nat.zero_add _).symm
    | ⟨1, _⟩ => exact (Nat.zero_add _).symm
    | ⟨2, _⟩ => exact (Nat.zero_add _).symm
  · unfold Host.sort2
    rw [dif_pos (show 2 < 3 by decide)]
    exact (congrArg x (along3 a b _ _)).trans (congrArg (fun f : Fin N → Fin N => x (ix3 a b (f (i.castLE hK)))) (sort3 x a b _))

/-- The places: at place `i` the position of the entry that sorts there. -/
theorem topK2_idx {A N K : ℕ} (hK : K ≤ N) (x : FVec Ideal ⟨2, ![A, N]⟩ .f32)
    (h : (⟨2, ![A, N]⟩ : Shape).Slices (fun _ => 0) ⟨2, ![A, K]⟩) (a : Fin A) (i : Fin K) :
    (Host.topK ⟨2, ![A, K]⟩ 1 (FloatOps.cmpfTotal .gt) x h).2 (ix2 a i)
      = BitVec.ofNat 32 (pos (fun m => x (ix2 a m)) (i.castLE hK)).val := by
  unfold Host.topK
  dsimp only
  refine (extractStridedSlice_apply _ _ h (ix2 a i) (ix2 a (i.castLE hK)) fun c => ?_).trans ?_
  · match c with
    | ⟨0, _⟩ => exact (Nat.zero_add _).symm
    | ⟨1, _⟩ => exact (Nat.zero_add _).symm
  · unfold Host.sort2
    rw [dif_pos (show 1 < 2 by decide)]
    exact congrArg (fun f : Fin N → Fin N => BitVec.ofNat 32 (f (i.castLE hK)).val) (sort2 x a _)

/-! ## The distances -/

abbrev S0 : Shape := ⟨0, ![]⟩
abbrev SB : Shape := ⟨2, ![4, 4096]⟩
abbrev SP : Shape := ⟨3, ![4, 4096, 4096]⟩
abbrev SN : Shape := ⟨3, ![4, 4096, 8]⟩

/-- The products of the rows of a batch. -/
theorem dot_apply (w : DotDims.WF SX SX SP [2] [2] [1] [1] [0] [0]) (X : FVec Ideal SX .f32) (b : Fin 4) (n k : Fin 4096) :
    Host.dotGeneral (⟨[2], [2], [1], [1], [0], [0], w⟩ : DotDims SX SX SP) none X X (ix3 b n k)
      = ∑ c : Fin 256, X (ix3 b n c) * X (ix3 b k c) := by
  let D : DotDims SX SX SP := ⟨[2], [2], [1], [1], [0], [0], w⟩
  show FloatOps.dotGeneral D none _ X X (ix3 b n k) = _
  rw [Ideal.dotGeneral_apply, ← Equiv.sum_comp (contrEquiv1 D 256 rfl rfl).symm]
  refine Finset.sum_congr rfl fun c _ => ?_
  have hc := contrEquiv1_symm_val D 256 rfl rfl c
  have hl : D.lhsIdx (ix3 b n k) ((contrEquiv1 D 256 rfl rfl).symm c) = ix3 b n c := by
    funext x
    refine Fin.ext ?_
    match x with
    | ⟨0, _⟩ => rfl
    | ⟨1, _⟩ => rfl
    | ⟨2, _⟩ => exact (D.lhsIdx_val_of_single (cl := 2) rfl _ _).trans hc
  have hr : D.rhsIdx (ix3 b n k) ((contrEquiv1 D 256 rfl rfl).symm c) = ix3 b k c := by
    funext x
    refine Fin.ext ?_
    match x with
    | ⟨0, _⟩ => rfl
    | ⟨1, _⟩ => rfl
    | ⟨2, _⟩ => exact (D.rhsIdx_val_of_single (cr := 2) rfl _ _).trans hc
  rw [hl, hr]

/-- The references' squared distances, from the squared norms. -/
abbrev rSq (X : FVec Ideal SX .f32) (v : FVec Ideal SB .f32) (D : DotDims SX SX SP)
    (h2 : SB.BroadcastsInDim ⟨3, ![4, 4096, 1]⟩ ![0, 1]) (h3 : SB.BroadcastsInDim ⟨3, ![4, 1, 4096]⟩ ![0, 2])
    (h4 : (⟨3, ![4, 4096, 1]⟩ : Shape).BroadcastsInDim SP ![0, 1, 2]) (h5 : (⟨3, ![4, 1, 4096]⟩ : Shape).BroadcastsInDim SP ![0, 1, 2])
    (h0 : S0.BroadcastsInDim SP ![]) : FVec Ideal SP .f32 :=
  maximumf (subf (addf (broadcastInDim SP ![0, 1, 2] h4 (broadcastInDim ⟨3, ![4, 4096, 1]⟩ ![0, 1] h2 v))
        (broadcastInDim SP ![0, 1, 2] h5 (broadcastInDim ⟨3, ![4, 1, 4096]⟩ ![0, 2] h3 v)))
      (mulf (broadcastInDim SP ![] h0 (constant S0 .f32 0x40000000#32)) (Host.dotGeneral D none X X)))
    (broadcastInDim SP ![] h0 (constant S0 .f32 0x00000000#32))

theorem rSq_apply (X : FVec Ideal SX .f32) (v : FVec Ideal SB .f32) (w : DotDims.WF SX SX SP [2] [2] [1] [1] [0] [0])
    (h2 : SB.BroadcastsInDim ⟨3, ![4, 4096, 1]⟩ ![0, 1]) (h3 : SB.BroadcastsInDim ⟨3, ![4, 1, 4096]⟩ ![0, 2])
    (h4 : (⟨3, ![4, 4096, 1]⟩ : Shape).BroadcastsInDim SP ![0, 1, 2]) (h5 : (⟨3, ![4, 1, 4096]⟩ : Shape).BroadcastsInDim SP ![0, 1, 2])
    (h0 : S0.BroadcastsInDim SP ![]) (b : Fin 4) (n k : Fin 4096) :
    rSq X v ⟨[2], [2], [1], [1], [0], [0], w⟩ h2 h3 h4 h5 h0 (ix3 b n k) = sq X (fun b n => v (ix2 b n)) b n k := by
  have e1 : broadcastInDim SP ![0, 1, 2] h4 (broadcastInDim ⟨3, ![4, 4096, 1]⟩ ![0, 1] h2 v) (ix3 b n k) = v (ix2 b n) := by
    refine (broadcastInDim_apply _ h4 _ _ (ix3 b n (0 : Fin 1)) fun a => ?_).trans (broadcastInDim_apply _ h2 _ _ (ix2 b n) fun a => ?_)
    · match a with | ⟨0, _⟩ => rfl | ⟨1, _⟩ => rfl | ⟨2, _⟩ => rfl
    · match a with | ⟨0, _⟩ => rfl | ⟨1, _⟩ => rfl
  have e2 : broadcastInDim SP ![0, 1, 2] h5 (broadcastInDim ⟨3, ![4, 1, 4096]⟩ ![0, 2] h3 v) (ix3 b n k) = v (ix2 b k) := by
    refine (broadcastInDim_apply _ h5 _ _ (ix3 b (0 : Fin 1) k) fun a => ?_).trans (broadcastInDim_apply _ h3 _ _ (ix2 b k) fun a => ?_)
    · match a with | ⟨0, _⟩ => rfl | ⟨1, _⟩ => rfl | ⟨2, _⟩ => rfl
    · match a with | ⟨0, _⟩ => rfl | ⟨1, _⟩ => rfl
  show max (broadcastInDim SP ![0, 1, 2] h4 (broadcastInDim ⟨3, ![4, 4096, 1]⟩ ![0, 1] h2 v) (ix3 b n k)
      + broadcastInDim SP ![0, 1, 2] h5 (broadcastInDim ⟨3, ![4, 1, 4096]⟩ ![0, 2] h3 v) (ix3 b n k)
      - Ideal.ofBits .f32 0x40000000#32 * Host.dotGeneral (⟨[2], [2], [1], [1], [0], [0], w⟩ : DotDims SX SX SP) none X X (ix3 b n k))
      (Ideal.ofBits .f32 0x00000000#32) = _
  rw [e1, e2, dot_apply, ofBits_zero]
  rfl

/-! ## The densities -/

theorem reducesN : SN.Reduces [2] SB := by decide

/-- The references' densities, from the squared distances. -/
abbrev rDen (d : FVec Ideal SP .f32) (hs : SP.Slices (fun _ => 0) SN) (hr : SN.ReducesTo [2] SB) (hu : 0 < S0.numel)
    (h0 : S0.BroadcastsInDim SB ![]) : FVec Ideal SB .f32 :=
  Host.divf (Host.reduceAdd (Host.negf (Host.topK SN 2 (FloatOps.cmpfTotal .gt) (Host.negf (Host.sqrt d)) hs).1)
      (constant S0 .f32 0x00000000#32) hr hu) (broadcastInDim SB ![] h0 (constant S0 .f32 0x41000000#32))

theorem rDen_apply (X : SX.Idx → EReal) (N : Fin 4 → Fin 4096 → EReal) (d : FVec Ideal SP .f32) (hd : ∀ b n k, d (ix3 b n k) = sq X N b n k)
    (hs : SP.Slices (fun _ => 0) SN) (hr : SN.ReducesTo [2] SB) (hu : 0 < S0.numel) (h0 : S0.BroadcastsInDim SB ![]) (b : Fin 4) (n : Fin 4096) :
    rDen d hs hr hu h0 (ix2 b n) = den X N b n := by
  have e : Host.reduceAdd (Host.negf (Host.topK SN 2 (FloatOps.cmpfTotal .gt) (Host.negf (Host.sqrt d)) hs).1)
      (constant S0 .f32 0x00000000#32) hr hu (ix2 b n)
      = ∑ i : Fin 8, - - Ideal.sqrt (sq X N b n (near X N b n i)) := by
    show Ideal.hostReduceAdd hr _ (Ideal.ofBits .f32 0x00000000#32) (ix2 b n) = _
    rw [Ideal.hostReduceAdd_single hr reducesN, ofBits_zero, zero_add]
    refine Finset.sum_congr rfl fun (i : Fin 8) _ => ?_
    have hl : reducesN.lift (ix2 b n) i = (ix3 b n i : SN.Idx) := by
      funext x
      match x with
      | ⟨0, _⟩ => rfl
      | ⟨1, _⟩ => rfl
      | ⟨2, _⟩ => rfl
    rw [hl]
    show - (Host.topK SN 2 (FloatOps.cmpfTotal .gt) (Host.negf (Host.sqrt d)) hs).1 (ix3 b n i) = _
    rw [topK3_val (show 8 ≤ 4096 by decide) (Host.negf (Host.sqrt d)) hs b n i]
    have hy : (fun m => (Host.negf (Host.sqrt d) : FVec Ideal SP .f32) (ix3 b n m)) = fun m => - Ideal.sqrt (sq X N b n m) := by
      funext m
      show - Ideal.sqrt (d (ix3 b n m)) = _
      rw [hd]
    rw [hy]
    show - - Ideal.sqrt (d (ix3 b n (near X N b n i))) = _
    rw [hd]
  show Ideal.div (Host.reduceAdd (Host.negf (Host.topK SN 2 (FloatOps.cmpfTotal .gt) (Host.negf (Host.sqrt d)) hs).1)
      (constant S0 .f32 0x00000000#32) hr hu (ix2 b n)) (Ideal.ofBits .f32 0x41000000#32) = _
  rw [e]
  rfl

/-- The references' order of the rows. -/
theorem rSel_apply (X : SX.Idx → EReal) (N : Fin 4 → Fin 4096 → EReal) (y : FVec Ideal SB .f32) (hy : ∀ b n, y (ix2 b n) = den X N b n)
    (h : SB.Slices (fun _ => 0) ⟨2, ![4, 1024]⟩) (b : Fin 4) (r : Fin 1024) :
    (Host.topK ⟨2, ![4, 1024]⟩ 1 (FloatOps.cmpfTotal .gt) y h).2 (ix2 b r) = BitVec.ofNat 32 (sel X N b r).val := by
  rw [topK2_idx (by decide)]
  have e : (fun m => y (ix2 b m)) = den X N b := funext fun m => hy b m
  rw [e]
  rfl

end Cert.Proof.RefMath
-- ==== Proof.TakeMath.lean ====
/-
  Taking rows along an axis of each batch, as the reference does it: an index below the number of rows is taken as it is,
  is in range, and names the entry of its batch that the gather reads.
-/
module

public import proofs.«01_k».proof.Proof.GatherMath
public import proofs.«01_k».proof.Proof.SelMath
public import Idealize.ShloMosaic.Lib.ReduceAll

@[expose] public section

set_option maxRecDepth 16384

noncomputable section

namespace Cert.Proof.TakeMath

open Idealize.ShloMosaic Idealize.ShloMosaic.ValueIdx Cert.Proof.GatherMath Cert.Proof.SelMath

variable {α : Type}

abbrev S0 : Shape := ⟨0, ![]⟩
abbrev S1 : Shape := ⟨1, ![1]⟩
abbrev S111 : Shape := ⟨3, ![1, 1, 1]⟩
abbrev SI : Shape := ⟨3, ![4, 1024, 1]⟩
abbrev SJ : Shape := ⟨2, ![4, 1024]⟩

/-! ## The gathers -/

/-- The gather of whole rows of width `c`, batch by batch. -/
abbrev rowsAt (c : ℕ) (wf : GatherDims.WF ⟨3, ![4, 4096, c]⟩ SI ⟨3, ![4, 1024, c]⟩ [2] [1] [0] [1] [0] 2 ![1, 1, c]) :
    GatherDims ⟨3, ![4, 4096, c]⟩ SI ⟨3, ![4, 1024, c]⟩ where
  offsetDims := [2]
  collapsedSliceDims := [1]
  operandBatchingDims := [0]
  startIndicesBatchingDims := [0]
  startIndexMap := [1]
  indexVectorDim := 2
  sliceSizes := ![1, 1, c]
  wf := wf

/-- The gather of single entries, batch by batch. -/
abbrev entriesAt (wf : GatherDims.WF ⟨2, ![4, 4096]⟩ SI SJ [] [1] [0] [1] [0] 2 ![1, 1]) : GatherDims ⟨2, ![4, 4096]⟩ SI SJ where
  offsetDims := []
  collapsedSliceDims := [1]
  operandBatchingDims := [0]
  startIndicesBatchingDims := [0]
  startIndexMap := [1]
  indexVectorDim := 2
  sliceSizes := ![1, 1]
  wf := wf

theorem gather_rowsAt {c : ℕ} (wf : GatherDims.WF ⟨3, ![4, 4096, c]⟩ SI ⟨3, ![4, 1024, c]⟩ [2] [1] [0] [1] [0] 2 ![1, 1, c])
    (x : (⟨3, ![4, 4096, c]⟩ : Shape).Idx → α) (idx : IVec SI 32) (b : Fin 4) (s : Fin 1024) (k : Fin c) :
    Host.gather (rowsAt c wf) x idx (ix3 b s k)
      = x (ix3 b (⟨min (idx (ix3 b s (0 : Fin 1))).toInt.toNat 4095, by omega⟩ : Fin 4096) k) := by
  unfold Host.gather
  congr 1
  funext a
  refine Fin.ext ?_
  show (rowsAt c wf).start (ix3 b s k) idx a + (rowsAt c wf).batchCoord (ix3 b s k) a + (rowsAt c wf).offCoord (ix3 b s k) a = _
  have hsi : (rowsAt c wf).siIdx (ix3 b s k) ⟨List.idxOf (1 : Fin 3) (rowsAt c wf).startIndexMap,
      List.idxOf_lt_length_iff.2 (List.mem_singleton.mpr rfl)⟩ = ix3 b s (0 : Fin 1) := by
    funext a'
    refine Fin.ext ?_
    match a' with
    | ⟨0, _⟩ => rfl
    | ⟨1, _⟩ => rfl
    | ⟨2, _⟩ => rfl
  match a with
  | ⟨0, _⟩ =>
    have h : (rowsAt c wf).start (ix3 b s k) idx 0 = 0 := (rowsAt c wf).start_batching _ _ _ (List.mem_singleton.mpr rfl)
    show (rowsAt c wf).start (ix3 b s k) idx 0 + (rowsAt c wf).batchCoord (ix3 b s k) 0 + (rowsAt c wf).offCoord (ix3 b s k) 0 = b.val
    rw [h, Nat.zero_add]
    rfl
  | ⟨1, _⟩ =>
    show (rowsAt c wf).start (ix3 b s k) idx 1 + (rowsAt c wf).batchCoord (ix3 b s k) 1 + (rowsAt c wf).offCoord (ix3 b s k) 1 = _
    have h : (rowsAt c wf).start (ix3 b s k) idx 1 = min (idx (ix3 b s (0 : Fin 1))).toInt.toNat 4095 := by
      unfold GatherDims.start
      rw [dif_pos (show (1 : Fin 3) ∈ (rowsAt c wf).startIndexMap from List.mem_singleton.mpr rfl), hsi]
      rfl
    rw [h, GatherDims.batchCoord_eq_zero _ _ _ (by simp), GatherDims.offCoord_eq_zero _ _ _ (fun h => ((GatherDims.mem_sKept _ _).mp h).1 (List.mem_singleton.mpr rfl))]
    rfl
  | ⟨2, _⟩ =>
    show (rowsAt c wf).start (ix3 b s k) idx 2 + (rowsAt c wf).batchCoord (ix3 b s k) 2 + (rowsAt c wf).offCoord (ix3 b s k) 2 = k.val
    have h : (rowsAt c wf).start (ix3 b s k) idx 2 = 0 := by
      unfold GatherDims.start
      rw [dif_neg (show (2 : Fin 3) ∉ (rowsAt c wf).startIndexMap by simp)]
    rw [h, GatherDims.batchCoord_eq_zero _ _ _ (by simp), Nat.zero_add]
    rfl

theorem gather_entriesAt (wf : GatherDims.WF ⟨2, ![4, 4096]⟩ SI SJ [] [1] [0] [1] [0] 2 ![1, 1])
    (x : (⟨2, ![4, 4096]⟩ : Shape).Idx → α) (idx : IVec SI 32) (b : Fin 4) (s : Fin 1024) :
    Host.gather (entriesAt wf) x idx (ix2 b s) = x (ix2 b (⟨min (idx (ix3 b s (0 : Fin 1))).toInt.toNat 4095, by omega⟩ : Fin 4096)) := by
  unfold Host.gather
  congr 1
  funext a
  refine Fin.ext ?_
  show (entriesAt wf).start (ix2 b s) idx a + (entriesAt wf).batchCoord (ix2 b s) a + (entriesAt wf).offCoord (ix2 b s) a = _
  have hsi : (entriesAt wf).siIdx (ix2 b s) ⟨List.idxOf (1 : Fin 2) (entriesAt wf).startIndexMap,
      List.idxOf_lt_length_iff.2 (List.mem_singleton.mpr rfl)⟩ = ix3 b s (0 : Fin 1) := by
    funext a'
    refine Fin.ext ?_
    match a' with
    | ⟨0, _⟩ => rfl
    | ⟨1, _⟩ => rfl
    | ⟨2, _⟩ => rfl
  match a with
  | ⟨0, _⟩ =>
    have h : (entriesAt wf).start (ix2 b s) idx 0 = 0 := (entriesAt wf).start_batching _ _ _ (List.mem_singleton.mpr rfl)
    show (entriesAt wf).start (ix2 b s) idx 0 + (entriesAt wf).batchCoord (ix2 b s) 0 + (entriesAt wf).offCoord (ix2 b s) 0 = b.val
    rw [h, Nat.zero_add]
    rfl
  | ⟨1, _⟩ =>
    show (entriesAt wf).start (ix2 b s) idx 1 + (entriesAt wf).batchCoord (ix2 b s) 1 + (entriesAt wf).offCoord (ix2 b s) 1 = _
    have h : (entriesAt wf).start (ix2 b s) idx 1 = min (idx (ix3 b s (0 : Fin 1))).toInt.toNat 4095 := by
      unfold GatherDims.start
      rw [dif_pos (show (1 : Fin 2) ∈ (entriesAt wf).startIndexMap from List.mem_singleton.mpr rfl), hsi]
      rfl
    rw [h, GatherDims.batchCoord_eq_zero _ _ _ (by simp), GatherDims.offCoord_eq_zero _ _ _ (fun h => ((GatherDims.mem_sKept _ _).mp h).1 (List.mem_singleton.mpr rfl))]
    rfl

/-! ## The index and its mask -/

/-- A negative index counts from the end. -/
abbrev wrap {s : Shape} (h : S0.BroadcastsInDim s ![]) (V : IVec s 32) : IVec s 32 :=
  select (cmpi .slt V (broadcastInDim s ![] h (constantI S0 32 0#32))) (addi V (broadcastInDim s ![] h (constantI S0 32 4096#32))) V

/-- Whether every index of a place is in range. -/
abbrev inRange (W : IVec SI 32) (h : S0.BroadcastsInDim SI ![]) (h1 : S1.BroadcastsInDim S111 ![2]) (h2 : S111.BroadcastsInDim SI ![0, 1, 2])
    (hr : SI.ReducesTo [2] SJ) (hu : 0 < S0.numel) : IVec SJ 1 :=
  Host.reduce IntOp.andi (andi (cmpi .sge W (broadcastInDim SI ![] h (constantI S0 32 0#32)))
    (cmpi .sle W (broadcastInDim SI ![0, 1, 2] h2 (broadcastInDim S111 ![2] h1 (constantI S1 32 4095#32))))) (constantI S0 1 1#1) hr hu

theorem slt_zero (w : BitVec 32) (h : w.toNat < 4096) : w.slt 0#32 = false := by
  rw [BitVec.slt_eq_decide, decide_eq_false_iff_not, BitVec.toInt_eq_toNat_cond]
  simp only [BitVec.toInt_zero]
  split <;> omega

theorem wrap_eq {s : Shape} (h : S0.BroadcastsInDim s ![]) (V : IVec s 32) (hV : ∀ j, (V j).toNat < 4096) : wrap h V = V := by
  funext j
  show Scalar.select (IntOp.cmpi .slt (V j) 0#32) (IntOp.addi (V j) 4096#32) (V j) = V j
  simp only [IntOp.cmpi, slt_zero _ (hV j)]
  rfl

theorem inRange_eq (W : IVec SI 32) (hW : ∀ j, (W j).toNat < 4096) (h : S0.BroadcastsInDim SI ![]) (h1 : S1.BroadcastsInDim S111 ![2])
    (h2 : S111.BroadcastsInDim SI ![0, 1, 2]) (hr : SI.ReducesTo [2] SJ) (hu : 0 < S0.numel) (j : SJ.Idx) : inRange W h h1 h2 hr hu j = 1#1 := by
  refine Host.reduce_andi_one _ _ hr hu j rfl fun i => ?_
  show IntOp.andi (IntOp.cmpi .sge (W i) 0#32) (IntOp.cmpi .sle (W i) 4095#32) = 1#1
  have e0 : (0#32 : BitVec 32).sle (W i) = true := by
    rw [BitVec.sle_eq_decide, decide_eq_true_eq, BitVec.toInt_eq_toNat_cond, BitVec.toInt_eq_toNat_cond]
    have := hW i
    simp only [BitVec.toNat_ofNat]
    split <;> split <;> omega
  have e1 : (W i).sle 4095#32 = true := by
    rw [BitVec.sle_eq_decide, decide_eq_true_eq, BitVec.toInt_eq_toNat_cond, BitVec.toInt_eq_toNat_cond]
    have := hW i
    simp only [BitVec.toNat_ofNat]
    split <;> split <;> omega
  simp only [IntOp.cmpi, e0, e1]
  rfl

theorem clamp (w : BitVec 32) (h : w.toNat < 4096) : min w.toInt.toNat 4095 = w.toNat := by
  rw [BitVec.toInt_eq_toNat_cond, if_pos (by omega)]
  omega

/-! ## Taken rows -/

/-- Rows taken where the index is in range, the fill elsewhere: every index is a row of the batch, so all are taken. -/
theorem rows_taken {c : ℕ} (wf : GatherDims.WF ⟨3, ![4, 4096, c]⟩ SI ⟨3, ![4, 1024, c]⟩ [2] [1] [0] [1] [0] 2 ![1, 1, c])
    (x : (⟨3, ![4, 4096, c]⟩ : Shape).Idx → α) (fill : (⟨3, ![4, 1024, c]⟩ : Shape).Idx → α) (S : Fin 4 → Fin 1024 → Fin 4096)
    (V : IVec SI 32) (hV : ∀ b s, V (ix3 b s (0 : Fin 1)) = BitVec.ofNat 32 (S b s).val)
    (h : S0.BroadcastsInDim SI ![]) (h1 : S1.BroadcastsInDim S111 ![2])
    (h2 : S111.BroadcastsInDim SI ![0, 1, 2]) (hr : SI.ReducesTo [2] SJ) (hu : 0 < S0.numel) (hm : SJ.BroadcastsInDim ⟨3, ![4, 1024, c]⟩ ![0, 1]) :
    select (broadcastInDim ⟨3, ![4, 1024, c]⟩ ![0, 1] hm (inRange (wrap h V) h h1 h2 hr hu)) (Host.gather (rowsAt c wf) x (wrap h V)) fill
      = pick3 (rowOf S) x := by
  have hN : ∀ b s, (V (ix3 b s (0 : Fin 1))).toNat = (S b s).val := fun b s => by
    rw [hV, BitVec.toNat_ofNat]
    exact Nat.mod_eq_of_lt ((S b s).isLt.trans (by decide))
  have hL : ∀ j, (V j).toNat < 4096 := fun j => by
    obtain ⟨b, s, z, rfl⟩ : ∃ b s z, j = ix3 b s z := ⟨_, _, _, eq_ix3 j⟩
    obtain rfl : z = 0 := Subsingleton.elim _ _
    rw [hN]
    exact (S b s).isLt
  rw [wrap_eq h V hL]
  funext j
  obtain ⟨b, s, k, rfl⟩ : ∃ b s k, j = ix3 b s k := ⟨_, _, _, eq_ix3 j⟩
  have e1 : broadcastInDim ⟨3, ![4, 1024, c]⟩ ![0, 1] hm (inRange V h h1 h2 hr hu) (ix3 b s k) = 1#1 :=
    (broadcastInDim_apply _ hm _ _ (ix2 b s) fun a => by match a with | ⟨0, _⟩ => rfl | ⟨1, _⟩ => rfl).trans (inRange_eq V hL h h1 h2 hr hu _)
  show Scalar.select (broadcastInDim ⟨3, ![4, 1024, c]⟩ ![0, 1] hm (inRange V h h1 h2 hr hu) (ix3 b s k)) (Host.gather (rowsAt c wf) x V (ix3 b s k)) _ = _
  rw [e1, gather_rowsAt]
  show x _ = x _
  refine congrArg x ?_
  funext a
  refine Fin.ext ?_
  have := (S b s).isLt
  match a with
  | ⟨0, _⟩ =>
    show b.val = (b.val * 4096 + (S b s).val) / 4096
    omega
  | ⟨1, _⟩ =>
    show min (V (ix3 b s (0 : Fin 1))).toInt.toNat 4095 = (b.val * 4096 + (S b s).val) % 4096
    rw [clamp _ (hL _), hN]
    omega
  | ⟨2, _⟩ => rfl

/-- The same for single entries, the index an array of two axes. -/
theorem entries_taken (wf : GatherDims.WF ⟨2, ![4, 4096]⟩ SI SJ [] [1] [0] [1] [0] 2 ![1, 1])
    (x : (⟨2, ![4, 4096]⟩ : Shape).Idx → α) (fill : SJ.Idx → α) (S : Fin 4 → Fin 1024 → Fin 4096)
    (V : IVec SJ 32) (hV : ∀ b s, V (ix2 b s) = BitVec.ofNat 32 (S b s).val) (hc : SJ.ShapeCasts SI)
    (h0 : S0.BroadcastsInDim SJ ![]) (h : S0.BroadcastsInDim SI ![]) (h1 : S1.BroadcastsInDim S111 ![2])
    (h2 : S111.BroadcastsInDim SI ![0, 1, 2]) (hr : SI.ReducesTo [2] SJ) (hu : 0 < S0.numel) :
    select (inRange (shapeCast SI (wrap h0 V) hc) h h1 h2 hr hu) (Host.gather (entriesAt wf) x (shapeCast SI (wrap h0 V) hc)) fill
      = pick2 (rowOf S) x := by
  have hN : ∀ b s, (V (ix2 b s)).toNat = (S b s).val := fun b s => by
    rw [hV, BitVec.toNat_ofNat]
    exact Nat.mod_eq_of_lt ((S b s).isLt.trans (by decide))
  have hL : ∀ j, (V j).toNat < 4096 := fun j => by
    obtain ⟨b, s, rfl⟩ : ∃ b s, j = ix2 b s := ⟨_, _, eq_ix2 j⟩
    rw [hN]
    exact (S b s).isLt
  rw [wrap_eq h0 V hL]
  have hC : ∀ b s, shapeCast SI V hc (ix3 b s (0 : Fin 1)) = V (ix2 b s) := fun b s =>
    shapeCast_apply V hc _ _ (by rw [Shape.rowMajor_val_two, Shape.rowMajor_val_three]; show b.val * 1024 + s.val = (b.val * 1024 + s.val) * 1 + 0; omega)
  have hL' : ∀ j, (shapeCast SI V hc j).toNat < 4096 := fun j => by
    obtain ⟨b, s, z, rfl⟩ : ∃ b s z, j = ix3 b s z := ⟨_, _, _, eq_ix3 j⟩
    obtain rfl : z = 0 := Subsingleton.elim _ _
    rw [hC]
    exact hL _
  funext j
  obtain ⟨b, s, rfl⟩ : ∃ b s, j = ix2 b s := ⟨_, _, eq_ix2 j⟩
  show Scalar.select (inRange (shapeCast SI V hc) h h1 h2 hr hu (ix2 b s)) (Host.gather (entriesAt wf) x (shapeCast SI V hc) (ix2 b s)) _ = _
  rw [inRange_eq _ hL', gather_entriesAt]
  show x _ = x _
  refine congrArg x ?_
  funext a
  refine Fin.ext ?_
  have := (S b s).isLt
  match a with
  | ⟨0, _⟩ =>
    show b.val = (b.val * 4096 + (S b s).val) / 4096
    omega
  | ⟨1, _⟩ =>
    show min (shapeCast SI V hc (ix3 b s (0 : Fin 1))).toInt.toNat 4095 = (b.val * 4096 + (S b s).val) % 4096
    rw [clamp _ (hL' _), hC, hN]
    omega

end Cert.Proof.TakeMath
-- ==== Proof.WholeRef.lean ====
/-
  What `ReferenceIdeal` computes: each result is the argument's rows in the order of their densities.
-/
module

public import proofs.«01_k».proof.Proof.RefMath
public import proofs.«01_k».proof.Proof.TakeMath
public import proofs.«01_k».proof.Proof.Gen.ReferenceIdeal.Run

@[expose] public section

set_option maxRecDepth 16384

noncomputable section

namespace Cert.Proof.WholeRef

open Idealize.ShloMosaic Idealize.ShloMosaic.ValueIdx Idealize.SL.Sem Cert.Proof.GatherMath Cert.Proof.SelMath Cert.Proof.RefMath Cert.Proof.TakeMath
open Cert.ReferenceIdeal Cert.ReferenceIdeal.Gen

/-- The squared norms, as the host sums them. -/
abbrev nrm (X : FVec Ideal S4x4096x256 .f32) : FVec Ideal S4x4096 .f32 :=
  Host.reduceAdd (mulf X X) (constant S_ .f32 0x00000000#32) reducesTo_S4x4096x256_S4x4096_d2 h_S_

/-- The densities and the rows in their order. -/
abbrev dens (X : FVec Ideal S4x4096x256 .f32) : FVec Ideal S4x4096 .f32 :=
  rDen (rSq X (nrm X) dot_S4x4096x256_S4x4096x256_S4x4096x4096_2_2_1_1_0_0 bcast_S4x4096_S4x4096x1_0_1 bcast_S4x4096_S4x1x4096_0_2
      bcast_S4x4096x1_S4x4096x4096_0_1_2 bcast_S4x1x4096_S4x4096x4096_0_1_2 bcast_S_S4x4096x4096)
    sliceFits_S4x4096x4096_S4x4096x8 reducesTo_S4x4096x8_S4x4096_d2 h_S_ bcast_S_S4x4096
abbrev order (X : FVec Ideal S4x4096x256 .f32) : IVec S4x1024 32 :=
  (Host.topK S4x1024 1 (FloatOps.cmpfTotal .gt) (dens X) sliceFits_S4x4096_S4x1024).2

/-- The selected rows. -/
abbrev chosen (X : FVec Ideal S4x4096x256 .f32) : Fin 4 → Fin 1024 → Fin 4096 := sel X (fun b n => nrm X (ix2 b n))

theorem order_apply (X : FVec Ideal S4x4096x256 .f32) (b : Fin 4) (r : Fin 1024) : order X (ix2 b r) = BitVec.ofNat 32 (chosen X b r).val :=
  rSel_apply X _ _ (fun b n => rDen_apply X _ _ (fun b n k => rSq_apply X (nrm X) dot_S4x4096x256_S4x4096x256_S4x4096x4096_2_2_1_1_0_0_wf
    _ _ _ _ _ b n k) _ _ _ _ b n) _ b r

theorem order3_apply (X : FVec Ideal S4x4096x256 .f32) (b : Fin 4) (r : Fin 1024) :
    (broadcastInDim S4x1024x1 ![0, 1] bcast_S4x1024_S4x1024x1_0_1 (order X)) (ix3 b r (0 : Fin 1)) = BitVec.ofNat 32 (chosen X b r).val :=
  (broadcastInDim_apply _ _ _ _ (ix2 b r) fun a => by match a with | ⟨0, _⟩ => rfl | ⟨1, _⟩ => rfl).trans (order_apply X b r)

variable (m : (ℓ : Loc nD τ sig) → Buf (Elt Ideal) ℓ) (c : Dev nD)

theorem v20_eq : Value.res_main_v20 m c = pick3 (rowOf (chosen (m ((c.tc : Thread nD τ).loc main_arg0)))) (m ((c.tc : Thread nD τ).loc main_arg0)) := by
  unfold Value.res_main_v20
  exact rows_taken gather_S4x4096x256_S4x1024x1_S4x1024x256_2_1_0_0_1_2_11256_wf (m ((c.tc : Thread nD τ).loc main_arg0)) _ _ _
    (order3_apply (m ((c.tc : Thread nD τ).loc main_arg0))) bcast_S_S4x1024x1 bcast_S1_S1x1x1_2 bcast_S1x1x1_S4x1024x1_0_1_2
    reducesTo_S4x1024x1_S4x1024_d2 h_S_ bcast_S4x1024_S4x1024x256_0_1

theorem v22_eq : Value.res_main_v22 m c = pick3 (rowOf (chosen (m ((c.tc : Thread nD τ).loc main_arg0)))) (m ((c.tc : Thread nD τ).loc main_arg1)) := by
  unfold Value.res_main_v22
  exact rows_taken gather_S4x4096x3_S4x1024x1_S4x1024x3_2_1_0_0_1_2_113_wf (m ((c.tc : Thread nD τ).loc main_arg1)) _ _ _
    (order3_apply (m ((c.tc : Thread nD τ).loc main_arg0))) bcast_S_S4x1024x1 bcast_S1_S1x1x1_2 bcast_S1x1x1_S4x1024x1_0_1_2
    reducesTo_S4x1024x1_S4x1024_d2 h_S_ bcast_S4x1024_S4x1024x3_0_1

theorem v23_eq : Value.res_main_v23 m c = pick2 (rowOf (chosen (m ((c.tc : Thread nD τ).loc main_arg0)))) (m ((c.tc : Thread nD τ).loc main_arg2)) := by
  unfold Value.res_main_v23
  exact entries_taken gather_S4x4096_S4x1024x1_S4x1024_n_1_0_0_1_2_11_wf (m ((c.tc : Thread nD τ).loc main_arg2)) _ _ _
    (order_apply (m ((c.tc : Thread nD τ).loc main_arg0))) shapeCasts_S4x1024_S4x1024x1 bcast_S_S4x1024 bcast_S_S4x1024x1 bcast_S1_S1x1x1_2
    bcast_S1x1x1_S4x1024x1_0_1_2 reducesTo_S4x1024x1_S4x1024_d2 h_S_

end Cert.Proof.WholeRef
-- ==== Proof.WholeClaims.lean ====
/-
  The claims about the whole kernel at the ideal floats: it runs, leaves its arguments alone, and leaves what the
  reference leaves.
-/
module

public import proofs.«01_k».proof.Proof.KValue
public import proofs.«01_k».proof.Proof.WholeRef
public import proofs.«01_k».proof.Defs

@[expose] public section

set_option maxRecDepth 16384

noncomputable section

namespace Cert.Proof.WholeClaims

open Idealize.ShloMosaic Idealize.SL.Sem Cert.Proof.KRun Cert.Proof.KValue

open Cert.KernelIdeal in
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs _, by simpa using h⟩

section
open Cert.KernelIdeal
variable (m : (ℓ : Loc nD τ sig) → Buf (Elt Ideal) ℓ) (hm : PreOK m)

/-! The arguments at the end. -/
theorem VC_arg0 (c : Dev nD) : VC m hm c (Proc.devRef .tc main_arg0) = m ((c.tc : Thread nD τ).loc main_arg0) :=
  VC_unwritten m hm c (by decide) (by decide) (by decide) (by decide) (by decide) (by decide) (by decide) (by decide)
theorem VC_arg1 (c : Dev nD) : VC m hm c (Proc.devRef .tc main_arg1) = m ((c.tc : Thread nD τ).loc main_arg1) :=
  VC_unwritten m hm c (by decide) (by decide) (by decide) (by decide) (by decide) (by decide) (by decide) (by decide)
theorem VC_arg2 (c : Dev nD) : VC m hm c (Proc.devRef .tc main_arg2) = m ((c.tc : Thread nD τ).loc main_arg2) :=
  VC_unwritten m hm c (by decide) (by decide) (by decide) (by decide) (by decide) (by decide) (by decide) (by decide)

end

theorem quiescent_kernelIdeal : Cert.quiescent_KernelIdeal := fun m ρ _ =>
  (θ_run _ _ _).mono (fun r h => ⟨fun c => ⟨(h.1 c _ (mem_uc Cert.KernelIdeal.main_arg0 rfl)).trans (VC_arg0 m (preOK m) c),
      (h.1 c _ (mem_uc Cert.KernelIdeal.main_arg1 rfl)).trans (VC_arg1 m (preOK m) c),
      (h.1 c _ (mem_uc Cert.KernelIdeal.main_arg2 rfl)).trans (VC_arg2 m (preOK m) c)⟩, h.2⟩) (run_main m ρ (preOK m))

theorem quiescent_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- Kernel and reference select the same rows. -/
theorem rows_eq (m : (ℓ : Loc Cert.KernelIdeal.nD Cert.KernelIdeal.τ Cert.KernelIdeal.sig) → Buf (Elt Ideal) ℓ) (c : Dev Cert.KernelIdeal.nD) :
    SelMath.rowOf (WholeRef.chosen (m ((c.tc : Thread Cert.KernelIdeal.nD Cert.KernelIdeal.τ).loc Cert.KernelIdeal.main_arg0))) = R m c := rfl

theorem algebraic : Cert.algebraic_KernelIdeal_ReferenceIdeal := fun m ρ m' ρ' _ ha => by
  refine ⟨fun c => GatherMath.pick3 (R m c) (m ((c.tc : Thread Cert.KernelIdeal.nD Cert.KernelIdeal.τ).loc Cert.KernelIdeal.main_arg0)),
    fun c => GatherMath.pick3 (R m c) (m ((c.tc : Thread Cert.KernelIdeal.nD Cert.KernelIdeal.τ).loc Cert.KernelIdeal.main_arg1)),
    fun c => GatherMath.pick2 (R m c) (m ((c.tc : Thread Cert.KernelIdeal.nD Cert.KernelIdeal.τ).loc Cert.KernelIdeal.main_arg2)),
    (θ_run _ _ _).mono (fun r h c => ?_) (run_main m ρ (preOK m)), (θ_run _ _ _).mono (fun r h c => ?_) (Cert.ReferenceIdeal.Value.run m' ρ')⟩
  · exact ⟨(h.1 c _ (mem_uc Cert.KernelIdeal.main_v15 rfl)).trans (VC_v15 m (preOK m) c),
      (h.1 c _ (mem_uc Cert.KernelIdeal.main_v17 rfl)).trans (VC_v17 m (preOK m) c),
      (h.1 c _ (mem_uc Cert.KernelIdeal.main_v21 rfl)).trans (VC_v21 m (preOK m) c),
      (h.1 c _ (mem_uc Cert.KernelIdeal.main_arg0 rfl)).trans (VC_arg0 m (preOK m) c),
      (h.1 c _ (mem_uc Cert.KernelIdeal.main_arg1 rfl)).trans (VC_arg1 m (preOK m) c),
      (h.1 c _ (mem_uc Cert.KernelIdeal.main_arg2 rfl)).trans (VC_arg2 m (preOK m) c)⟩
  · obtain ⟨h0, h1, h2, h3⟩ := h c
    obtain ⟨a0, a1, a2⟩ := ha c
    have hR : SelMath.rowOf (WholeRef.chosen (m' ((c.tc : Thread Cert.ReferenceIdeal.nD Cert.ReferenceIdeal.τ).loc Cert.ReferenceIdeal.main_arg0))) = R m c :=
      (congrArg (fun x => SelMath.rowOf (WholeRef.chosen x)) a0).trans (rows_eq m c)
    have e0 := h0.trans (WholeRef.v20_eq m' c)
    have e1 := h1.trans (WholeRef.v22_eq m' c)
    have e2 := h2.trans (WholeRef.v23_eq m' c)
    rw [hR] at e0 e1 e2
    exact ⟨e0.trans (congrArg _ a0), e1.trans (congrArg _ a1), e2.trans (congrArg _ a2), h3⟩

end Cert.Proof.WholeClaims
-- ==== Proof.SelectVal.lean ====
/-
  The selection on its own: its run keeps every buffer at the contents of the last boundary, and there the result holds,
  for each rank, the row of that rank counted over all the batches.
-/
module

public import proofs.«01_k».proof.Proof.Gen.SelectIdeal.Frame
public import proofs.«01_k».proof.Proof.KValue

@[expose] public section

set_option maxRecDepth 16384

noncomputable section

namespace Cert.Proof.SelectVal

open Cert.SelectIdeal Cert.SelectIdeal.Gen Cert.Proof.SelMath Cert.Proof.OrderMath Cert.Proof.KnnMath Cert.Proof.RankMath
open Idealize.ShloMosaic hiding ix1 ix2 ix3 eq_ix1 eq_ix2 eq_ix3
open Idealize.ShloMosaic.ValueIdx Idealize.ShloMosaic.TcCoe Idealize.ShloMosaic.Tactic

/-! ## What the bodies leave is what the whole kernel's leave -/

theorem row_eq (x0 : Vec Ideal S1x256x256 .f32) (x1 : Vec Ideal S1x4096x256 .f32) (x2 : Vec Ideal S1x256x1 .f32)
    (x3 : Vec Ideal S1x1x4096 .f32) : out0_4 x0 x1 x2 x3 = KBody.outRow x0 x1 x2 x3 := rfl

theorem col_eq (x0 : Vec Ideal S1x256x256 .f32) (x1 : Vec Ideal S1x4096x256 .f32) (x2 : Vec Ideal S1x256x1 .f32)
    (x3 : Vec Ideal S1x1x4096 .f32) : out0_5 x0 x1 x2 x3 = KBody.outCol x0 x1 x2 x3 := rfl

theorem rank_eq (i : grid1.Coords) (x0 : Vec Ideal S1x512x1 .f32) (x1 : Vec Ideal S1x1x4096 .f32) :
    out1_2 i x0 x1 = KBody.outRank i x0 x1 := rfl

theorem pick_eq (i : grid2.Coords) (x0 : Vec Ideal S1x1x4096 .i32) : out2_1 i x0 = KBody.outPick i x0 := rfl

/-! ## The arrays -/

section Arrays

variable (V : (c : Dev nD) → (b : Ref sig .tc) → Buf (Elt Ideal) ((c : Thread nD τ).loc b)) (c : Dev nD)
  (X : SX.Idx → EReal) (N : Fin 4 → Fin 4096 → EReal)

theorem at0_0 : ∀ t : Fin cfg0.N, win0_0.index t = ![(grid0.coords t 0).val, (grid0.coords t 1).val, 0] := (by decide +kernel : ∀ t : Fin grid0.N, _)
theorem at0_1 : ∀ t : Fin cfg0.N, win0_1.index t = ![(grid0.coords t 0).val, 0, 0] := (by decide +kernel : ∀ t : Fin grid0.N, _)
theorem at0_2 : ∀ t : Fin cfg0.N, win0_2.index t = ![(grid0.coords t 0).val, (grid0.coords t 1).val, 0] := (by decide +kernel : ∀ t : Fin grid0.N, _)
theorem at0_3 : ∀ t : Fin cfg0.N, win0_3.index t = ![(grid0.coords t 0).val, 0, 0] := (by decide +kernel : ∀ t : Fin grid0.N, _)
theorem at0_4 : ∀ t : Fin cfg0.N, win0_4.index t = ![(grid0.coords t 0).val, 0, (grid0.coords t 1).val] := (by decide +kernel : ∀ t : Fin grid0.N, _)
theorem at0_5 : ∀ t : Fin cfg0.N, win0_5.index t = ![(grid0.coords t 0).val, (grid0.coords t 1).val, 0] := (by decide +kernel : ∀ t : Fin grid0.N, _)
theorem at1_0 : ∀ t : Fin cfg1.N, win1_0.index t = ![(grid1.coords t 0).val, (grid1.coords t 1).val, 0] := (by decide +kernel : ∀ t : Fin grid1.N, _)
theorem at1_1 : ∀ t : Fin cfg1.N, win1_1.index t = ![(grid1.coords t 0).val, 0, 0] := (by decide +kernel : ∀ t : Fin grid1.N, _)
theorem at1_2 : ∀ t : Fin cfg1.N, win1_2.index t = ![(grid1.coords t 0).val, 0, (grid1.coords t 1).val] := (by decide +kernel : ∀ t : Fin grid1.N, _)
theorem at2_0 : ∀ t : Fin cfg2.N, win2_0.index t = ![(grid2.coords t 0).val, 0, 0] := (by decide +kernel : ∀ t : Fin grid2.N, _)
theorem at2_1 : ∀ t : Fin cfg2.N, win2_1.index t = ![(grid2.coords t 0).val, (grid2.coords t 1).val, 0] := (by decide +kernel : ∀ t : Fin grid2.N, _)

variable (hX : (V c main_arg0 : S4x4096x256.Idx → EReal) = X)
  (hC : ∀ b n, (V c main_v2 : S4x4096x1.Idx → EReal) (ix3 b n 0) = N b n)
  (hR : ∀ b n, (V c main_v3 : S4x1x4096.Idx → EReal) (ix3 b 0 n) = N b n)

include hX hC hR in
/-- A row of point `t`'s block holds its row's density. -/
theorem block_den (t : Fin cfg0.N) (r : Fin 256) :
    dens (dist2 (iblk0 V c 0 t) (iblk0 V c 1 t) (iblk0 V c 2 t) (iblk0 V c 3 t)) (ix2 r 0) = den X N (KVal.bat0 t) (KVal.row0 t r) := by
  refine dens_dist2 X N _ _ _ _ r _ _ (fun k => ?_) (fun m k => ?_) ?_ (fun m => ?_)
  · subst hX
    show (V c main_arg0 : S4x4096x256.Idx → EReal) (((cfg0.win 0).blk t).view.emb (ix3 0 r k)) = _
    refine congrArg (V c main_arg0 : S4x4096x256.Idx → EReal) ?_
    blk_ext [at0_0 t]
  · subst hX
    show (V c main_arg0 : S4x4096x256.Idx → EReal) (((cfg0.win 1).blk t).view.emb (ix3 0 m k)) = _
    refine congrArg (V c main_arg0 : S4x4096x256.Idx → EReal) ?_
    blk_ext [at0_1 t]
  · rw [← hC]
    show (V c main_v2 : S4x4096x1.Idx → EReal) (((cfg0.win 2).blk t).view.emb (ix3 0 r 0)) = _
    refine congrArg (V c main_v2 : S4x4096x1.Idx → EReal) ?_
    blk_ext [at0_2 t]
  · rw [← hR]
    show (V c main_v3 : S4x1x4096.Idx → EReal) (((cfg0.win 3).blk t).view.emb (ix3 0 0 m)) = _
    refine congrArg (V c main_v3 : S4x1x4096.Idx → EReal) ?_
    blk_ext [at0_3 t]

include hX hC hR in
theorem arr_row : (dat0 V c).arrAt 4 cfg0.N = fun j : S4x1x4096.Idx => den X N (j 0) (j 2) := by
  refine (dat0 V c).arrAt_eq_of_covers 4 _ (by decide +kernel) fun t hf y => ?_
  blk_simp
  rw [after0_4, row_eq]
  obtain ⟨y0, y1, r, rfl⟩ : ∃ y0 y1 r, y = (ix3 y0 y1 r : S1x1x256.Idx) := ⟨_, _, _, eq_ix3 _⟩
  obtain rfl : y0 = 0 := Subsingleton.elim _ _
  obtain rfl : y1 = 0 := Subsingleton.elim _ _
  refine (KVal.outRow_apply _ _ _ _ r).trans ((block_den V c X N hX hC hR t r).trans ?_)
  refine congrArg₂ (den X N) (Fin.ext ?_) (Fin.ext ?_)
  · blk_simp [at0_4 t]; try rfl
  · blk_simp [at0_4 t]; try rfl

include hX hC hR in
theorem arr_col : (dat0 V c).arrAt 5 cfg0.N = fun j : S4x4096x1.Idx => den X N (j 0) (j 1) := by
  refine (dat0 V c).arrAt_eq_of_covers 5 _ (by decide +kernel) fun t hf y => ?_
  blk_simp
  rw [after0_5, col_eq]
  obtain ⟨y0, r, y1, rfl⟩ : ∃ y0 r y1, y = (ix3 y0 r y1 : S1x256x1.Idx) := ⟨_, _, _, eq_ix3 _⟩
  obtain rfl : y0 = 0 := Subsingleton.elim _ _
  obtain rfl : y1 = 0 := Subsingleton.elim _ _
  refine (KVal.outCol_apply _ _ _ _ r).trans ((block_den V c X N hX hC hR t r).trans ?_)
  refine congrArg₂ (den X N) (Fin.ext ?_) (Fin.ext ?_)
  · blk_simp [at0_5 t]; try rfl
  · blk_simp [at0_5 t]; try rfl

variable (Y : Fin 4 → Fin 4096 → EReal)

theorem arr_rank (h0 : (V c main_v4_1 : S4x4096x1.Idx → EReal) = fun j => Y (j 0) (j 1))
    (h1 : (V c main_v4_0 : S4x1x4096.Idx → EReal) = fun j => Y (j 0) (j 2)) :
    (dat1 V c).arrAt 2 cfg1.N = fun j : S4x1x4096.Idx => BitVec.ofNat 32 (rank (Y (j 0)) (j 2)) := by
  refine (dat1 V c).arrAt_eq_of_covers 2 _ (by decide +kernel) fun t hf y => ?_
  blk_simp
  rw [after1_2, rank_eq, KVal.outRank_eq]
  obtain ⟨y0, y1, r, rfl⟩ : ∃ y0 y1 r, y = (ix3 y0 y1 r : S1x1x512.Idx) := ⟨_, _, _, eq_ix3 _⟩
  obtain rfl : y0 = 0 := Subsingleton.elim _ _
  obtain rfl : y1 = 0 := Subsingleton.elim _ _
  have hb : (grid1.coords t 0).val < 4 := (grid1.coords t 0).isLt
  have ha : (grid1.coords t 1).val < 8 := (grid1.coords t 1).isLt
  refine (rankBlock_apply _ ha _ _ (Y ⟨_, hb⟩) (fun k => ?_) r ⟨(grid1.coords t 1).val * 512 + r.val, by omega⟩ rfl ?_).trans ?_
  · show (V c main_v4_0 : S4x1x4096.Idx → EReal) (((cfg1.win 1).blk t).view.emb (ix3 0 0 k)) = _
    rw [h1]
    refine congrArg₂ Y (Fin.ext ?_) (Fin.ext ?_)
    · blk_simp [at1_1 t]; try rfl
    · blk_simp [at1_1 t]; try rfl
  · show (V c main_v4_1 : S4x4096x1.Idx → EReal) (((cfg1.win 0).blk t).view.emb (ix3 0 r 0)) = _
    rw [h0]
    refine congrArg₂ Y (Fin.ext ?_) (Fin.ext ?_)
    · blk_simp [at1_0 t]; try rfl
    · blk_simp [at1_0 t]; try rfl
  · refine congrArg₂ (fun (b : Fin 4) (n : Fin 4096) => BitVec.ofNat 32 (rank (Y b) n)) (Fin.ext ?_) (Fin.ext ?_)
    · blk_simp [at1_2 t]; try rfl
    · blk_simp [at1_2 t]; try rfl

theorem arr_pick (h0 : (V c main_v5 : S4x1x4096.Idx → BitVec 32) = fun j => BitVec.ofNat 32 (rank (Y (j 0)) (j 2))) :
    (dat2 V c).arrAt 1 cfg2.N = fun j : S4x1024x1.Idx =>
      KVal.pickAt Y (j 0) (Fin.castLE (n := 1024) (m := 4096) (by decide) (j 1)) := by
  refine (dat2 V c).arrAt_eq_of_covers 1 _ (by decide +kernel) fun t hf y => ?_
  blk_simp
  rw [after2_1, pick_eq, KVal.outPick_eq]
  obtain ⟨y0, r, y1, rfl⟩ : ∃ y0 r y1, y = (ix3 y0 r y1 : S1x256x1.Idx) := ⟨_, _, _, eq_ix3 _⟩
  obtain rfl : y0 = 0 := Subsingleton.elim _ _
  obtain rfl : y1 = 0 := Subsingleton.elim _ _
  have ha : (grid2.coords t 0).val < 4 := (grid2.coords t 0).isLt
  have hb : (grid2.coords t 1).val < 4 := (grid2.coords t 1).isLt
  refine (pickBlock_apply _ _ (by omega) _ (Y ⟨_, ha⟩) (fun k => ?_) r ⟨(grid2.coords t 1).val * 256 + r.val, by omega⟩ rfl).trans ?_
  · show (V c main_v5 : S4x1x4096.Idx → BitVec 32) (((cfg2.win 0).blk t).view.emb (ix3 0 0 k)) = _
    rw [h0]
    refine congrArg₂ (fun (b : Fin 4) (n : Fin 4096) => BitVec.ofNat 32 (rank (Y b) n)) (Fin.ext ?_) (Fin.ext ?_)
    · blk_simp [at2_0 t]; try rfl
    · blk_simp [at2_0 t]; try rfl
  · change KVal.pickAt Y _ _ = _
    refine congrArg₂ (KVal.pickAt Y) (Fin.ext ?_) (Fin.ext ?_)
    · blk_simp [at2_1 t]; try rfl
    · show _ = (((cfg2.win 1).blk t).view.emb (ix3 0 r 0) 1).val
      blk_simp [at2_1 t]; try rfl

end Arrays

/-! ## The result -/

variable (m : (ℓ : Loc nD τ sig) → Buf (Elt Ideal) ℓ) (ρ : Dev nD → PrngReg)

/-- The features at launch, their squared norms and the densities. -/
abbrev X (d : Dev nD) : FVec Ideal S4x4096x256 .f32 := m ((d.tc : Thread nD τ).loc main_arg0)
abbrev Y (d : Dev nD) : Fin 4 → Fin 4096 → EReal := den (X m d) (KValue.norms (X m d))

theorem W1_v2 (d : Dev nD) (b : Fin 4) (n : Fin 4096) :
    (W1 m ρ d (Proc.devRef .tc main_v2) : S4x4096x1.Idx → EReal) (ix3 b n 0) = KValue.norms (X m d) b n := by
  have e : W1 m ρ d (Proc.devRef .tc main_v2) = shapeCast S4x4096x1 (Host.reduceAdd (mulf (X m d) (X m d)) (constant S_ .f32 0x00000000#32)
      reducesTo_S4x4096x256_S4x4096_d2 h_S_ : FVec Ideal S4x4096 .f32) shapeCasts_S4x4096_S4x4096x1 := by
    unfold W1
    after_results
    rfl
  rw [e]
  exact shapeCast_apply _ _ _ _ (by rw [Shape.rowMajor_val_two, Shape.rowMajor_val_three]; show b.val * 4096 + n.val = (b.val * 4096 + n.val) * 1 + 0; omega)

theorem W1_v3 (d : Dev nD) (b : Fin 4) (n : Fin 4096) :
    (W1 m ρ d (Proc.devRef .tc main_v3) : S4x1x4096.Idx → EReal) (ix3 b 0 n) = KValue.norms (X m d) b n := by
  have e : W1 m ρ d (Proc.devRef .tc main_v3) = shapeCast S4x1x4096 (Host.reduceAdd (mulf (X m d) (X m d)) (constant S_ .f32 0x00000000#32)
      reducesTo_S4x4096x256_S4x4096_d2 h_S_ : FVec Ideal S4x4096 .f32) shapeCasts_S4x4096_S4x1x4096 := by
    unfold W1
    after_results
    rfl
  rw [e]
  exact shapeCast_apply _ _ _ _ (by rw [Shape.rowMajor_val_two, Shape.rowMajor_val_three]; show b.val * 4096 + n.val = (b.val * 1 + 0) * 4096 + n.val; omega)

theorem W2_v4_0 (d : Dev nD) : (W2 m ρ d (Proc.devRef .tc main_v4_0) : S4x1x4096.Idx → EReal) = fun j => Y m d (j 0) (j 2) :=
  (W2_arr m ρ d 4).trans (arr_row (V1 m ρ) d (X m d) _ (W1_args m ρ d main_arg0 (by decide)) (W1_v2 m ρ d) (W1_v3 m ρ d))

theorem W2_v4_1 (d : Dev nD) : (W2 m ρ d (Proc.devRef .tc main_v4_1) : S4x4096x1.Idx → EReal) = fun j => Y m d (j 0) (j 1) :=
  (W2_arr m ρ d 5).trans (arr_col (V1 m ρ) d (X m d) _ (W1_args m ρ d main_arg0 (by decide)) (W1_v2 m ρ d) (W1_v3 m ρ d))

theorem W3_v5 (d : Dev nD) : (W3 m ρ d (Proc.devRef .tc main_v5) : S4x1x4096.Idx → BitVec 32)
    = fun j => BitVec.ofNat 32 (rank (Y m d (j 0)) (j 2)) :=
  (W3_arr m ρ d 2).trans (arr_rank (V2 m ρ) d (Y m d) (W2_v4_1 m ρ d) (W2_v4_0 m ρ d))

theorem W4_v6 (d : Dev nD) : (W4 m ρ d (Proc.devRef .tc main_v6) : S4x1024x1.Idx → BitVec 32)
    = fun j => KVal.pickAt (Y m d) (j 0) (Fin.castLE (n := 1024) (m := 4096) (by decide) (j 1)) :=
  (W4_arr m ρ d 1).trans (arr_pick (V3 m ρ) d (Y m d) (W3_v5 m ρ d))

end Cert.Proof.SelectVal

end
-- ==== Proof.SelectClaims.lean ====
/-
  The claims about the selection: it runs at the machine's floats and at the ideal ones, leaves its argument alone, and at
  the ideal ones leaves the indices its reference leaves.
-/
module

public import proofs.«01_k».proof.Proof.SelectVal
public import proofs.«01_k».proof.Proof.RefMath
public import proofs.«01_k».proof.Proof.Gen.Select.Frame
public import proofs.«01_k».proof.Proof.Gen.SelectReferenceIdeal.Run

@[expose] public section

set_option maxRecDepth 16384

noncomputable section

namespace Cert.Proof.SelectClaims

open Idealize.ShloMosaic hiding ix1 ix2 ix3 eq_ix1 eq_ix2 eq_ix3
open Idealize.SL.Sem Cert.Proof.SelMath

/-! ## The run, to the contents of the last boundary -/

section Run

open Cert.SelectIdeal Cert.SelectIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- The pipelines' rounds at launch. -/
abbrev u₀ := initOf (Pipeline.cells cfgs cellOf_inj) (Pipeline.launchToks cfgs cellOf_inj)

theorem launch_rounds : (ownU u₀ : sProp 𝕄) ⊢ iprop(|={Set.univ}=> (BI.own (emb₁ u₀) ∗ bigSep Finset.univ (fun _ : Dev nD => (BI.emp : sProp 𝕄)))) := by
  rw [BI.bigSep_emp_const]
  iintro Hu
  imodintro
  isplitl [Hu]
  · iapply (show (ownU u₀ : sProp 𝕄) ⊢ BI.own (emb₁ u₀) from .rfl)
    iexact Hu
  iempintro

set_option backward.isDefEq.respectTransparency.types false in
/-- Every unscoped buffer ends at the contents of the boundary after the third call. -/
theorem run_main : θ_run (defs (F := Ideal)) (onTc (τ := τ) (main (F := Ideal))) ⟨m, fun _ => 0, ρ⟩ (fun r =>
    ∀ (c : Dev nD), ∀ b ∈ Pipeline.ucRefs τ sig, r.2.mem (c, b) = W4 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := u₀) (hu₀ := launch_rounds)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hrng, -⟩, -⟩
      imodintro
      isplitl [Hbufs]; · iexact Hbufs
      isplitl [Hrng]
      · iexists _; iexact Hrng
      · iexists ∅; iexact Howes)
    (QY := fun c s => ∀ b ∈ Pipeline.ucRefs τ sig, s.mem (c, b) = W4 m ρ c b)
    (hfin := fun c s => by
      iintro ⟨⟨Hbufs, -⟩, Hstate⟩
      imodintro
      unfold StableHlo.held
      iapply (pointsTo_read_all (Pipeline.ucRefs τ sig) (fun b => (((c : Thread nD τ)).1, b)) (W4 m ρ c) s)
      isplitl [Hbufs]
      · iexact Hbufs
      · iexact Hstate)
    (hQ := fun _ h _ => h)

end Run

/-! ## The frames -/

theorem quiescent_select : Cert.quiescent_Select := fun m ρ _ => Cert.Select.Gen.frame m ρ

theorem quiescent_selectIdeal : Cert.quiescent_SelectIdeal := fun m ρ _ => Cert.SelectIdeal.Gen.frame m ρ

theorem quiescent_selectReferenceIdeal : Cert.quiescent_SelectReferenceIdeal := fun m ρ _ =>
  (θ_run Cert.SelectReferenceIdeal.defs _ _).mono (fun r h => ⟨fun c => (h c).2, sem_eq_zero_of_no_sems (by decide) r.2⟩)
    (Cert.SelectReferenceIdeal.Value.run m ρ)

/-! ## The reference's indices -/

section Reference

open Cert.SelectReferenceIdeal Cert.SelectReferenceIdeal.Gen Cert.Proof.RefMath Idealize.ShloMosaic.ValueIdx

/-- The squared norms, the densities, and the rows in their order. -/
abbrev nrm (X : FVec Ideal S4x4096x256 .f32) : FVec Ideal S4x4096 .f32 :=
  Host.reduceAdd (mulf X X) (constant S_ .f32 0x00000000#32) reducesTo_S4x4096x256_S4x4096_d2 h_S_
abbrev dens (X : FVec Ideal S4x4096x256 .f32) : FVec Ideal S4x4096 .f32 :=
  rDen (rSq X (nrm X) dot_S4x4096x256_S4x4096x256_S4x4096x4096_2_2_1_1_0_0 bcast_S4x4096_S4x4096x1_0_1 bcast_S4x4096_S4x1x4096_0_2
      bcast_S4x4096x1_S4x4096x4096_0_1_2 bcast_S4x1x4096_S4x4096x4096_0_1_2 bcast_S_S4x4096x4096)
    sliceFits_S4x4096x4096_S4x4096x8 reducesTo_S4x4096x8_S4x4096_d2 h_S_ bcast_S_S4x4096
abbrev order (X : FVec Ideal S4x4096x256 .f32) : IVec S4x1024 32 :=
  (Host.topK S4x1024 1 (FloatOps.cmpfTotal .gt) (dens X) sliceFits_S4x4096_S4x1024).2

theorem order_apply (X : FVec Ideal S4x4096x256 .f32) (b : Fin 4) (r : Fin 1024) :
    order X (ix2 b r) = BitVec.ofNat 32 (sel X (fun b n => nrm X (ix2 b n)) b r).val :=
  rSel_apply X _ _ (fun b n => rDen_apply X _ _ (fun b n k => rSq_apply X (nrm X) dot_S4x4096x256_S4x4096x256_S4x4096x4096_2_2_1_1_0_0_wf
    _ _ _ _ _ b n k) _ _ _ _ b n) _ b r

/-- Each batch's first row, counted over all the batches. -/
abbrev first : IVec S4 32 := muli (iotaInDim S4 32 0) (broadcastInDim S4 ![] bcast_S_S4 (constantI S_ 32 4096#32))

abbrev counted (X : FVec Ideal S4x4096x256 .f32) : IVec S4x1024x1 32 :=
  broadcastInDim S4x1024x1 ![0, 1] bcast_S4x1024_S4x1024x1_0_1
    (addi (order X) (broadcastInDim S4x1024 ![0, 1] bcast_S4x1_S4x1024_0_1 (broadcastInDim S4x1 ![0] bcast_S4_S4x1_0 first)))

theorem spread_apply (f : IVec S4 32) (b : Fin 4) (r : Fin 1024) :
    (broadcastInDim S4x1024 ![0, 1] bcast_S4x1_S4x1024_0_1 (broadcastInDim S4x1 ![0] bcast_S4_S4x1_0 f)) (ix2 b r) = f (ix1 b) := by
  refine (broadcastInDim_apply _ _ _ _ (ix2 b (0 : Fin 1)) fun a => by match a with | ⟨0, _⟩ => rfl | ⟨1, _⟩ => rfl).trans ?_
  exact broadcastInDim_apply _ _ _ _ (ix1 b) fun a => by match a with | ⟨0, _⟩ => rfl

theorem first_apply (b : Fin 4) : first (ix1 b) = BitVec.ofNat 32 (b.val * 4096) := by
  rw [BitVec.ofNat_mul]; rfl

theorem counted_apply (X : FVec Ideal S4x4096x256 .f32) (b : Fin 4) (r : Fin 1024) :
    counted X (ix3 b r (0 : Fin 1)) = BitVec.ofNat 32 (b.val * 4096 + (sel X (fun b n => nrm X (ix2 b n)) b r).val) := by
  refine (broadcastInDim_apply _ _ _ _ (ix2 b r) fun a => by match a with | ⟨0, _⟩ => rfl | ⟨1, _⟩ => rfl).trans ?_
  refine (congrArg₂ (fun x y : BitVec 32 => x + y) (order_apply X b r) ((spread_apply first b r).trans (first_apply b))).trans ?_
  rw [Nat.add_comm, BitVec.ofNat_add]

end Reference

/-- Kernel and reference list the same rows. -/
theorem indices_eq (m : (ℓ : Loc Cert.SelectIdeal.nD Cert.SelectIdeal.τ Cert.SelectIdeal.sig) → Buf (Elt Ideal) ℓ) (ρ : Dev Cert.SelectIdeal.nD → PrngReg)
    (c : Dev Cert.SelectIdeal.nD) : counted (SelectVal.X m c) = Cert.SelectIdeal.Gen.W4 m ρ c (Proc.devRef .tc Cert.SelectIdeal.main_v6) := by
  refine Eq.trans ?_ (SelectVal.W4_v6 m ρ c).symm
  funext j
  obtain ⟨b, r, z, rfl⟩ : ∃ b r z, j = (ValueIdx.ix3 b r z : Cert.SelectIdeal.S4x1024x1.Idx) := ⟨_, _, _, ValueIdx.eq_ix3 j⟩
  obtain rfl : z = 0 := Subsingleton.elim _ _
  exact (counted_apply (SelectVal.X m c) b r).trans rfl

theorem algebraic : Cert.algebraic_SelectIdeal_SelectReferenceIdeal := fun m ρ m' ρ' _ ha => by
  refine ⟨fun c => counted (SelectVal.X m c), (θ_run _ _ _).mono (fun r h c => ?_) (run_main m ρ),
    (θ_run _ _ _).mono (fun r h c => ?_) (Cert.SelectReferenceIdeal.Value.run m' ρ')⟩
  · exact ⟨(h c _ (Cert.SelectIdeal.Gen.mem_uc Cert.SelectIdeal.main_v6 (by decide))).trans (indices_eq m ρ c).symm,
      (h c _ (Cert.SelectIdeal.Gen.mem_uc Cert.SelectIdeal.main_arg0 (by decide))).trans (Cert.SelectIdeal.Gen.W4_main_arg0 m ρ c)⟩
  · exact ⟨(h c).1.trans (congrArg counted (ha c)), (h c).2⟩

end Cert.Proof.SelectClaims

end
-- ==== Proof.lean ====
/- The claims of `proofs.«01_k».proof.Defs`, assembled from the modules under `Proof/`. -/
module

public import proofs.«01_k».proof.Defs
public import proofs.«01_k».proof.Proof.Gen.Gather
public import proofs.«01_k».proof.Proof.Gen.GatherIdeal
public import proofs.«01_k».proof.Proof.Gen.GatherReferenceIdeal
public import proofs.«01_k».proof.Proof.Gen.GatherReferenceIdeal.Run
public import proofs.«01_k».proof.Proof.Gen.Pre_inds_in_rows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Gen.SelectReferenceIdeal
public import proofs.«01_k».proof.Proof.Gen.SelectReferenceIdeal.Run
public import proofs.«01_k».proof.Proof.GatherClaims
public import proofs.«01_k».proof.Proof.WholeClaims
public import proofs.«01_k».proof.Proof.SelectClaims

@[expose] public section

noncomputable section

namespace Cert.Proof

theorem claim : Cert.Claim :=
  ⟨Cert.KernelIdeal.Gen.facts, Cert.ReferenceIdeal.Gen.facts, Cert.Gather.Gen.facts, Cert.GatherIdeal.Gen.facts, Cert.GatherReferenceIdeal.Gen.facts,
    Cert.Select.Gen.facts, Cert.SelectIdeal.Gen.facts, Cert.SelectReferenceIdeal.Gen.facts, Cert.Pre_inds_in_rows.Gen.facts,
    WholeClaims.quiescent_kernelIdeal, WholeClaims.quiescent_referenceIdeal,
    GatherClaims.quiescent_gather, GatherClaims.quiescent_gatherIdeal, GatherClaims.quiescent_gatherReferenceIdeal,
    SelectClaims.quiescent_select, SelectClaims.quiescent_selectIdeal, SelectClaims.quiescent_selectReferenceIdeal,
    WholeClaims.algebraic, trivial, GatherClaims.algebraic_gather, trivial, SelectClaims.algebraic⟩

end Cert.Proof

end
